-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_off_edges [hPre_off_edges : Cert.Pre_off_edges.Facts] (m : (ℓ : Loc Cert.KernelIdeal.nD Cert.KernelIdeal.τ Cert.KernelIdeal.sig) → Buf (Elt Ideal) ℓ) : Prop :=
  ∀ c : Dev Cert.KernelIdeal.nD,
    (Cert.Pre_off_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_off_edges [hPre_off_edges : Cert.Pre_off_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_off_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_off_edges [hKernelIdeal : Cert.KernelIdeal.Facts] [hPre_off_edges : Cert.Pre_off_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_off_edges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_off_edges [hReferenceIdeal : Cert.ReferenceIdeal.Facts] [hPre_off_edges : Cert.Pre_off_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_off_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x358637BD#32 ((1 / 1000000 : ℝ) : EReal)

def algebraic_KernelIdeal_ReferenceIdeal_pre_off_edges [hKernelIdeal : Cert.KernelIdeal.Facts] [hReferenceIdeal : Cert.ReferenceIdeal.Facts] [hPre_off_edges : Cert.Pre_off_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_off_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v420) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_off_edges : Cert.Pre_off_edges.Facts),
    quiescent_Kernel (hKernel := hKernel)
    ∧ quiescent_KernelIdeal (hKernelIdeal := hKernelIdeal)
    ∧ quiescent_KernelIdeal_pre_off_edges (hKernelIdeal := hKernelIdeal) (hPre_off_edges := hPre_off_edges)
    ∧ quiescent_ReferenceIdeal (hReferenceIdeal := hReferenceIdeal)
    ∧ quiescent_ReferenceIdeal_pre_off_edges (hReferenceIdeal := hReferenceIdeal) (hPre_off_edges := hPre_off_edges)
    ∧ preserves_Kernel_KernelIdeal
    ∧ algebraic_KernelIdeal_ReferenceIdeal_pre_off_edges (hKernelIdeal := hKernelIdeal) (hReferenceIdeal := hReferenceIdeal) (hPre_off_edges := hPre_off_edges)
-- ==== Pre_off_edges.lean ====
abbrev S1000000x10 : Shape := ⟨2, ![1000000, 10]⟩
abbrev S_ : Shape := ⟨0, ![]⟩
abbrev S1000000 : Shape := ⟨1, ![1000000]⟩

class Facts : Prop where
  bcast_S_S1000000x10 : S_.BroadcastsInDim S1000000x10 (![] : Fin 0 → Fin S1000000x10.rank)
  reducesTo_S1000000x10_S1000000_d1 : S1000000x10.ReducesTo [1] S1000000
  h_S_ : 0 < S_.numel
  bcast_S_S1000000 : S_.BroadcastsInDim S1000000 (![] : Fin 0 → Fin S1000000.rank)

variable [Facts]

def fn {F : FTy → Type} [FloatOps F] (main_arg0 : FVec F S1000000x10 .f32) (main_arg1 : FVec F S1000000x10 .f32) : IVec S1000000 1 :=
  let main_v0 : FVec F S1000000x10 .f32 := Host.negf main_arg0
  let main_v1 : FVec F S1000000x10 .f32 := Host.exp main_v0
  let main_cst : FVec F S_ .f32 := constant S_ .f32 0x3F800000#32
  let main_v2 : FVec F S1000000x10 .f32 := broadcastInDim S1000000x10 ![] bcast_S_S1000000x10 main_cst
  let main_v3 : FVec F S1000000x10 .f32 := addf main_v2 main_v1
  let main_cst_0 : FVec F S_ .f32 := constant S_ .f32 0x3F800000#32
  let main_v4 : FVec F S1000000x10 .f32 := broadcastInDim S1000000x10 ![] bcast_S_S1000000x10 main_cst_0
  let main_v5 : FVec F S1000000x10 .f32 := Host.divf main_v4 main_v3
  let main_cst_1 : FVec F S_ .f32 := constant S_ .f32 0xFF800000#32
  let main_v6 : FVec F S1000000 .f32 := (fun x v => Host.reduce FloatOps.maximumf x v reducesTo_S1000000x10_S1000000_d1 h_S_) main_v5 main_cst_1
  let main_cst_2 : FVec F S_ .f32 := constant S_ .f32 0x41700000#32
  let main_v7 : FVec F S1000000 .f32 := broadcastInDim S1000000 ![] bcast_S_S1000000 main_cst_2
  let main_v8 : FVec F S1000000 .f32 := mulf main_v6 main_v7
  let main_cst_3 : FVec F S_ .f32 := constant S_ .f32 0x00000000#32
  let main_v9 : FVec F S1000000 .f32 := broadcastInDim S1000000 ![] bcast_S_S1000000 main_cst_3
  let main_v10 : IVec S1000000 1 := cmpf .ole main_v8 main_v9
  let main_cst_4 : FVec F S_ .f32 := constant S_ .f32 0x41700000#32
  let main_v11 : FVec F S1000000 .f32 := broadcastInDim S1000000 ![] bcast_S_S1000000 main_cst_4
  let main_v12 : IVec S1000000 1 := cmpf .oge main_v8 main_v11
  let main_v13 : IVec S1000000 1 := ori main_v10 main_v12
  let main_v14 : FVec F S1000000 .f32 := Host.floor main_v8
  let main_v15 : IVec S1000000 1 := cmpf .une main_v14 main_v8
  let main_v16 : IVec S1000000 1 := ori main_v13 main_v15
  main_v16
-- ==== Kernel.lean ====
abbrev S1000000x10 : Shape := ⟨2, ![1000000, 10]⟩
abbrev S10000000 : Shape := ⟨1, ![10000000]⟩
abbrev S32x48x16 : Shape := ⟨3, ![32, 48, 16]⟩
abbrev S10080 : Shape := ⟨1, ![10080]⟩
abbrev S48x16 : Shape := ⟨2, ![48, 16]⟩
abbrev S16 : Shape := ⟨1, ![16]⟩
abbrev S1x16 : Shape := ⟨2, ![1, 16]⟩
abbrev S_ : Shape := ⟨0, ![]⟩
abbrev S10000 : Shape := ⟨1, ![10000]⟩
abbrev S1x48x16 : Shape := ⟨3, ![1, 48, 16]⟩
abbrev S1x1 : Shape := ⟨2, ![1, 1]⟩
abbrev S48 : Shape := ⟨1, ![48]⟩
abbrev S1 : Shape := ⟨1, ![1]⟩

abbrev nBuf : Table → Nat
  | .hbm => 7
  | .local .tc .vmem => 1
  | .local .tc .smem => 1
  | .local .scVector .vmem => 3
  | _ => 0

abbrev bufTy : (tb : Table) → Fin (nBuf tb) → BufTy
  | .hbm, ⟨0, _⟩ => ⟨S1000000x10, .f32⟩
  | .hbm, ⟨1, _⟩ => ⟨S1000000x10, .f32⟩
  | .hbm, ⟨2, _⟩ => ⟨S10000000, .f32⟩
  | .hbm, ⟨3, _⟩ => ⟨S10000000, .f32⟩
  | .hbm, ⟨4, _⟩ => ⟨S32x48x16, .f32⟩
  | .hbm, ⟨5, _⟩ => ⟨S1x1, .f32⟩
  | .hbm, ⟨6, _⟩ => ⟨S1, .f32⟩
  | .local .tc .vmem, ⟨0, _⟩ => ⟨S32x48x16, .f32⟩
  | .local .tc .smem, ⟨0, _⟩ => ⟨S1x1, .f32⟩
  | .local .scVector .vmem, ⟨0, _⟩ => ⟨S10080, .f32⟩
  | .local .scVector .vmem, ⟨1, _⟩ => ⟨S10080, .f32⟩
  | .local .scVector .vmem, ⟨2, _⟩ => ⟨S48x16, .f32⟩
  | _, _ => ⟨S1000000x10, .f32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_60 : BitVec 32 := 0#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v104 : BitVec 32 := Scalar.subi c1000_i32 v1
  let c32_i32_51 : BitVec 32 := 32#32
  let v105 : BitVec 32 := Scalar.addi v104 c32_i32_51
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c32_i32_53 : BitVec 32 := 32#32
  let c0_i32_56 : BitVec 32 := 0#32
  let v113 : BitVec 1 := Scalar.cmpi .sgt c32_i32_53 c0_i32_56
  let v114 : BitVec 32 := Scalar.extui v113
  let c0_i32_57 : BitVec 32 := 0#32
  let v115 : BitVec 1 := Scalar.cmpi .slt c32_i32_53 c0_i32_57
  let v116 : BitVec 32 := Scalar.extui v115
  let v117 : BitVec 32 := Scalar.subi v114 v116
  let v118 : BitVec 1 := Scalar.cmpi .ne v112 v117
  let v119 : BitVec 32 := Scalar.remsi v106 c32_i32_53
  let c0_i32_58 : BitVec 32 := 0#32
  let v120 : BitVec 1 := Scalar.cmpi .ne v119 c0_i32_58
  let v121 : BitVec 1 := Scalar.andi v118 v120
  let v107 : BitVec 32 := Scalar.divsi v106 c32_i32_53
  let c1_i32_59 : BitVec 32 := 1#32
  let v122 : BitVec 32 := Scalar.subi v107 c1_i32_59
  let v123 : BitVec 32 := Scalar.select v121 v122 v107
  let v124 : BitVec 32 := Scalar.subi v123 c0_i32_60
  let c1_i32_62 : BitVec 32 := 1#32
  let v126 : BitVec 32 := Scalar.divsi v124 c1_i32_62
  let v127 : BitVec 32 := Scalar.muli v126 c1_i32_62
  let v128 : BitVec 32 := Scalar.addi c0_i32_60 v127
  let c1_i32_63 : BitVec 32 := 1#32
  ⟨c0_i32_60, v128, c1_i32_63⟩
def k0_mult1 (i : grid0.Coords) (k0_t1 : Fin (k0_t1_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_60 : BitVec 32 := 0#32
  let c1_i32_63 : BitVec 32 := 1#32
  let arg8 : BitVec 32 := Scf.iv c0_i32_60 c1_i32_63 k0_t1
  let c32_i32_65 : BitVec 32 := 32#32
  let v131 : BitVec 32 := Scalar.muli arg8 c32_i32_65
  let v132 : BitVec 32 := Scalar.addi v1 v131
  let c10000_i32 : BitVec 32 := 10000#32
  let v133 : BitVec 32 := Scalar.muli v132 c10000_i32
  v133
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_60 : BitVec 32 := 0#32
  let c1_i32_63 : BitVec 32 := 1#32
  let arg8 : BitVec 32 := Scf.iv c0_i32_60 c1_i32_63 k0_t1
  let c32_i32_65 : BitVec 32 := 32#32
  let v131 : BitVec 32 := Scalar.muli arg8 c32_i32_65
  let v132 : BitVec 32 := Scalar.addi v1 v131
  let c10000_i32 : BitVec 32 := 10000#32
  let v133 : BitVec 32 := Scalar.muli v132 c10000_i32
  let v134 : BitVec 32 := v133
  ![v134.toNat]
@[reducible] def k0_t2_loop : Scf.Loop 32 :=
  let c0_i32_67 : BitVec 32 := 0#32
  let c63_i32 : BitVec 32 := 63#32
  let v135 : BitVec 32 := Scalar.addi c0_i32_67 c63_i32
  let c1_i32_68 : BitVec 32 := 1#32
  ⟨c0_i32_67, v135, c1_i32_68⟩

def k0_chk2 (v147 : IVec S16 32) : Prop :=
  (∀ a x, ((![v147] : Fin 1 → IVec S16 32) a x).toNat < S10080.size a)
theorem k0_idx2_inb : ∀ (v147 : IVec S16 32) (k0_hw2 : k0_chk2 v147), ∀ a x, ((![v147] : Fin 1 → IVec S16 32) a x).toNat < S10080.size a := fun v147 k0_hw2 => k0_hw2

def k0_chk3 (v158 : IVec S16 32) : Prop :=
  (∀ a x, ((![v158] : Fin 1 → IVec S16 32) a x).toNat < S10080.size a)
theorem k0_idx3_inb : ∀ (v158 : IVec S16 32) (k0_hw3 : k0_chk3 v158), ∀ a x, ((![v158] : Fin 1 → IVec S16 32) a x).toNat < S10080.size a := fun v158 k0_hw3 => k0_hw3

def k0_chk4 (v169 : IVec S16 32) : Prop :=
  (∀ a x, ((![v169] : Fin 1 → IVec S16 32) a x).toNat < S10080.size a)
theorem k0_idx4_inb : ∀ (v169 : IVec S16 32) (k0_hw4 : k0_chk4 v169), ∀ a x, ((![v169] : Fin 1 → IVec S16 32) a x).toNat < S10080.size a := fun v169 k0_hw4 => k0_hw4

def k0_chk5 (v180 : IVec S16 32) : Prop :=
  (∀ a x, ((![v180] : Fin 1 → IVec S16 32) a x).toNat < S10080.size a)
theorem k0_idx5_inb : ∀ (v180 : IVec S16 32) (k0_hw5 : k0_chk5 v180), ∀ a x, ((![v180] : Fin 1 → IVec S16 32) a x).toNat < S10080.size a := fun v180 k0_hw5 => k0_hw5

def k0_chk6 (v191 : IVec S16 32) : Prop :=
  (∀ a x, ((![v191] : Fin 1 → IVec S16 32) a x).toNat < S10080.size a)
theorem k0_idx6_inb : ∀ (v191 : IVec S16 32) (k0_hw6 : k0_chk6 v191), ∀ a x, ((![v191] : Fin 1 → IVec S16 32) a x).toNat < S10080.size a := fun v191 k0_hw6 => k0_hw6

def k0_chk7 (v202 : IVec S16 32) : Prop :=
  (∀ a x, ((![v202] : Fin 1 → IVec S16 32) a x).toNat < S10080.size a)
theorem k0_idx7_inb : ∀ (v202 : IVec S16 32) (k0_hw7 : k0_chk7 v202), ∀ a x, ((![v202] : Fin 1 → IVec S16 32) a x).toNat < S10080.size a := fun v202 k0_hw7 => k0_hw7

def k0_chk8 (v213 : IVec S16 32) : Prop :=
  (∀ a x, ((![v213] : Fin 1 → IVec S16 32) a x).toNat < S10080.size a)
theorem k0_idx8_inb : ∀ (v213 : IVec S16 32) (k0_hw8 : k0_chk8 v213), ∀ a x, ((![v213] : Fin 1 → IVec S16 32) a x).toNat < S10080.size a := fun v213 k0_hw8 => k0_hw8

def k0_chk9 (v224 : IVec S16 32) : Prop :=
  (∀ a x, ((![v224] : Fin 1 → IVec S16 32) a x).toNat < S10080.size a)
theorem k0_idx9_inb : ∀ (v224 : IVec S16 32) (k0_hw9 : k0_chk9 v224), ∀ a x, ((![v224] : Fin 1 → IVec S16 32) a x).toNat < S10080.size a := fun v224 k0_hw9 => k0_hw9

def k0_chk10 (v235 : IVec S16 32) : Prop :=
  (∀ a x, ((![v235] : Fin 1 → IVec S16 32) a x).toNat < S10080.size a)
theorem k0_idx10_inb : ∀ (v235 : IVec S16 32) (k0_hw10 : k0_chk10 v235), ∀ a x, ((![v235] : Fin 1 → IVec S16 32) a x).toNat < S10080.size a := fun v235 k0_hw10 => k0_hw10

def k0_chk1 (v139 : IVec S16 32) : Prop :=
  (∀ a x, ((![v139] : Fin 1 → IVec S16 32) a x).toNat < S10080.size a) ∧
  (∀ a x, ((![v139] : Fin 1 → IVec S16 32) a x).toNat < S10080.size a)
theorem k0_idx1_inb : ∀ (v139 : IVec S16 32) (k0_hw1 : k0_chk1 v139), ∀ a x, ((![v139] : Fin 1 → IVec S16 32) a x).toNat < S10080.size a := fun v139 k0_hw1 => k0_hw1.1
theorem k0_idx11_inb : ∀ (v139 : IVec S16 32) (k0_hw1 : k0_chk1 v139), ∀ a x, ((![v139] : Fin 1 → IVec S16 32) a x).toNat < S10080.size a := fun v139 k0_hw1 => k0_hw1.2

def k0_chk11 (v252 : IVec S16 32) : Prop :=
  (∀ a x, ((![v252] : Fin 1 → IVec S16 32) a x).toNat < S10080.size a)
theorem k0_idx12_inb : ∀ (v252 : IVec S16 32) (k0_hw11 : k0_chk11 v252), ∀ a x, ((![v252] : Fin 1 → IVec S16 32) a x).toNat < S10080.size a := fun v252 k0_hw11 => k0_hw11

def k0_chk12 (v259 : IVec S16 32) : Prop :=
  (∀ a x, ((![v259] : Fin 1 → IVec S16 32) a x).toNat < S10080.size a)
theorem k0_idx13_inb : ∀ (v259 : IVec S16 32) (k0_hw12 : k0_chk12 v259), ∀ a x, ((![v259] : Fin 1 → IVec S16 32) a x).toNat < S10080.size a := fun v259 k0_hw12 => k0_hw12

def k0_chk13 (v266 : IVec S16 32) : Prop :=
  (∀ a x, ((![v266] : Fin 1 → IVec S16 32) a x).toNat < S10080.size a)
theorem k0_idx14_inb : ∀ (v266 : IVec S16 32) (k0_hw13 : k0_chk13 v266), ∀ a x, ((![v266] : Fin 1 → IVec S16 32) a x).toNat < S10080.size a := fun v266 k0_hw13 => k0_hw13

def k0_chk14 (v273 : IVec S16 32) : Prop :=
  (∀ a x, ((![v273] : Fin 1 → IVec S16 32) a x).toNat < S10080.size a)
theorem k0_idx15_inb : ∀ (v273 : IVec S16 32) (k0_hw14 : k0_chk14 v273), ∀ a x, ((![v273] : Fin 1 → IVec S16 32) a x).toNat < S10080.size a := fun v273 k0_hw14 => k0_hw14

def k0_chk15 (v280 : IVec S16 32) : Prop :=
  (∀ a x, ((![v280] : Fin 1 → IVec S16 32) a x).toNat < S10080.size a)
theorem k0_idx16_inb : ∀ (v280 : IVec S16 32) (k0_hw15 : k0_chk15 v280), ∀ a x, ((![v280] : Fin 1 → IVec S16 32) a x).toNat < S10080.size a := fun v280 k0_hw15 => k0_hw15

def k0_chk16 (v287 : IVec S16 32) : Prop :=
  (∀ a x, ((![v287] : Fin 1 → IVec S16 32) a x).toNat < S10080.size a)
theorem k0_idx17_inb : ∀ (v287 : IVec S16 32) (k0_hw16 : k0_chk16 v287), ∀ a x, ((![v287] : Fin 1 → IVec S16 32) a x).toNat < S10080.size a := fun v287 k0_hw16 => k0_hw16

def k0_chk17 (v294 : IVec S16 32) : Prop :=
  (∀ a x, ((![v294] : Fin 1 → IVec S16 32) a x).toNat < S10080.size a)
theorem k0_idx18_inb : ∀ (v294 : IVec S16 32) (k0_hw17 : k0_chk17 v294), ∀ a x, ((![v294] : Fin 1 → IVec S16 32) a x).toNat < S10080.size a := fun v294 k0_hw17 => k0_hw17

def k0_chk18 (v301 : IVec S16 32) : Prop :=
  (∀ a x, ((![v301] : Fin 1 → IVec S16 32) a x).toNat < S10080.size a)
theorem k0_idx19_inb : ∀ (v301 : IVec S16 32) (k0_hw18 : k0_chk18 v301), ∀ a x, ((![v301] : Fin 1 → IVec S16 32) a x).toNat < S10080.size a := fun v301 k0_hw18 => k0_hw18

def k0_chk19 (v308 : IVec S16 32) : Prop :=
  (∀ a x, ((![v308] : Fin 1 → IVec S16 32) a x).toNat < S10080.size a)
theorem k0_idx20_inb : ∀ (v308 : IVec S16 32) (k0_hw19 : k0_chk19 v308), ∀ a x, ((![v308] : Fin 1 → IVec S16 32) a x).toNat < S10080.size a := fun v308 k0_hw19 => k0_hw19

def k0_chk20 (v99 : IVec S16 32) (v328 : IVec S16 32) : Prop :=
  (∀ a x, ((![v328, v99] : Fin 2 → IVec S16 32) a x).toNat < S48x16.size a)
theorem k0_idx21_inb : ∀ (v99 : IVec S16 32) (v328 : IVec S16 32) (k0_hw20 : k0_chk20 v99 v328), ∀ a x, ((![v328, v99] : Fin 2 → IVec S16 32) a x).toNat < S48x16.size a := fun v99 v328 k0_hw20 => k0_hw20

def k0_chk21 (v99 : IVec S16 32) (v338 : IVec S16 32) : Prop :=
  (∀ a x, ((![v338, v99] : Fin 2 → IVec S16 32) a x).toNat < S48x16.size a)
theorem k0_idx22_inb : ∀ (v99 : IVec S16 32) (v338 : IVec S16 32) (k0_hw21 : k0_chk21 v99 v338), ∀ a x, ((![v338, v99] : Fin 2 → IVec S16 32) a x).toNat < S48x16.size a := fun v99 v338 k0_hw21 => k0_hw21

def k0_chk22 (v99 : IVec S16 32) (v340 : IVec S16 32) : Prop :=
  (∀ a x, ((![v340, v99] : Fin 2 → IVec S16 32) a x).toNat < S48x16.size a)
theorem k0_idx23_inb : ∀ (v99 : IVec S16 32) (v340 : IVec S16 32) (k0_hw22 : k0_chk22 v99 v340), ∀ a x, ((![v340, v99] : Fin 2 → IVec S16 32) a x).toNat < S48x16.size a := fun v99 v340 k0_hw22 => k0_hw22
@[reducible] def k0_t3_loop (i : grid0.Coords) : Scf.Loop 32 :=
  let c0_i32_60 : BitVec 32 := 0#32
  let c1000_i32 : BitVec 32 := 1000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v104 : BitVec 32 := Scalar.subi c1000_i32 v1
  let c32_i32_51 : BitVec 32 := 32#32
  let v105 : BitVec 32 := Scalar.addi v104 c32_i32_51
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c32_i32_53 : BitVec 32 := 32#32
  let c0_i32_56 : BitVec 32 := 0#32
  let v113 : BitVec 1 := Scalar.cmpi .sgt c32_i32_53 c0_i32_56
  let v114 : BitVec 32 := Scalar.extui v113
  let c0_i32_57 : BitVec 32 := 0#32
  let v115 : BitVec 1 := Scalar.cmpi .slt c32_i32_53 c0_i32_57
  let v116 : BitVec 32 := Scalar.extui v115
  let v117 : BitVec 32 := Scalar.subi v114 v116
  let v118 : BitVec 1 := Scalar.cmpi .ne v112 v117
  let v119 : BitVec 32 := Scalar.remsi v106 c32_i32_53
  let c0_i32_58 : BitVec 32 := 0#32
  let v120 : BitVec 1 := Scalar.cmpi .ne v119 c0_i32_58
  let v121 : BitVec 1 := Scalar.andi v118 v120
  let v107 : BitVec 32 := Scalar.divsi v106 c32_i32_53
  let c1_i32_59 : BitVec 32 := 1#32
  let v122 : BitVec 32 := Scalar.subi v107 c1_i32_59
  let v123 : BitVec 32 := Scalar.select v121 v122 v107
  let v124 : BitVec 32 := Scalar.subi v123 c0_i32_60
  let c1_i32_62 : BitVec 32 := 1#32
  let v126 : BitVec 32 := Scalar.divsi v124 c1_i32_62
  let v127 : BitVec 32 := Scalar.muli v126 c1_i32_62
  let v128 : BitVec 32 := Scalar.addi c0_i32_60 v127
  let v125 : BitVec 32 := Scalar.addi c0_i32_60 v124
  let c1_i32_64 : BitVec 32 := 1#32
  ⟨v128, v125, c1_i32_64⟩
def k0_mult2 (i : grid0.Coords) (k0_t3 : Fin (k0_t3_loop i).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_60 : BitVec 32 := 0#32
  let c1000_i32 : BitVec 32 := 1000#32
  let v104 : BitVec 32 := Scalar.subi c1000_i32 v1
  let c32_i32_51 : BitVec 32 := 32#32
  let v105 : BitVec 32 := Scalar.addi v104 c32_i32_51
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c32_i32_53 : BitVec 32 := 32#32
  let c0_i32_56 : BitVec 32 := 0#32
  let v113 : BitVec 1 := Scalar.cmpi .sgt c32_i32_53 c0_i32_56
  let v114 : BitVec 32 := Scalar.extui v113
  let c0_i32_57 : BitVec 32 := 0#32
  let v115 : BitVec 1 := Scalar.cmpi .slt c32_i32_53 c0_i32_57
  let v116 : BitVec 32 := Scalar.extui v115
  let v117 : BitVec 32 := Scalar.subi v114 v116
  let v118 : BitVec 1 := Scalar.cmpi .ne v112 v117
  let v119 : BitVec 32 := Scalar.remsi v106 c32_i32_53
  let c0_i32_58 : BitVec 32 := 0#32
  let v120 : BitVec 1 := Scalar.cmpi .ne v119 c0_i32_58
  let v121 : BitVec 1 := Scalar.andi v118 v120
  let v107 : BitVec 32 := Scalar.divsi v106 c32_i32_53
  let c1_i32_59 : BitVec 32 := 1#32
  let v122 : BitVec 32 := Scalar.subi v107 c1_i32_59
  let v123 : BitVec 32 := Scalar.select v121 v122 v107
  let v124 : BitVec 32 := Scalar.subi v123 c0_i32_60
  let c1_i32_62 : BitVec 32 := 1#32
  let v126 : BitVec 32 := Scalar.divsi v124 c1_i32_62
  let v127 : BitVec 32 := Scalar.muli v126 c1_i32_62
  let v128 : BitVec 32 := Scalar.addi c0_i32_60 v127
  let c1_i32_64 : BitVec 32 := 1#32
  let arg8 : BitVec 32 := Scf.iv v128 c1_i32_64 k0_t3
  let c32_i32_65 : BitVec 32 := 32#32
  let v131 : BitVec 32 := Scalar.muli arg8 c32_i32_65
  let v132 : BitVec 32 := Scalar.addi v1 v131
  let c10000_i32 : BitVec 32 := 10000#32
  let v133 : BitVec 32 := Scalar.muli v132 c10000_i32
  v133
def k0_off2 (i : grid0.Coords) (k0_t3 : Fin (k0_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_60 : BitVec 32 := 0#32
  let c1000_i32 : BitVec 32 := 1000#32
  let v104 : BitVec 32 := Scalar.subi c1000_i32 v1
  let c32_i32_51 : BitVec 32 := 32#32
  let v105 : BitVec 32 := Scalar.addi v104 c32_i32_51
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c32_i32_53 : BitVec 32 := 32#32
  let c0_i32_56 : BitVec 32 := 0#32
  let v113 : BitVec 1 := Scalar.cmpi .sgt c32_i32_53 c0_i32_56
  let v114 : BitVec 32 := Scalar.extui v113
  let c0_i32_57 : BitVec 32 := 0#32
  let v115 : BitVec 1 := Scalar.cmpi .slt c32_i32_53 c0_i32_57
  let v116 : BitVec 32 := Scalar.extui v115
  let v117 : BitVec 32 := Scalar.subi v114 v116
  let v118 : BitVec 1 := Scalar.cmpi .ne v112 v117
  let v119 : BitVec 32 := Scalar.remsi v106 c32_i32_53
  let c0_i32_58 : BitVec 32 := 0#32
  let v120 : BitVec 1 := Scalar.cmpi .ne v119 c0_i32_58
  let v121 : BitVec 1 := Scalar.andi v118 v120
  let v107 : BitVec 32 := Scalar.divsi v106 c32_i32_53
  let c1_i32_59 : BitVec 32 := 1#32
  let v122 : BitVec 32 := Scalar.subi v107 c1_i32_59
  let v123 : BitVec 32 := Scalar.select v121 v122 v107
  let v124 : BitVec 32 := Scalar.subi v123 c0_i32_60
  let c1_i32_62 : BitVec 32 := 1#32
  let v126 : BitVec 32 := Scalar.divsi v124 c1_i32_62
  let v127 : BitVec 32 := Scalar.muli v126 c1_i32_62
  let v128 : BitVec 32 := Scalar.addi c0_i32_60 v127
  let c1_i32_64 : BitVec 32 := 1#32
  let arg8 : BitVec 32 := Scf.iv v128 c1_i32_64 k0_t3
  let c32_i32_65 : BitVec 32 := 32#32
  let v131 : BitVec 32 := Scalar.muli arg8 c32_i32_65
  let v132 : BitVec 32 := Scalar.addi v1 v131
  let c10000_i32 : BitVec 32 := 10000#32
  let v133 : BitVec 32 := Scalar.muli v132 c10000_i32
  let v134 : BitVec 32 := v133
  ![v134.toNat]
@[reducible] def k0_t4_loop : Scf.Loop 32 :=
  let c0_i32_67 : BitVec 32 := 0#32
  let c63_i32 : BitVec 32 := 63#32
  let v135 : BitVec 32 := Scalar.addi c0_i32_67 c63_i32
  let c1_i32_68 : BitVec 32 := 1#32
  ⟨c0_i32_67, v135, c1_i32_68⟩

def k0_chk24 (i : grid0.Coords) (k0_t3 : Fin (k0_t3_loop i).trips) (v147 : IVec S16 32) : Prop :=
  (∀ a x, ((![v147] : Fin 1 → IVec S16 32) a x).toNat < S10080.size a)
theorem k0_idx25_inb : ∀ (i : grid0.Coords) (k0_t3 : Fin (k0_t3_loop i).trips) (v147 : IVec S16 32) (k0_hw24 : k0_chk24 i k0_t3 v147), ∀ a x, ((![v147] : Fin 1 → IVec S16 32) a x).toNat < S10080.size a := fun i k0_t3 v147 k0_hw24 => k0_hw24

def k0_chk25 (i : grid0.Coords) (k0_t3 : Fin (k0_t3_loop i).trips) (v158 : IVec S16 32) : Prop :=
  (∀ a x, ((![v158] : Fin 1 → IVec S16 32) a x).toNat < S10080.size a)
theorem k0_idx26_inb : ∀ (i : grid0.Coords) (k0_t3 : Fin (k0_t3_loop i).trips) (v158 : IVec S16 32) (k0_hw25 : k0_chk25 i k0_t3 v158), ∀ a x, ((![v158] : Fin 1 → IVec S16 32) a x).toNat < S10080.size a := fun i k0_t3 v158 k0_hw25 => k0_hw25

def k0_chk26 (i : grid0.Coords) (k0_t3 : Fin (k0_t3_loop i).trips) (v169 : IVec S16 32) : Prop :=
  (∀ a x, ((![v169] : Fin 1 → IVec S16 32) a x).toNat < S10080.size a)
theorem k0_idx27_inb : ∀ (i : grid0.Coords) (k0_t3 : Fin (k0_t3_loop i).trips) (v169 : IVec S16 32) (k0_hw26 : k0_chk26 i k0_t3 v169), ∀ a x, ((![v169] : Fin 1 → IVec S16 32) a x).toNat < S10080.size a := fun i k0_t3 v169 k0_hw26 => k0_hw26

def k0_chk27 (i : grid0.Coords) (k0_t3 : Fin (k0_t3_loop i).trips) (v180 : IVec S16 32) : Prop :=
  (∀ a x, ((![v180] : Fin 1 → IVec S16 32) a x).toNat < S10080.size a)
theorem k0_idx28_inb : ∀ (i : grid0.Coords) (k0_t3 : Fin (k0_t3_loop i).trips) (v180 : IVec S16 32) (k0_hw27 : k0_chk27 i k0_t3 v180), ∀ a x, ((![v180] : Fin 1 → IVec S16 32) a x).toNat < S10080.size a := fun i k0_t3 v180 k0_hw27 => k0_hw27

def k0_chk28 (i : grid0.Coords) (k0_t3 : Fin (k0_t3_loop i).trips) (v191 : IVec S16 32) : Prop :=
  (∀ a x, ((![v191] : Fin 1 → IVec S16 32) a x).toNat < S10080.size a)
theorem k0_idx29_inb : ∀ (i : grid0.Coords) (k0_t3 : Fin (k0_t3_loop i).trips) (v191 : IVec S16 32) (k0_hw28 : k0_chk28 i k0_t3 v191), ∀ a x, ((![v191] : Fin 1 → IVec S16 32) a x).toNat < S10080.size a := fun i k0_t3 v191 k0_hw28 => k0_hw28

def k0_chk29 (i : grid0.Coords) (k0_t3 : Fin (k0_t3_loop i).trips) (v202 : IVec S16 32) : Prop :=
  (∀ a x, ((![v202] : Fin 1 → IVec S16 32) a x).toNat < S10080.size a)
theorem k0_idx30_inb : ∀ (i : grid0.Coords) (k0_t3 : Fin (k0_t3_loop i).trips) (v202 : IVec S16 32) (k0_hw29 : k0_chk29 i k0_t3 v202), ∀ a x, ((![v202] : Fin 1 → IVec S16 32) a x).toNat < S10080.size a := fun i k0_t3 v202 k0_hw29 => k0_hw29

def k0_chk30 (i : grid0.Coords) (k0_t3 : Fin (k0_t3_loop i).trips) (v213 : IVec S16 32) : Prop :=
  (∀ a x, ((![v213] : Fin 1 → IVec S16 32) a x).toNat < S10080.size a)
theorem k0_idx31_inb : ∀ (i : grid0.Coords) (k0_t3 : Fin (k0_t3_loop i).trips) (v213 : IVec S16 32) (k0_hw30 : k0_chk30 i k0_t3 v213), ∀ a x, ((![v213] : Fin 1 → IVec S16 32) a x).toNat < S10080.size a := fun i k0_t3 v213 k0_hw30 => k0_hw30

def k0_chk31 (i : grid0.Coords) (k0_t3 : Fin (k0_t3_loop i).trips) (v224 : IVec S16 32) : Prop :=
  (∀ a x, ((![v224] : Fin 1 → IVec S16 32) a x).toNat < S10080.size a)
theorem k0_idx32_inb : ∀ (i : grid0.Coords) (k0_t3 : Fin (k0_t3_loop i).trips) (v224 : IVec S16 32) (k0_hw31 : k0_chk31 i k0_t3 v224), ∀ a x, ((![v224] : Fin 1 → IVec S16 32) a x).toNat < S10080.size a := fun i k0_t3 v224 k0_hw31 => k0_hw31

def k0_chk32 (i : grid0.Coords) (k0_t3 : Fin (k0_t3_loop i).trips) (v235 : IVec S16 32) : Prop :=
  (∀ a x, ((![v235] : Fin 1 → IVec S16 32) a x).toNat < S10080.size a)
theorem k0_idx33_inb : ∀ (i : grid0.Coords) (k0_t3 : Fin (k0_t3_loop i).trips) (v235 : IVec S16 32) (k0_hw32 : k0_chk32 i k0_t3 v235), ∀ a x, ((![v235] : Fin 1 → IVec S16 32) a x).toNat < S10080.size a := fun i k0_t3 v235 k0_hw32 => k0_hw32

def k0_chk23 (i : grid0.Coords) (k0_t3 : Fin (k0_t3_loop i).trips) (v139 : IVec S16 32) : Prop :=
  (∀ a x, ((![v139] : Fin 1 → IVec S16 32) a x).toNat < S10080.size a) ∧
  (∀ a x, ((![v139] : Fin 1 → IVec S16 32) a x).toNat < S10080.size a)
theorem k0_idx24_inb : ∀ (i : grid0.Coords) (k0_t3 : Fin (k0_t3_loop i).trips) (v139 : IVec S16 32) (k0_hw23 : k0_chk23 i k0_t3 v139), ∀ a x, ((![v139] : Fin 1 → IVec S16 32) a x).toNat < S10080.size a := fun i k0_t3 v139 k0_hw23 => k0_hw23.1
theorem k0_idx34_inb : ∀ (i : grid0.Coords) (k0_t3 : Fin (k0_t3_loop i).trips) (v139 : IVec S16 32) (k0_hw23 : k0_chk23 i k0_t3 v139), ∀ a x, ((![v139] : Fin 1 → IVec S16 32) a x).toNat < S10080.size a := fun i k0_t3 v139 k0_hw23 => k0_hw23.2

def k0_chk33 (i : grid0.Coords) (k0_t3 : Fin (k0_t3_loop i).trips) (v252 : IVec S16 32) : Prop :=
  (∀ a x, ((![v252] : Fin 1 → IVec S16 32) a x).toNat < S10080.size a)
theorem k0_idx35_inb : ∀ (i : grid0.Coords) (k0_t3 : Fin (k0_t3_loop i).trips) (v252 : IVec S16 32) (k0_hw33 : k0_chk33 i k0_t3 v252), ∀ a x, ((![v252] : Fin 1 → IVec S16 32) a x).toNat < S10080.size a := fun i k0_t3 v252 k0_hw33 => k0_hw33

def k0_chk34 (i : grid0.Coords) (k0_t3 : Fin (k0_t3_loop i).trips) (v259 : IVec S16 32) : Prop :=
  (∀ a x, ((![v259] : Fin 1 → IVec S16 32) a x).toNat < S10080.size a)
theorem k0_idx36_inb : ∀ (i : grid0.Coords) (k0_t3 : Fin (k0_t3_loop i).trips) (v259 : IVec S16 32) (k0_hw34 : k0_chk34 i k0_t3 v259), ∀ a x, ((![v259] : Fin 1 → IVec S16 32) a x).toNat < S10080.size a := fun i k0_t3 v259 k0_hw34 => k0_hw34

def k0_chk35 (i : grid0.Coords) (k0_t3 : Fin (k0_t3_loop i).trips) (v266 : IVec S16 32) : Prop :=
  (∀ a x, ((![v266] : Fin 1 → IVec S16 32) a x).toNat < S10080.size a)
theorem k0_idx37_inb : ∀ (i : grid0.Coords) (k0_t3 : Fin (k0_t3_loop i).trips) (v266 : IVec S16 32) (k0_hw35 : k0_chk35 i k0_t3 v266), ∀ a x, ((![v266] : Fin 1 → IVec S16 32) a x).toNat < S10080.size a := fun i k0_t3 v266 k0_hw35 => k0_hw35

def k0_chk36 (i : grid0.Coords) (k0_t3 : Fin (k0_t3_loop i).trips) (v273 : IVec S16 32) : Prop :=
  (∀ a x, ((![v273] : Fin 1 → IVec S16 32) a x).toNat < S10080.size a)
theorem k0_idx38_inb : ∀ (i : grid0.Coords) (k0_t3 : Fin (k0_t3_loop i).trips) (v273 : IVec S16 32) (k0_hw36 : k0_chk36 i k0_t3 v273), ∀ a x, ((![v273] : Fin 1 → IVec S16 32) a x).toNat < S10080.size a := fun i k0_t3 v273 k0_hw36 => k0_hw36

def k0_chk37 (i : grid0.Coords) (k0_t3 : Fin (k0_t3_loop i).trips) (v280 : IVec S16 32) : Prop :=
  (∀ a x, ((![v280] : Fin 1 → IVec S16 32) a x).toNat < S10080.size a)
theorem k0_idx39_inb : ∀ (i : grid0.Coords) (k0_t3 : Fin (k0_t3_loop i).trips) (v280 : IVec S16 32) (k0_hw37 : k0_chk37 i k0_t3 v280), ∀ a x, ((![v280] : Fin 1 → IVec S16 32) a x).toNat < S10080.size a := fun i k0_t3 v280 k0_hw37 => k0_hw37

def k0_chk38 (i : grid0.Coords) (k0_t3 : Fin (k0_t3_loop i).trips) (v287 : IVec S16 32) : Prop :=
  (∀ a x, ((![v287] : Fin 1 → IVec S16 32) a x).toNat < S10080.size a)
theorem k0_idx40_inb : ∀ (i : grid0.Coords) (k0_t3 : Fin (k0_t3_loop i).trips) (v287 : IVec S16 32) (k0_hw38 : k0_chk38 i k0_t3 v287), ∀ a x, ((![v287] : Fin 1 → IVec S16 32) a x).toNat < S10080.size a := fun i k0_t3 v287 k0_hw38 => k0_hw38

def k0_chk39 (i : grid0.Coords) (k0_t3 : Fin (k0_t3_loop i).trips) (v294 : IVec S16 32) : Prop :=
  (∀ a x, ((![v294] : Fin 1 → IVec S16 32) a x).toNat < S10080.size a)
theorem k0_idx41_inb : ∀ (i : grid0.Coords) (k0_t3 : Fin (k0_t3_loop i).trips) (v294 : IVec S16 32) (k0_hw39 : k0_chk39 i k0_t3 v294), ∀ a x, ((![v294] : Fin 1 → IVec S16 32) a x).toNat < S10080.size a := fun i k0_t3 v294 k0_hw39 => k0_hw39

def k0_chk40 (i : grid0.Coords) (k0_t3 : Fin (k0_t3_loop i).trips) (v301 : IVec S16 32) : Prop :=
  (∀ a x, ((![v301] : Fin 1 → IVec S16 32) a x).toNat < S10080.size a)
theorem k0_idx42_inb : ∀ (i : grid0.Coords) (k0_t3 : Fin (k0_t3_loop i).trips) (v301 : IVec S16 32) (k0_hw40 : k0_chk40 i k0_t3 v301), ∀ a x, ((![v301] : Fin 1 → IVec S16 32) a x).toNat < S10080.size a := fun i k0_t3 v301 k0_hw40 => k0_hw40

def k0_chk41 (i : grid0.Coords) (k0_t3 : Fin (k0_t3_loop i).trips) (v308 : IVec S16 32) : Prop :=
  (∀ a x, ((![v308] : Fin 1 → IVec S16 32) a x).toNat < S10080.size a)
theorem k0_idx43_inb : ∀ (i : grid0.Coords) (k0_t3 : Fin (k0_t3_loop i).trips) (v308 : IVec S16 32) (k0_hw41 : k0_chk41 i k0_t3 v308), ∀ a x, ((![v308] : Fin 1 → IVec S16 32) a x).toNat < S10080.size a := fun i k0_t3 v308 k0_hw41 => k0_hw41

def k0_chk42 (i : grid0.Coords) (v99 : IVec S16 32) (k0_t3 : Fin (k0_t3_loop i).trips) (v328 : IVec S16 32) : Prop :=
  (∀ a x, ((![v328, v99] : Fin 2 → IVec S16 32) a x).toNat < S48x16.size a)
theorem k0_idx44_inb : ∀ (i : grid0.Coords) (v99 : IVec S16 32) (k0_t3 : Fin (k0_t3_loop i).trips) (v328 : IVec S16 32) (k0_hw42 : k0_chk42 i v99 k0_t3 v328), ∀ a x, ((![v328, v99] : Fin 2 → IVec S16 32) a x).toNat < S48x16.size a := fun i v99 k0_t3 v328 k0_hw42 => k0_hw42

def k0_chk43 (i : grid0.Coords) (v99 : IVec S16 32) (k0_t3 : Fin (k0_t3_loop i).trips) (v338 : IVec S16 32) : Prop :=
  (∀ a x, ((![v338, v99] : Fin 2 → IVec S16 32) a x).toNat < S48x16.size a)
theorem k0_idx45_inb : ∀ (i : grid0.Coords) (v99 : IVec S16 32) (k0_t3 : Fin (k0_t3_loop i).trips) (v338 : IVec S16 32) (k0_hw43 : k0_chk43 i v99 k0_t3 v338), ∀ a x, ((![v338, v99] : Fin 2 → IVec S16 32) a x).toNat < S48x16.size a := fun i v99 k0_t3 v338 k0_hw43 => k0_hw43

def k0_chk44 (i : grid0.Coords) (v99 : IVec S16 32) (k0_t3 : Fin (k0_t3_loop i).trips) (v340 : IVec S16 32) : Prop :=
  (∀ a x, ((![v340, v99] : Fin 2 → IVec S16 32) a x).toNat < S48x16.size a)
theorem k0_idx46_inb : ∀ (i : grid0.Coords) (v99 : IVec S16 32) (k0_t3 : Fin (k0_t3_loop i).trips) (v340 : IVec S16 32) (k0_hw44 : k0_chk44 i v99 k0_t3 v340), ∀ a x, ((![v340, v99] : Fin 2 → IVec S16 32) a x).toNat < S48x16.size a := fun i v99 k0_t3 v340 k0_hw44 => k0_hw44
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65_r4 : BitVec 32 := 0#32
  let c0_i32_66_r4 : BitVec 32 := 0#32
  ![v1.toNat, 0, 0]
abbrev grid1 : Pipeline.Grid := .none

abbrev stage1_0 : Fin 1 → Memref sig .tc .vmem S32x48x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_n" => some ((1 / 1000000 : ℝ) : EReal)
  | _ => none
-- ==== ReferenceIdeal.lean ====
abbrev S1000000x10 : Shape := ⟨2, ![1000000, 10]⟩
abbrev S_ : Shape := ⟨0, ![]⟩
abbrev S1000000 : Shape := ⟨1, ![1000000]⟩
abbrev S15 : Shape := ⟨1, ![15]⟩
abbrev S1 : Shape := ⟨1, ![1]⟩
abbrev S16 : Shape := ⟨1, ![16]⟩

abbrev nBuf : Space → Nat
  | .hbm => 593
  | .vmem => 0
  | .smem => 0
  | _ => 0

abbrev hbmTy0_0 (i : Nat) : BufTy := match i % 128 with
  | 0 => ⟨S1000000x10, .f32⟩
  | 1 => ⟨S1000000x10, .f32⟩
  | 2 => ⟨S1000000x10, .f32⟩
  | 3 => ⟨S1000000x10, .f32⟩
  | 4 => ⟨S_, .f32⟩
  | 5 => ⟨S1000000x10, .f32⟩
  | 6 => ⟨S1000000x10, .f32⟩
  | 7 => ⟨S_, .f32⟩
  | 8 => ⟨S1000000x10, .f32⟩
  | 9 => ⟨S1000000x10, .f32⟩
  | 10 => ⟨S_, .f32⟩
  | 11 => ⟨S1000000, .f32⟩
  | 12 => ⟨S1000000x10, .i32⟩
  | 13 => ⟨S_, .f32⟩
  | 14 => ⟨S_, .i32⟩
  | 15 => ⟨S1000000, .f32⟩
  | 16 => ⟨S1000000, .i32⟩
  | 17 => ⟨S_, .f32⟩
  | 18 => ⟨S1000000x10, .f32⟩
  | 19 => ⟨S1000000x10, .i1⟩
  | 20 => ⟨S1000000x10, .i32⟩
  | 21 => ⟨S1000000x10, .i32⟩
  | 22 => ⟨S_, .i32⟩
  | 23 => ⟨S_, .i32⟩
  | 24 => ⟨S1000000, .i32⟩
  | 25 => ⟨S1000000, .i32⟩
  | 26 => ⟨S1000000, .i1⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S15, .f32⟩
  | 35 => ⟨S_, .f32⟩
  | 36 => ⟨S15, .f32⟩
  | 37 => ⟨S15, .f32⟩
  | 38 => ⟨S1, .f32⟩
  | 39 => ⟨S_, .f32⟩
  | 40 => ⟨S15, .f32⟩
  | 41 => ⟨S15, .f32⟩
  | 42 => ⟨S15, .f32⟩
  | 43 => ⟨S15, .f32⟩
  | 44 => ⟨S1, .f32⟩
  | 45 => ⟨S15, .f32⟩
  | 46 => ⟨S15, .f32⟩
  | 47 => ⟨S15, .f32⟩
  | 48 => ⟨S1, .f32⟩
  | 49 => ⟨S16, .f32⟩
  | 50 => ⟨S_, .f32⟩
  | 51 => ⟨S1, .f32⟩
  | 52 => ⟨S1000000, .f32⟩
  | 53 => ⟨S1, .f32⟩
  | 54 => ⟨S_, .f32⟩
  | 55 => ⟨S1, .f32⟩
  | 56 => ⟨S_, .f32⟩
  | 57 => ⟨S1000000, .f32⟩
  | 58 => ⟨S1000000, .i1⟩
  | 59 => ⟨S1000000, .f32⟩
  | 60 => ⟨S1000000, .i1⟩
  | 61 => ⟨S1000000, .i1⟩
  | 62 => ⟨S1000000, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1000000, .f32⟩
  | 72 => ⟨S_, .f32⟩
  | 73 => ⟨S_, .f32⟩
  | 74 => ⟨S_, .f32⟩
  | 75 => ⟨S1000000, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .i1⟩
  | 84 => ⟨S_, .f32⟩
  | 85 => ⟨S_, .f32⟩
  | 86 => ⟨S_, .f32⟩
  | 87 => ⟨S1, .f32⟩
  | 88 => ⟨S1, .f32⟩
  | 89 => ⟨S1, .f32⟩
  | 90 => ⟨S_, .f32⟩
  | 91 => ⟨S1, .f32⟩
  | 92 => ⟨S_, .f32⟩
  | 93 => ⟨S1000000, .f32⟩
  | 94 => ⟨S1000000, .i1⟩
  | 95 => ⟨S1000000, .f32⟩
  | 96 => ⟨S1000000, .i1⟩
  | 97 => ⟨S1000000, .i1⟩
  | 98 => ⟨S1000000, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1000000, .f32⟩
  | 108 => ⟨S_, .f32⟩
  | 109 => ⟨S_, .f32⟩
  | 110 => ⟨S_, .f32⟩
  | 111 => ⟨S1000000, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S1, .f32⟩
  | 124 => ⟨S1, .f32⟩
  | 125 => ⟨S1, .f32⟩
  | 126 => ⟨S_, .f32⟩
  | 127 => ⟨S1, .f32⟩
  | _ => ⟨S1000000x10, .f32⟩

abbrev hbmTy0_1 (i : Nat) : BufTy := match i % 128 with
  | 0 => ⟨S_, .f32⟩
  | 1 => ⟨S1000000, .f32⟩
  | 2 => ⟨S1000000, .i1⟩
  | 3 => ⟨S1000000, .f32⟩
  | 4 => ⟨S1000000, .i1⟩
  | 5 => ⟨S1000000, .i1⟩
  | 6 => ⟨S1000000, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S1000000, .f32⟩
  | 16 => ⟨S_, .f32⟩
  | 17 => ⟨S_, .f32⟩
  | 18 => ⟨S_, .f32⟩
  | 19 => ⟨S1000000, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S1, .f32⟩
  | 32 => ⟨S1, .f32⟩
  | 33 => ⟨S1, .f32⟩
  | 34 => ⟨S_, .f32⟩
  | 35 => ⟨S1, .f32⟩
  | 36 => ⟨S_, .f32⟩
  | 37 => ⟨S1000000, .f32⟩
  | 38 => ⟨S1000000, .i1⟩
  | 39 => ⟨S1000000, .f32⟩
  | 40 => ⟨S1000000, .i1⟩
  | 41 => ⟨S1000000, .i1⟩
  | 42 => ⟨S1000000, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1000000, .f32⟩
  | 52 => ⟨S_, .f32⟩
  | 53 => ⟨S_, .f32⟩
  | 54 => ⟨S_, .f32⟩
  | 55 => ⟨S1000000, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S1, .f32⟩
  | 68 => ⟨S1, .f32⟩
  | 69 => ⟨S1, .f32⟩
  | 70 => ⟨S_, .f32⟩
  | 71 => ⟨S1, .f32⟩
  | 72 => ⟨S_, .f32⟩
  | 73 => ⟨S1000000, .f32⟩
  | 74 => ⟨S1000000, .i1⟩
  | 75 => ⟨S1000000, .f32⟩
  | 76 => ⟨S1000000, .i1⟩
  | 77 => ⟨S1000000, .i1⟩
  | 78 => ⟨S1000000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S1000000, .f32⟩
  | 88 => ⟨S_, .f32⟩
  | 89 => ⟨S_, .f32⟩
  | 90 => ⟨S_, .f32⟩
  | 91 => ⟨S1000000, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S1, .f32⟩
  | 104 => ⟨S1, .f32⟩
  | 105 => ⟨S1, .f32⟩
  | 106 => ⟨S_, .f32⟩
  | 107 => ⟨S1, .f32⟩
  | 108 => ⟨S_, .f32⟩
  | 109 => ⟨S1000000, .f32⟩
  | 110 => ⟨S1000000, .i1⟩
  | 111 => ⟨S1000000, .f32⟩
  | 112 => ⟨S1000000, .i1⟩
  | 113 => ⟨S1000000, .i1⟩
  | 114 => ⟨S1000000, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1000000, .f32⟩
  | 124 => ⟨S_, .f32⟩
  | 125 => ⟨S_, .f32⟩
  | 126 => ⟨S_, .f32⟩
  | 127 => ⟨S1000000, .f32⟩
  | _ => ⟨S1000000x10, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S1, .f32⟩
  | 12 => ⟨S1, .f32⟩
  | 13 => ⟨S1, .f32⟩
  | 14 => ⟨S_, .f32⟩
  | 15 => ⟨S1, .f32⟩
  | 16 => ⟨S_, .f32⟩
  | 17 => ⟨S1000000, .f32⟩
  | 18 => ⟨S1000000, .i1⟩
  | 19 => ⟨S1000000, .f32⟩
  | 20 => ⟨S1000000, .i1⟩
  | 21 => ⟨S1000000, .i1⟩
  | 22 => ⟨S1000000, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1000000, .f32⟩
  | 32 => ⟨S_, .f32⟩
  | 33 => ⟨S_, .f32⟩
  | 34 => ⟨S_, .f32⟩
  | 35 => ⟨S1000000, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S1, .f32⟩
  | 48 => ⟨S1, .f32⟩
  | 49 => ⟨S1, .f32⟩
  | 50 => ⟨S_, .f32⟩
  | 51 => ⟨S1, .f32⟩
  | 52 => ⟨S_, .f32⟩
  | 53 => ⟨S1000000, .f32⟩
  | 54 => ⟨S1000000, .i1⟩
  | 55 => ⟨S1000000, .f32⟩
  | 56 => ⟨S1000000, .i1⟩
  | 57 => ⟨S1000000, .i1⟩
  | 58 => ⟨S1000000, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S1000000, .f32⟩
  | 68 => ⟨S_, .f32⟩
  | 69 => ⟨S_, .f32⟩
  | 70 => ⟨S_, .f32⟩
  | 71 => ⟨S1000000, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S1, .f32⟩
  | 84 => ⟨S1, .f32⟩
  | 85 => ⟨S1, .f32⟩
  | 86 => ⟨S_, .f32⟩
  | 87 => ⟨S1, .f32⟩
  | 88 => ⟨S_, .f32⟩
  | 89 => ⟨S1000000, .f32⟩
  | 90 => ⟨S1000000, .i1⟩
  | 91 => ⟨S1000000, .f32⟩
  | 92 => ⟨S1000000, .i1⟩
  | 93 => ⟨S1000000, .i1⟩
  | 94 => ⟨S1000000, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S1000000, .f32⟩
  | 104 => ⟨S_, .f32⟩
  | 105 => ⟨S_, .f32⟩
  | 106 => ⟨S_, .f32⟩
  | 107 => ⟨S1000000, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S1, .f32⟩
  | 120 => ⟨S1, .f32⟩
  | 121 => ⟨S1, .f32⟩
  | 122 => ⟨S_, .f32⟩
  | 123 => ⟨S1, .f32⟩
  | 124 => ⟨S_, .f32⟩
  | 125 => ⟨S1000000, .f32⟩
  | 126 => ⟨S1000000, .i1⟩
  | 127 => ⟨S1000000, .f32⟩
  | _ => ⟨S1000000x10, .f32⟩

abbrev hbmTy0_3 (i : Nat) : BufTy := match i % 128 with
  | 0 => ⟨S1000000, .i1⟩
  | 1 => ⟨S1000000, .i1⟩
  | 2 => ⟨S1000000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S1000000, .f32⟩
  | 12 => ⟨S_, .f32⟩
  | 13 => ⟨S_, .f32⟩
  | 14 => ⟨S_, .f32⟩
  | 15 => ⟨S1000000, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S1, .f32⟩
  | 28 => ⟨S1, .f32⟩
  | 29 => ⟨S1, .f32⟩
  | 30 => ⟨S_, .f32⟩
  | 31 => ⟨S1, .f32⟩
  | 32 => ⟨S_, .f32⟩
  | 33 => ⟨S1000000, .f32⟩
  | 34 => ⟨S1000000, .i1⟩
  | 35 => ⟨S1000000, .f32⟩
  | 36 => ⟨S1000000, .i1⟩
  | 37 => ⟨S1000000, .i1⟩
  | 38 => ⟨S1000000, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S1000000, .f32⟩
  | 48 => ⟨S_, .f32⟩
  | 49 => ⟨S_, .f32⟩
  | 50 => ⟨S_, .f32⟩
  | 51 => ⟨S1000000, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S1, .f32⟩
  | 64 => ⟨S1, .f32⟩
  | 65 => ⟨S1, .f32⟩
  | 66 => ⟨S_, .f32⟩
  | 67 => ⟨S1, .f32⟩
  | 68 => ⟨S_, .f32⟩
  | 69 => ⟨S1000000, .f32⟩
  | 70 => ⟨S1000000, .i1⟩
  | 71 => ⟨S1000000, .f32⟩
  | 72 => ⟨S1000000, .i1⟩
  | 73 => ⟨S1000000, .i1⟩
  | 74 => ⟨S1000000, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1000000, .f32⟩
  | 84 => ⟨S_, .f32⟩
  | 85 => ⟨S_, .f32⟩
  | 86 => ⟨S_, .f32⟩
  | 87 => ⟨S1000000, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S1, .f32⟩
  | 100 => ⟨S1, .f32⟩
  | 101 => ⟨S1, .f32⟩
  | 102 => ⟨S_, .f32⟩
  | 103 => ⟨S1, .f32⟩
  | 104 => ⟨S_, .f32⟩
  | 105 => ⟨S1000000, .f32⟩
  | 106 => ⟨S1000000, .i1⟩
  | 107 => ⟨S1000000, .f32⟩
  | 108 => ⟨S1000000, .i1⟩
  | 109 => ⟨S1000000, .i1⟩
  | 110 => ⟨S1000000, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S1000000, .f32⟩
  | 120 => ⟨S_, .f32⟩
  | 121 => ⟨S_, .f32⟩
  | 122 => ⟨S_, .f32⟩
  | 123 => ⟨S1000000, .f32⟩
  | 124 => ⟨S_, .f32⟩
  | 125 => ⟨S_, .f32⟩
  | 126 => ⟨S_, .f32⟩
  | 127 => ⟨S_, .f32⟩
  | _ => ⟨S1000000x10, .f32⟩

abbrev hbmTy0_4 (i : Nat) : BufTy := match i % 128 with
  | 0 => ⟨S_, .f32⟩
  | 1 => ⟨S_, .f32⟩
  | 2 => ⟨S_, .f32⟩
  | 3 => ⟨S_, .i1⟩
  | 4 => ⟨S_, .f32⟩
  | 5 => ⟨S_, .f32⟩
  | 6 => ⟨S_, .f32⟩
  | 7 => ⟨S1, .f32⟩
  | 8 => ⟨S1, .f32⟩
  | 9 => ⟨S1, .f32⟩
  | 10 => ⟨S_, .f32⟩
  | 11 => ⟨S1, .f32⟩
  | 12 => ⟨S_, .f32⟩
  | 13 => ⟨S1000000, .f32⟩
  | 14 => ⟨S1000000, .i1⟩
  | 15 => ⟨S1000000, .f32⟩
  | 16 => ⟨S1000000, .i1⟩
  | 17 => ⟨S1000000, .i1⟩
  | 18 => ⟨S1000000, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1000000, .f32⟩
  | 28 => ⟨S_, .f32⟩
  | 29 => ⟨S_, .f32⟩
  | 30 => ⟨S_, .f32⟩
  | 31 => ⟨S1000000, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i1⟩
  | 40 => ⟨S_, .f32⟩
  | 41 => ⟨S_, .f32⟩
  | 42 => ⟨S_, .f32⟩
  | 43 => ⟨S1, .f32⟩
  | 44 => ⟨S1, .f32⟩
  | 45 => ⟨S1, .f32⟩
  | 46 => ⟨S_, .f32⟩
  | 47 => ⟨S1, .f32⟩
  | 48 => ⟨S_, .f32⟩
  | 49 => ⟨S1000000, .f32⟩
  | 50 => ⟨S1000000, .i1⟩
  | 51 => ⟨S1000000, .f32⟩
  | 52 => ⟨S1000000, .i1⟩
  | 53 => ⟨S1000000, .i1⟩
  | 54 => ⟨S1000000, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1000000, .f32⟩
  | 64 => ⟨S_, .f32⟩
  | 65 => ⟨S_, .f32⟩
  | 66 => ⟨S_, .f32⟩
  | 67 => ⟨S1000000, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S1, .f32⟩
  | 80 => ⟨S1, .f32⟩
  | _ => ⟨S1000000x10, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1000000x10, .f32⟩

abbrev bufTy : (tb : Table) → Fin (tcTables nBuf tb) → BufTy
  | .hbm, ⟨i, _⟩ => hbmTy i
  | _, _ => ⟨S1000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_v0 : Ref sig .tc := ⟨.hbm, 21, rfl⟩
abbrev main_call1_c : Ref sig .tc := ⟨.hbm, 22, rfl⟩
abbrev main_call1_c_0 : Ref sig .tc := ⟨.hbm, 23, rfl⟩
abbrev main_call1_v1_0 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_cst_4 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_cst : Ref sig .tc := ⟨.hbm, 32, rfl⟩
abbrev main_call2_v3 : Ref sig .tc := ⟨.hbm, 33, rfl⟩
abbrev main_call2_v4 : Ref sig .tc := ⟨.hbm, 34, rfl⟩
abbrev main_call2_cst_0 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_cst_1 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_v15 : Ref sig .tc := ⟨.hbm, 47, rfl⟩
abbrev main_call2_v16 : Ref sig .tc := ⟨.hbm, 48, rfl⟩
abbrev main_v13 : Ref sig .tc := ⟨.hbm, 49, rfl⟩
abbrev main_cst_5 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_6 : Ref sig .tc := ⟨.hbm, 63, rfl⟩
abbrev main_v26 : Ref sig .tc := ⟨.hbm, 64, rfl⟩
abbrev main_cst_7 : Ref sig .tc := ⟨.hbm, 65, rfl⟩
abbrev main_v27 : Ref sig .tc := ⟨.hbm, 66, rfl⟩
abbrev main_cst_8 : Ref sig .tc := ⟨.hbm, 67, rfl⟩
abbrev main_v28 : Ref sig .tc := ⟨.hbm, 68, rfl⟩
abbrev main_cst_9 : Ref sig .tc := ⟨.hbm, 69, rfl⟩
abbrev main_v29 : Ref sig .tc := ⟨.hbm, 70, rfl⟩
abbrev main_v30 : Ref sig .tc := ⟨.hbm, 71, rfl⟩
abbrev main_cst_10 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_11 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_12 : Ref sig .tc := ⟨.hbm, 82, rfl⟩
abbrev main_v39 : Ref sig .tc := ⟨.hbm, 83, rfl⟩
abbrev main_cst_13 : Ref sig .tc := ⟨.hbm, 84, rfl⟩
abbrev main_call3_v0 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_14 : Ref sig .tc := ⟨.hbm, 99, rfl⟩
abbrev main_v53 : Ref sig .tc := ⟨.hbm, 100, rfl⟩
abbrev main_cst_15 : Ref sig .tc := ⟨.hbm, 101, rfl⟩
abbrev main_v54 : Ref sig .tc := ⟨.hbm, 102, rfl⟩
abbrev main_cst_16 : Ref sig .tc := ⟨.hbm, 103, rfl⟩
abbrev main_v55 : Ref sig .tc := ⟨.hbm, 104, rfl⟩
abbrev main_cst_17 : Ref sig .tc := ⟨.hbm, 105, rfl⟩
abbrev main_v56 : Ref sig .tc := ⟨.hbm, 106, rfl⟩
abbrev main_v57 : Ref sig .tc := ⟨.hbm, 107, rfl⟩
abbrev main_cst_18 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_19 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_20 : Ref sig .tc := ⟨.hbm, 118, rfl⟩
abbrev main_v66 : Ref sig .tc := ⟨.hbm, 119, rfl⟩
abbrev main_cst_21 : Ref sig .tc := ⟨.hbm, 120, rfl⟩
abbrev main_call4_v0 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_22 : Ref sig .tc := ⟨.hbm, 135, rfl⟩
abbrev main_v80 : Ref sig .tc := ⟨.hbm, 136, rfl⟩
abbrev main_cst_23 : Ref sig .tc := ⟨.hbm, 137, rfl⟩
abbrev main_v81 : Ref sig .tc := ⟨.hbm, 138, rfl⟩
abbrev main_cst_24 : Ref sig .tc := ⟨.hbm, 139, rfl⟩
abbrev main_v82 : Ref sig .tc := ⟨.hbm, 140, rfl⟩
abbrev main_cst_25 : Ref sig .tc := ⟨.hbm, 141, rfl⟩
abbrev main_v83 : Ref sig .tc := ⟨.hbm, 142, rfl⟩
abbrev main_v84 : Ref sig .tc := ⟨.hbm, 143, rfl⟩
abbrev main_cst_26 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_27 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_28 : Ref sig .tc := ⟨.hbm, 154, rfl⟩
abbrev main_v93 : Ref sig .tc := ⟨.hbm, 155, rfl⟩
abbrev main_cst_29 : Ref sig .tc := ⟨.hbm, 156, rfl⟩
abbrev main_call5_v0 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_30 : Ref sig .tc := ⟨.hbm, 171, rfl⟩
abbrev main_v107 : Ref sig .tc := ⟨.hbm, 172, rfl⟩
abbrev main_cst_31 : Ref sig .tc := ⟨.hbm, 173, rfl⟩
abbrev main_v108 : Ref sig .tc := ⟨.hbm, 174, rfl⟩
abbrev main_cst_32 : Ref sig .tc := ⟨.hbm, 175, rfl⟩
abbrev main_v109 : Ref sig .tc := ⟨.hbm, 176, rfl⟩
abbrev main_cst_33 : Ref sig .tc := ⟨.hbm, 177, rfl⟩
abbrev main_v110 : Ref sig .tc := ⟨.hbm, 178, rfl⟩
abbrev main_v111 : Ref sig .tc := ⟨.hbm, 179, rfl⟩
abbrev main_cst_34 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_35 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_cst_36 : Ref sig .tc := ⟨.hbm, 190, rfl⟩
abbrev main_v120 : Ref sig .tc := ⟨.hbm, 191, rfl⟩
abbrev main_cst_37 : Ref sig .tc := ⟨.hbm, 192, rfl⟩
abbrev main_call6_v0 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_38 : Ref sig .tc := ⟨.hbm, 207, rfl⟩
abbrev main_v134 : Ref sig .tc := ⟨.hbm, 208, rfl⟩
abbrev main_cst_39 : Ref sig .tc := ⟨.hbm, 209, rfl⟩
abbrev main_v135 : Ref sig .tc := ⟨.hbm, 210, rfl⟩
abbrev main_cst_40 : Ref sig .tc := ⟨.hbm, 211, rfl⟩
abbrev main_v136 : Ref sig .tc := ⟨.hbm, 212, rfl⟩
abbrev main_cst_41 : Ref sig .tc := ⟨.hbm, 213, rfl⟩
abbrev main_v137 : Ref sig .tc := ⟨.hbm, 214, rfl⟩
abbrev main_v138 : Ref sig .tc := ⟨.hbm, 215, rfl⟩
abbrev main_cst_42 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_cst_43 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_cst_44 : Ref sig .tc := ⟨.hbm, 226, rfl⟩
abbrev main_v147 : Ref sig .tc := ⟨.hbm, 227, rfl⟩
abbrev main_cst_45 : Ref sig .tc := ⟨.hbm, 228, rfl⟩
abbrev main_call7_v0 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_cst_46 : Ref sig .tc := ⟨.hbm, 243, rfl⟩
abbrev main_v161 : Ref sig .tc := ⟨.hbm, 244, rfl⟩
abbrev main_cst_47 : Ref sig .tc := ⟨.hbm, 245, rfl⟩
abbrev main_v162 : Ref sig .tc := ⟨.hbm, 246, rfl⟩
abbrev main_cst_48 : Ref sig .tc := ⟨.hbm, 247, rfl⟩
abbrev main_v163 : Ref sig .tc := ⟨.hbm, 248, rfl⟩
abbrev main_cst_49 : Ref sig .tc := ⟨.hbm, 249, rfl⟩
abbrev main_v164 : Ref sig .tc := ⟨.hbm, 250, rfl⟩
abbrev main_v165 : Ref sig .tc := ⟨.hbm, 251, rfl⟩
abbrev main_cst_50 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_cst_51 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_cst_52 : Ref sig .tc := ⟨.hbm, 262, rfl⟩
abbrev main_v174 : Ref sig .tc := ⟨.hbm, 263, rfl⟩
abbrev main_cst_53 : Ref sig .tc := ⟨.hbm, 264, rfl⟩
abbrev main_call8_v0 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_cst_54 : Ref sig .tc := ⟨.hbm, 279, rfl⟩
abbrev main_v188 : Ref sig .tc := ⟨.hbm, 280, rfl⟩
abbrev main_cst_55 : Ref sig .tc := ⟨.hbm, 281, rfl⟩
abbrev main_v189 : Ref sig .tc := ⟨.hbm, 282, rfl⟩
abbrev main_cst_56 : Ref sig .tc := ⟨.hbm, 283, rfl⟩
abbrev main_v190 : Ref sig .tc := ⟨.hbm, 284, rfl⟩
abbrev main_cst_57 : Ref sig .tc := ⟨.hbm, 285, rfl⟩
abbrev main_v191 : Ref sig .tc := ⟨.hbm, 286, rfl⟩
abbrev main_v192 : Ref sig .tc := ⟨.hbm, 287, rfl⟩
abbrev main_cst_58 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_cst_59 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_cst_60 : Ref sig .tc := ⟨.hbm, 298, rfl⟩
abbrev main_v201 : Ref sig .tc := ⟨.hbm, 299, rfl⟩
abbrev main_cst_61 : Ref sig .tc := ⟨.hbm, 300, rfl⟩
abbrev main_call9_v0 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_cst_62 : Ref sig .tc := ⟨.hbm, 315, rfl⟩
abbrev main_v215 : Ref sig .tc := ⟨.hbm, 316, rfl⟩
abbrev main_cst_63 : Ref sig .tc := ⟨.hbm, 317, rfl⟩
abbrev main_v216 : Ref sig .tc := ⟨.hbm, 318, rfl⟩
abbrev main_cst_64 : Ref sig .tc := ⟨.hbm, 319, rfl⟩
abbrev main_v217 : Ref sig .tc := ⟨.hbm, 320, rfl⟩
abbrev main_cst_65 : Ref sig .tc := ⟨.hbm, 321, rfl⟩
abbrev main_v218 : Ref sig .tc := ⟨.hbm, 322, rfl⟩
abbrev main_v219 : Ref sig .tc := ⟨.hbm, 323, rfl⟩
abbrev main_cst_66 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_cst_67 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_v226 : Ref sig .tc := ⟨.hbm, 332, rfl⟩
abbrev main_v227 : Ref sig .tc := ⟨.hbm, 333, rfl⟩
abbrev main_cst_68 : Ref sig .tc := ⟨.hbm, 334, rfl⟩
abbrev main_v228 : Ref sig .tc := ⟨.hbm, 335, rfl⟩
abbrev main_cst_69 : Ref sig .tc := ⟨.hbm, 336, rfl⟩
abbrev main_call10_v0 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_v234 : Ref sig .tc := ⟨.hbm, 343, rfl⟩
abbrev main_v235 : Ref sig .tc := ⟨.hbm, 344, rfl⟩
abbrev main_v236 : Ref sig .tc := ⟨.hbm, 345, rfl⟩
abbrev main_v237 : Ref sig .tc := ⟨.hbm, 346, rfl⟩
abbrev main_v238 : Ref sig .tc := ⟨.hbm, 347, rfl⟩
abbrev main_v239 : Ref sig .tc := ⟨.hbm, 348, rfl⟩
abbrev main_v240 : Ref sig .tc := ⟨.hbm, 349, rfl⟩
abbrev main_v241 : Ref sig .tc := ⟨.hbm, 350, rfl⟩
abbrev main_cst_70 : Ref sig .tc := ⟨.hbm, 351, rfl⟩
abbrev main_v242 : Ref sig .tc := ⟨.hbm, 352, rfl⟩
abbrev main_cst_71 : Ref sig .tc := ⟨.hbm, 353, rfl⟩
abbrev main_v243 : Ref sig .tc := ⟨.hbm, 354, rfl⟩
abbrev main_cst_72 : Ref sig .tc := ⟨.hbm, 355, rfl⟩
abbrev main_v244 : Ref sig .tc := ⟨.hbm, 356, rfl⟩
abbrev main_cst_73 : Ref sig .tc := ⟨.hbm, 357, rfl⟩
abbrev main_v245 : Ref sig .tc := ⟨.hbm, 358, rfl⟩
abbrev main_v246 : Ref sig .tc := ⟨.hbm, 359, rfl⟩
abbrev main_cst_74 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_cst_75 : Ref sig .tc := ⟨.hbm, 364, rfl⟩
abbrev main_v250 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_v254 : Ref sig .tc := ⟨.hbm, 369, rfl⟩
abbrev main_cst_76 : Ref sig .tc := ⟨.hbm, 370, rfl⟩
abbrev main_v255 : Ref sig .tc := ⟨.hbm, 371, rfl⟩
abbrev main_cst_77 : Ref sig .tc := ⟨.hbm, 372, rfl⟩
abbrev main_call11_v0 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_cst_78 : Ref sig .tc := ⟨.hbm, 387, rfl⟩
abbrev main_v269 : Ref sig .tc := ⟨.hbm, 388, rfl⟩
abbrev main_cst_79 : Ref sig .tc := ⟨.hbm, 389, rfl⟩
abbrev main_v270 : Ref sig .tc := ⟨.hbm, 390, rfl⟩
abbrev main_cst_80 : Ref sig .tc := ⟨.hbm, 391, rfl⟩
abbrev main_v271 : Ref sig .tc := ⟨.hbm, 392, rfl⟩
abbrev main_cst_81 : Ref sig .tc := ⟨.hbm, 393, rfl⟩
abbrev main_v272 : Ref sig .tc := ⟨.hbm, 394, rfl⟩
abbrev main_v273 : Ref sig .tc := ⟨.hbm, 395, rfl⟩
abbrev main_cst_82 : Ref sig .tc := ⟨.hbm, 396, rfl⟩
abbrev main_v274 : Ref sig .tc := ⟨.hbm, 397, rfl⟩
abbrev main_v275 : Ref sig .tc := ⟨.hbm, 398, rfl⟩
abbrev main_v276 : Ref sig .tc := ⟨.hbm, 399, rfl⟩
abbrev main_cst_83 : Ref sig .tc := ⟨.hbm, 400, rfl⟩
abbrev main_v277 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_cst_84 : Ref sig .tc := ⟨.hbm, 406, rfl⟩
abbrev main_v282 : Ref sig .tc := ⟨.hbm, 407, rfl⟩
abbrev main_cst_85 : Ref sig .tc := ⟨.hbm, 408, rfl⟩
abbrev main_call12_v0 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_v290 : Ref sig .tc := ⟨.hbm, 417, rfl⟩
abbrev main_v291 : Ref sig .tc := ⟨.hbm, 418, rfl⟩
abbrev main_v292 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_cst_86 : Ref sig .tc := ⟨.hbm, 423, rfl⟩
abbrev main_v296 : Ref sig .tc := ⟨.hbm, 424, rfl⟩
abbrev main_cst_87 : Ref sig .tc := ⟨.hbm, 425, rfl⟩
abbrev main_v297 : Ref sig .tc := ⟨.hbm, 426, rfl⟩
abbrev main_cst_88 : Ref sig .tc := ⟨.hbm, 427, rfl⟩
abbrev main_v298 : Ref sig .tc := ⟨.hbm, 428, rfl⟩
abbrev main_cst_89 : Ref sig .tc := ⟨.hbm, 429, rfl⟩
abbrev main_v299 : Ref sig .tc := ⟨.hbm, 430, rfl⟩
abbrev main_v300 : Ref sig .tc := ⟨.hbm, 431, rfl⟩
abbrev main_cst_90 : Ref sig .tc := ⟨.hbm, 432, rfl⟩
abbrev main_v301 : Ref sig .tc := ⟨.hbm, 433, rfl⟩
abbrev main_v302 : Ref sig .tc := ⟨.hbm, 434, rfl⟩
abbrev main_v303 : Ref sig .tc := ⟨.hbm, 435, rfl⟩
abbrev main_cst_91 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_cst_92 : Ref sig .tc := ⟨.hbm, 442, rfl⟩
abbrev main_v309 : Ref sig .tc := ⟨.hbm, 443, rfl⟩
abbrev main_cst_93 : Ref sig .tc := ⟨.hbm, 444, rfl⟩
abbrev main_call13_v0 : Ref sig .tc := ⟨.hbm, 445, rfl⟩
abbrev main_v310 : Ref sig .tc := ⟨.hbm, 446, rfl⟩
abbrev main_v311 : Ref sig .tc := ⟨.hbm, 447, rfl⟩
abbrev main_v312 : Ref sig .tc := ⟨.hbm, 448, rfl⟩
abbrev main_v313 : Ref sig .tc := ⟨.hbm, 449, rfl⟩
abbrev main_v314 : Ref sig .tc := ⟨.hbm, 450, rfl⟩
abbrev main_v315 : Ref sig .tc := ⟨.hbm, 451, rfl⟩
abbrev main_v316 : Ref sig .tc := ⟨.hbm, 452, rfl⟩
abbrev main_v317 : Ref sig .tc := ⟨.hbm, 453, rfl⟩
abbrev main_v318 : Ref sig .tc := ⟨.hbm, 454, rfl⟩
abbrev main_v319 : Ref sig .tc := ⟨.hbm, 455, rfl⟩
abbrev main_v320 : Ref sig .tc := ⟨.hbm, 456, rfl⟩
abbrev main_v321 : Ref sig .tc := ⟨.hbm, 457, rfl⟩
abbrev main_v322 : Ref sig .tc := ⟨.hbm, 458, rfl⟩
abbrev main_cst_94 : Ref sig .tc := ⟨.hbm, 459, rfl⟩
abbrev main_v323 : Ref sig .tc := ⟨.hbm, 460, rfl⟩
abbrev main_cst_95 : Ref sig .tc := ⟨.hbm, 461, rfl⟩
abbrev main_v324 : Ref sig .tc := ⟨.hbm, 462, rfl⟩
abbrev main_cst_96 : Ref sig .tc := ⟨.hbm, 463, rfl⟩
abbrev main_v325 : Ref sig .tc := ⟨.hbm, 464, rfl⟩
abbrev main_cst_97 : Ref sig .tc := ⟨.hbm, 465, rfl⟩
abbrev main_v326 : Ref sig .tc := ⟨.hbm, 466, rfl⟩
abbrev main_v327 : Ref sig .tc := ⟨.hbm, 467, rfl⟩
abbrev main_cst_98 : Ref sig .tc := ⟨.hbm, 468, rfl⟩
abbrev main_v328 : Ref sig .tc := ⟨.hbm, 469, rfl⟩
abbrev main_v329 : Ref sig .tc := ⟨.hbm, 470, rfl⟩
abbrev main_v330 : Ref sig .tc := ⟨.hbm, 471, rfl⟩
abbrev main_cst_99 : Ref sig .tc := ⟨.hbm, 472, rfl⟩
abbrev main_v331 : Ref sig .tc := ⟨.hbm, 473, rfl⟩
abbrev main_v332 : Ref sig .tc := ⟨.hbm, 474, rfl⟩
abbrev main_v333 : Ref sig .tc := ⟨.hbm, 475, rfl⟩
abbrev main_v334 : Ref sig .tc := ⟨.hbm, 476, rfl⟩
abbrev main_v335 : Ref sig .tc := ⟨.hbm, 477, rfl⟩
abbrev main_cst_100 : Ref sig .tc := ⟨.hbm, 478, rfl⟩
abbrev main_v336 : Ref sig .tc := ⟨.hbm, 479, rfl⟩
abbrev main_cst_101 : Ref sig .tc := ⟨.hbm, 480, rfl⟩
abbrev main_call14_v0 : Ref sig .tc := ⟨.hbm, 481, rfl⟩
abbrev main_v337 : Ref sig .tc := ⟨.hbm, 482, rfl⟩
abbrev main_v338 : Ref sig .tc := ⟨.hbm, 483, rfl⟩
abbrev main_v339 : Ref sig .tc := ⟨.hbm, 484, rfl⟩
abbrev main_v340 : Ref sig .tc := ⟨.hbm, 485, rfl⟩
abbrev main_v341 : Ref sig .tc := ⟨.hbm, 486, rfl⟩
abbrev main_v342 : Ref sig .tc := ⟨.hbm, 487, rfl⟩
abbrev main_v343 : Ref sig .tc := ⟨.hbm, 488, rfl⟩
abbrev main_v344 : Ref sig .tc := ⟨.hbm, 489, rfl⟩
abbrev main_v345 : Ref sig .tc := ⟨.hbm, 490, rfl⟩
abbrev main_v346 : Ref sig .tc := ⟨.hbm, 491, rfl⟩
abbrev main_v347 : Ref sig .tc := ⟨.hbm, 492, rfl⟩
abbrev main_v348 : Ref sig .tc := ⟨.hbm, 493, rfl⟩
abbrev main_v349 : Ref sig .tc := ⟨.hbm, 494, rfl⟩
abbrev main_cst_102 : Ref sig .tc := ⟨.hbm, 495, rfl⟩
abbrev main_v350 : Ref sig .tc := ⟨.hbm, 496, rfl⟩
abbrev main_cst_103 : Ref sig .tc := ⟨.hbm, 497, rfl⟩
abbrev main_v351 : Ref sig .tc := ⟨.hbm, 498, rfl⟩
abbrev main_cst_104 : Ref sig .tc := ⟨.hbm, 499, rfl⟩
abbrev main_v352 : Ref sig .tc := ⟨.hbm, 500, rfl⟩
abbrev main_cst_105 : Ref sig .tc := ⟨.hbm, 501, rfl⟩
abbrev main_v353 : Ref sig .tc := ⟨.hbm, 502, rfl⟩
abbrev main_v354 : Ref sig .tc := ⟨.hbm, 503, rfl⟩
abbrev main_cst_106 : Ref sig .tc := ⟨.hbm, 504, rfl⟩
abbrev main_v355 : Ref sig .tc := ⟨.hbm, 505, rfl⟩
abbrev main_v356 : Ref sig .tc := ⟨.hbm, 506, rfl⟩
abbrev main_v357 : Ref sig .tc := ⟨.hbm, 507, rfl⟩
abbrev main_cst_107 : Ref sig .tc := ⟨.hbm, 508, rfl⟩
abbrev main_v358 : Ref sig .tc := ⟨.hbm, 509, rfl⟩
abbrev main_v359 : Ref sig .tc := ⟨.hbm, 510, rfl⟩
abbrev main_v360 : Ref sig .tc := ⟨.hbm, 511, rfl⟩
abbrev main_v361 : Ref sig .tc := ⟨.hbm, 512, rfl⟩
abbrev main_v362 : Ref sig .tc := ⟨.hbm, 513, rfl⟩
abbrev main_cst_108 : Ref sig .tc := ⟨.hbm, 514, rfl⟩
abbrev main_v363 : Ref sig .tc := ⟨.hbm, 515, rfl⟩
abbrev main_cst_109 : Ref sig .tc := ⟨.hbm, 516, rfl⟩
abbrev main_call15_v0 : Ref sig .tc := ⟨.hbm, 517, rfl⟩
abbrev main_v364 : Ref sig .tc := ⟨.hbm, 518, rfl⟩
abbrev main_v365 : Ref sig .tc := ⟨.hbm, 519, rfl⟩
abbrev main_v366 : Ref sig .tc := ⟨.hbm, 520, rfl⟩
abbrev main_v367 : Ref sig .tc := ⟨.hbm, 521, rfl⟩
abbrev main_v368 : Ref sig .tc := ⟨.hbm, 522, rfl⟩
abbrev main_v369 : Ref sig .tc := ⟨.hbm, 523, rfl⟩
abbrev main_v370 : Ref sig .tc := ⟨.hbm, 524, rfl⟩
abbrev main_v371 : Ref sig .tc := ⟨.hbm, 525, rfl⟩
abbrev main_v372 : Ref sig .tc := ⟨.hbm, 526, rfl⟩
abbrev main_v373 : Ref sig .tc := ⟨.hbm, 527, rfl⟩
abbrev main_v374 : Ref sig .tc := ⟨.hbm, 528, rfl⟩
abbrev main_v375 : Ref sig .tc := ⟨.hbm, 529, rfl⟩
abbrev main_v376 : Ref sig .tc := ⟨.hbm, 530, rfl⟩
abbrev main_cst_110 : Ref sig .tc := ⟨.hbm, 531, rfl⟩
abbrev main_v377 : Ref sig .tc := ⟨.hbm, 532, rfl⟩
abbrev main_cst_111 : Ref sig .tc := ⟨.hbm, 533, rfl⟩
abbrev main_v378 : Ref sig .tc := ⟨.hbm, 534, rfl⟩
abbrev main_cst_112 : Ref sig .tc := ⟨.hbm, 535, rfl⟩
abbrev main_v379 : Ref sig .tc := ⟨.hbm, 536, rfl⟩
abbrev main_cst_113 : Ref sig .tc := ⟨.hbm, 537, rfl⟩
abbrev main_v380 : Ref sig .tc := ⟨.hbm, 538, rfl⟩
abbrev main_v381 : Ref sig .tc := ⟨.hbm, 539, rfl⟩
abbrev main_cst_114 : Ref sig .tc := ⟨.hbm, 540, rfl⟩
abbrev main_v382 : Ref sig .tc := ⟨.hbm, 541, rfl⟩
abbrev main_v383 : Ref sig .tc := ⟨.hbm, 542, rfl⟩
abbrev main_v384 : Ref sig .tc := ⟨.hbm, 543, rfl⟩
abbrev main_cst_115 : Ref sig .tc := ⟨.hbm, 544, rfl⟩
abbrev main_v385 : Ref sig .tc := ⟨.hbm, 545, rfl⟩
abbrev main_v386 : Ref sig .tc := ⟨.hbm, 546, rfl⟩
abbrev main_v387 : Ref sig .tc := ⟨.hbm, 547, rfl⟩
abbrev main_v388 : Ref sig .tc := ⟨.hbm, 548, rfl⟩
abbrev main_v389 : Ref sig .tc := ⟨.hbm, 549, rfl⟩
abbrev main_cst_116 : Ref sig .tc := ⟨.hbm, 550, rfl⟩
abbrev main_v390 : Ref sig .tc := ⟨.hbm, 551, rfl⟩
abbrev main_cst_117 : Ref sig .tc := ⟨.hbm, 552, rfl⟩
abbrev main_call16_v0 : Ref sig .tc := ⟨.hbm, 553, rfl⟩
abbrev main_v391 : Ref sig .tc := ⟨.hbm, 554, rfl⟩
abbrev main_v392 : Ref sig .tc := ⟨.hbm, 555, rfl⟩
abbrev main_v393 : Ref sig .tc := ⟨.hbm, 556, rfl⟩
abbrev main_v394 : Ref sig .tc := ⟨.hbm, 557, rfl⟩
abbrev main_v395 : Ref sig .tc := ⟨.hbm, 558, rfl⟩
abbrev main_v396 : Ref sig .tc := ⟨.hbm, 559, rfl⟩
abbrev main_v397 : Ref sig .tc := ⟨.hbm, 560, rfl⟩
abbrev main_v398 : Ref sig .tc := ⟨.hbm, 561, rfl⟩
abbrev main_v399 : Ref sig .tc := ⟨.hbm, 562, rfl⟩
abbrev main_v400 : Ref sig .tc := ⟨.hbm, 563, rfl⟩
abbrev main_v401 : Ref sig .tc := ⟨.hbm, 564, rfl⟩
abbrev main_v402 : Ref sig .tc := ⟨.hbm, 565, rfl⟩
abbrev main_v403 : Ref sig .tc := ⟨.hbm, 566, rfl⟩
abbrev main_cst_118 : Ref sig .tc := ⟨.hbm, 567, rfl⟩
abbrev main_v404 : Ref sig .tc := ⟨.hbm, 568, rfl⟩
abbrev main_cst_119 : Ref sig .tc := ⟨.hbm, 569, rfl⟩
abbrev main_v405 : Ref sig .tc := ⟨.hbm, 570, rfl⟩
abbrev main_cst_120 : Ref sig .tc := ⟨.hbm, 571, rfl⟩
abbrev main_v406 : Ref sig .tc := ⟨.hbm, 572, rfl⟩
abbrev main_cst_121 : Ref sig .tc := ⟨.hbm, 573, rfl⟩
abbrev main_v407 : Ref sig .tc := ⟨.hbm, 574, rfl⟩
abbrev main_v408 : Ref sig .tc := ⟨.hbm, 575, rfl⟩
abbrev main_cst_122 : Ref sig .tc := ⟨.hbm, 576, rfl⟩
abbrev main_v409 : Ref sig .tc := ⟨.hbm, 577, rfl⟩
abbrev main_v410 : Ref sig .tc := ⟨.hbm, 578, rfl⟩
abbrev main_v411 : Ref sig .tc := ⟨.hbm, 579, rfl⟩
abbrev main_cst_123 : Ref sig .tc := ⟨.hbm, 580, rfl⟩
abbrev main_v412 : Ref sig .tc := ⟨.hbm, 581, rfl⟩
abbrev main_v413 : Ref sig .tc := ⟨.hbm, 582, rfl⟩
abbrev main_v414 : Ref sig .tc := ⟨.hbm, 583, rfl⟩
abbrev main_v415 : Ref sig .tc := ⟨.hbm, 584, rfl⟩
abbrev main_v416 : Ref sig .tc := ⟨.hbm, 585, rfl⟩
abbrev main_cst_124 : Ref sig .tc := ⟨.hbm, 586, rfl⟩
abbrev main_v417 : Ref sig .tc := ⟨.hbm, 587, rfl⟩
abbrev main_cst_125 : Ref sig .tc := ⟨.hbm, 588, rfl⟩
abbrev main_call17_v0 : Ref sig .tc := ⟨.hbm, 589, rfl⟩
abbrev main_v418 : Ref sig .tc := ⟨.hbm, 590, rfl⟩
abbrev main_v419 : Ref sig .tc := ⟨.hbm, 591, rfl⟩
abbrev main_v420 : Ref sig .tc := ⟨.hbm, 592, rfl⟩

abbrev nD : Nat := 1
abbrev τ : Topo := Topo.v7x

variable {F : FTy → Type} [FloatOps F]
-- ==== Proof.Lane.lean ====
/-
  What one lane of one SparseCore tile computes from one row of the two tables, as plain functions of the row's ten
  scores and ten labels, over any float instance. A tile's accumulator is an array of 48 rows and 16 lanes: rows 0–14
  count rows of data by bin, rows 16–30 count the hits among them, rows 32–46 add their confidences. A row of data
  changes only its own lane's column of that array. `partials` is the accumulator after the rows a tile has seen.
-/
module

public import Idealize.ShloMosaic.PureOps.ShapeOps
public import Idealize.ShloMosaic.PureOps.Vector
public import Mathlib.Tactic.FinCases

@[expose] public section

noncomputable section

namespace Cert.Lane

open Idealize.ShloMosaic

variable {F : FTy → Type} [FloatOps F]

/-! ## One row of data -/

abbrev zero : F .f32 := FloatOps.ofBits .f32 0x00000000#32
abbrev one : F .f32 := FloatOps.ofBits .f32 0x3F800000#32
abbrev fifteen : F .f32 := FloatOps.ofBits .f32 0x41700000#32

/-- The largest of the scores `0 … k`. -/
def top (a : ℕ → F .f32) : ℕ → F .f32
  | 0 => a 0
  | k + 1 => FloatOps.maximumf (top a k) (a (k + 1))

/-- Are the scores `0 … k` all negative? -/
def negs (a : ℕ → F .f32) : ℕ → BitVec 1
  | 0 => FloatOps.cmpf .olt (a 0) zero
  | k + 1 => IntOp.andi (negs a k) (FloatOps.cmpf .olt (a (k + 1)) zero)

/-- How many of the scores `0 … k` stand before the first non-negative one. -/
def lead (a : ℕ → F .f32) : ℕ → BitVec 32
  | 0 => Scalar.select (negs a 0) 1#32 0#32
  | k + 1 => IntOp.addi (lead a k) (Scalar.select (negs a (k + 1)) 1#32 0#32)

/-- The predicted class: the first non-negative score's place, `0` if there is none. -/
def pred (a : ℕ → F .f32) : BitVec 32 := Scalar.select (IntOp.cmpi .eq (lead a 9) 10#32) 0#32 (lead a 9)

/-- The place of the first largest label among `0 … k`. -/
def label (b : ℕ → F .f32) : ℕ → BitVec 32
  | 0 => 0#32
  | k + 1 => Scalar.select (FloatOps.cmpf .ogt (b (k + 1)) (top b k)) (BitVec.ofNat 32 (k + 1)) (label b k)

/-- One if the prediction is the label, zero otherwise. -/
def hit (a b : ℕ → F .f32) : F .f32 := Scalar.select (IntOp.cmpi .eq (pred a) (label b 9)) one zero

/-- The row's confidence: the logistic function of its largest score. -/
def conf (a : ℕ → F .f32) : F .f32 := FloatOps.divf one (FloatOps.addf one (FloatOps.exp (FloatOps.subf zero (top a 9))))

/-- The row's bin, `0 … 14`. -/
def bin (a : ℕ → F .f32) : BitVec 32 := IntOp.minsi (IntOp.maxsi (FloatOps.fptosi 32 (FloatOps.mulf (conf a) fifteen)) 0#32) 14#32

/-- Does the row count: is its confidence positive? -/
def live (a : ℕ → F .f32) : BitVec 1 := FloatOps.cmpf .ogt (conf a) zero

/-- Bins are at most 14. -/
theorem clamp_lt (x : BitVec 32) : (IntOp.minsi (IntOp.maxsi x 0#32) 14#32).toNat < 15 := by
  have h0 : (0#32).toInt = 0 := rfl
  have h14 : (14#32).toInt = 14 := rfl
  unfold IntOp.minsi IntOp.maxsi
  have key : ∀ y : BitVec 32, 0 ≤ y.toInt → y.toInt < 14 → y.toNat < 15 := by
    intro y h1 h2
    rw [BitVec.toInt_eq_toNat_cond] at h1 h2
    split at h1 <;> split at h2 <;> omega
  split
  · split
    · rename_i h1 h2
      simp only [BitVec.slt, decide_eq_true_eq] at h1 h2
      exact key _ (by omega) (by omega)
    · decide
  · decide

theorem bin_lt (a : ℕ → F .f32) : (bin a).toNat < 15 := clamp_lt _

/-- What one row of data makes of the entry at row `r` of its lane's column, `x` before. -/
def step (a b : ℕ → F .f32) (r : ℕ) (x : F .f32) : F .f32 :=
  if live a = 1 then
    if r = (bin a).toNat then FloatOps.idxAddf x one
    else if r = (bin a).toNat + 16 then FloatOps.idxAddf x (hit a b)
    else if r = (bin a).toNat + 32 then FloatOps.idxAddf x (conf a)
    else x
  else x

/-! The functions above read a row's ten words and nothing else. -/

theorem top_congr {a b : ℕ → F .f32} : ∀ k, (∀ j ≤ k, a j = b j) → top a k = top b k
  | 0, h => h 0 le_rfl
  | k + 1, h => by
    show FloatOps.maximumf _ _ = FloatOps.maximumf _ _
    rw [top_congr k fun j hj => h j (by omega), h (k + 1) le_rfl]

theorem negs_congr {a b : ℕ → F .f32} : ∀ k, (∀ j ≤ k, a j = b j) → negs a k = negs b k
  | 0, h => by show FloatOps.cmpf _ _ _ = FloatOps.cmpf _ _ _; rw [h 0 le_rfl]
  | k + 1, h => by
    show IntOp.andi _ (FloatOps.cmpf _ _ _) = IntOp.andi _ (FloatOps.cmpf _ _ _)
    rw [negs_congr k fun j hj => h j (by omega), h (k + 1) le_rfl]

theorem lead_congr {a b : ℕ → F .f32} : ∀ k, (∀ j ≤ k, a j = b j) → lead a k = lead b k
  | 0, h => by show Scalar.select _ _ _ = Scalar.select _ _ _; rw [negs_congr 0 h]
  | k + 1, h => by
    show IntOp.addi _ (Scalar.select _ _ _) = IntOp.addi _ (Scalar.select _ _ _)
    rw [lead_congr k fun j hj => h j (by omega), negs_congr (k + 1) h]

theorem label_congr {a b : ℕ → F .f32} : ∀ k, (∀ j ≤ k, a j = b j) → label a k = label b k
  | 0, _ => rfl
  | k + 1, h => by
    show Scalar.select (FloatOps.cmpf _ _ _) _ _ = Scalar.select (FloatOps.cmpf _ _ _) _ _
    rw [label_congr k fun j hj => h j (by omega), h (k + 1) le_rfl, top_congr k fun j hj => h j (by omega)]

theorem step_congr {a a' b b' : ℕ → F .f32} (ha : ∀ j ≤ 9, a j = a' j) (hb : ∀ j ≤ 9, b j = b' j) (r : ℕ) (x : F .f32) :
    step a b r x = step a' b' r x := by
  have hc : conf a = conf a' := by unfold conf; rw [top_congr 9 ha]
  have hp : pred a = pred a' := by unfold pred; rw [lead_congr 9 ha]
  have hh : hit a b = hit a' b' := by unfold hit; rw [hp, label_congr 9 hb]
  unfold step live bin
  rw [hc, hh]

/-! ## A tile's rows, by chunk and group -/

/-- Row `n`'s scores (or labels) in a flat table. -/
abbrev rowOf (X : ℕ → F .f32) (n : ℕ) : ℕ → F .f32 := fun j => X (n * 10 + j)

/-- Lane `l`'s step on group `g` of the chunk that begins at row `base`: the group's row `l`, if the chunk has it. -/
def groupStep (X Y : ℕ → F .f32) (base g r l : ℕ) (x : F .f32) : F .f32 :=
  if g * 16 + l < 1000 then step (rowOf X (base + (g * 16 + l))) (rowOf Y (base + (g * 16 + l))) r x else x

/-- The entry `(r, l)` after `g` groups of the chunk at row `base`. -/
def groups (X Y : ℕ → F .f32) (base r l : ℕ) (x : F .f32) : ℕ → F .f32
  | 0 => x
  | g + 1 => groupStep X Y base g r l (groups X Y base r l x g)

/-- The entry `(r, l)` of tile `w`'s accumulator after `k` chunks: chunks `w`, `w + 32`, … of a thousand rows each. -/
def chunks (X Y : ℕ → F .f32) (w r l : ℕ) : ℕ → F .f32
  | 0 => zero
  | k + 1 => groups X Y ((w + 32 * k) * 1000) r l (chunks X Y w r l k) 63

/-- How many chunks tile `w` takes of the thousand. -/
def nChunks (w : ℕ) : ℕ := (1031 - w) / 32

/-- The entry `(r, l)` of tile `w`'s row block of the partial sums. -/
def partials (X Y : ℕ → F .f32) (w r l : ℕ) : F .f32 := chunks X Y w r l (nChunks w)

/-! ## An indexed accumulating store whose lanes name distinct columns -/

/-- The indexed store as a fold over lanes below `n`, its last index being the lane: entry `(r, l)` takes lane `l`'s
    addend if that lane's mask is set and its row is `r`; every other entry stays. -/
theorem storeIdx_lane {d : Fin 1 → ℕ} {s : Shape} (hs : s.rank = 2) {e : EltTy} (f : Vec F s e) (idxs : Fin s.rank → IVec ⟨1, d⟩ 32)
    (v : Vec F ⟨1, d⟩ e) (mask : IVec ⟨1, d⟩ 1) (h : ∀ a x, (idxs a x).toNat < s.size a)
    (hl : ∀ x, (idxs ⟨1, by omega⟩ x).toNat = (x 0).val) (j : s.Idx) (l : Fin (d 0)) (hj : (j ⟨1, by omega⟩).val = l.val) :
    storeIdx f idxs v mask true h j
      = if mask (Shape.ofLane l) = 1 ∧ (j ⟨0, by omega⟩).val = (idxs ⟨0, by omega⟩ (Shape.ofLane l)).toNat
          then Elt.idxAdd e (f j) (v (Shape.ofLane l)) else f j := by
  unfold storeIdx
  have hval : ∀ k : Fin (d 0), ((Shape.ofLane k : Shape.Idx ⟨1, d⟩) 0).val = k.val := fun k => rfl
  -- a lane's index agrees with `j` exactly when the lane is `l` and the rows agree
  have hat : ∀ k : Fin (d 0), (∀ a, (j a).val = (idxAt idxs h (Shape.ofLane k) a).val)
      ↔ (k = l ∧ (j ⟨0, by omega⟩).val = (idxs ⟨0, by omega⟩ (Shape.ofLane k)).toNat) := by
    intro k
    constructor
    · intro H
      have h1 := H ⟨1, by omega⟩
      have h0 := H ⟨0, by omega⟩
      refine ⟨Fin.ext ?_, h0⟩
      have := hl (Shape.ofLane k)
      rw [hval] at this
      simp only [idxAt] at h1
      omega
    · rintro ⟨rfl, h0⟩ a
      have ha : a = ⟨0, by omega⟩ ∨ a = ⟨1, by omega⟩ := by
        have := a.isLt
        rcases Nat.lt_or_ge a.val 1 with h | h
        · exact .inl (Fin.ext (by simp; omega))
        · exact .inr (Fin.ext (by simp; omega))
      rcases ha with rfl | rfl
      · exact h0
      · have := hl (Shape.ofLane k)
        rw [hval] at this
        simp only [idxAt]; omega
  let put : Vec F s e → Fin (d 0) → Vec F s e := fun g k =>
    let x := Shape.ofLane k
    if mask x = 1 then
      let i := idxAt idxs h x
      let y := if true then Elt.idxAdd e (g i) (v x) else v x
      fun j => if (∀ a, (j a).val = (i a).val) then y else g j
    else g
  -- a lane other than `l` leaves entry `j`; lane `l` makes its step
  have other : ∀ (g : Vec F s e) (k : Fin (d 0)), k ≠ l → put g k j = g j := by
    intro g k hkl
    dsimp only [put]
    split
    · exact if_neg (fun H => hkl ((hat k).mp H).1)
    · rfl
  have own : ∀ g : Vec F s e, put g l j = if mask (Shape.ofLane l) = 1 ∧ (j ⟨0, by omega⟩).val = (idxs ⟨0, by omega⟩ (Shape.ofLane l)).toNat
      then Elt.idxAdd e (g j) (v (Shape.ofLane l)) else g j := by
    intro g
    dsimp only [put]
    by_cases hm : mask (Shape.ofLane l) = 1
    · by_cases hr : (j ⟨0, by omega⟩).val = (idxs ⟨0, by omega⟩ (Shape.ofLane l)).toNat
      · have : idxAt idxs h (Shape.ofLane l) = j := funext fun a => Fin.ext (((hat l).mpr ⟨rfl, hr⟩) a).symm
        rw [if_pos hm]
        refine Eq.trans ?_ (if_pos ⟨hm, hr⟩).symm
        refine (if_pos ((hat l).mpr ⟨rfl, hr⟩)).trans ?_
        rw [this]; exact if_pos rfl
      · rw [if_pos hm]
        refine Eq.trans ?_ (if_neg (fun H => hr H.2)).symm
        exact if_neg (fun H => hr ((hat l).mp H).2)
    · rw [if_neg hm, if_neg (fun H => hm H.1)]
  have rest : ∀ (L : List (Fin (d 0))) (g : Vec F s e), l ∉ L → L.foldl put g j = g j := by
    intro L
    induction L with
    | nil => intro g _; rfl
    | cons k L ih =>
      intro g hk
      rw [List.foldl_cons, ih _ (fun H => hk (List.mem_cons_of_mem _ H)), other g k (fun H => hk (H ▸ List.mem_cons_self))]
  have main : ∀ (L : List (Fin (d 0))) (g : Vec F s e), L.Nodup → l ∈ L → L.foldl put g j = put g l j := by
    intro L
    induction L with
    | nil => intro g _ H; exact absurd H List.not_mem_nil
    | cons k L ih =>
      intro g hnd hk
      obtain ⟨hkL, hL⟩ := List.nodup_cons.mp hnd
      rw [List.foldl_cons]
      by_cases hkl : k = l
      · rw [rest L _ (hkl ▸ hkL), hkl]
      · rw [ih _ hL ((List.mem_cons.mp hk).resolve_left fun H => hkl H.symm), own, own, other g k hkl]
  exact (main _ f (List.nodup_finRange _) (List.mem_finRange _)).trans (own f)

end Cert.Lane

end
-- ==== Proof.KernelIdealSetup.lean ====
/-
  The program as the SparseCore launch theorem sees it, and the arrays: names for the launch configuration, the body
  table, the resource algebra (the handshakes' rounds, the staging cells' rounds, the counters of local transfers), the tile's coordinates,
  its scratch buffers and semaphores taken out of what a tile owns.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Lane

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds library, the left factor. -/
abbrev EH : Emb UH (MT nD τ sig (HIx 1) (Elt F) ℕ UU ℕ) := embL

/-- The pipeline library's copy, the left of the right factor: the TensorCore call's staging cells. -/
def EP : Emb UK (MT nD τ sig (HIx 1) (Elt F) ℕ UU ℕ) := (Emb.inl : Emb UK (UK × Counters)).trans embR

instance EP_landsIn : (EP : Emb UK (MT nD τ sig (HIx 1) (Elt F) ℕ UU ℕ)).LandsIn
    (upEmb : UEmb _ (MT nD τ sig (HIx 1) (Elt F) ℕ UU ℕ)) := by
  unfold EP; infer_instance

/-! ## The arrays -/

abbrev xLoc (d : Dev nD) : Loc nD τ sig := (SparseCore.T d).loc main_v0
abbrev yLoc (d : Dev nD) : Loc nD τ sig := (SparseCore.T d).loc main_v1
abbrev oLoc (d : Dev nD) : Loc nD τ sig := (SparseCore.T d).loc main_v2

/-- A flat table's word `n` (zero past its end), the table an array over the printed shape. -/
def word (f : S10000000.Idx → F .f32) [FloatOps F] (n : ℕ) : F .f32 :=
  if h : n < 10000000 then f (fun a => ⟨n, by rw [Subsingleton.elim a 0]; exact h⟩) else Lane.zero

abbrev cV (L : grid0.Coords) : Fin τ.nSC := (L 0).castLE hcore0
abbrev jV (L : grid0.Coords) : Fin τ.nSub := (L 1).castLE hsub0

/-- The tile's number: the row block of the partial sums it fills, and its first chunk. -/
abbrev wid (L : grid0.Coords) : ℕ := (L 1).val * 2 + (L 0).val

theorem core_lt (L : grid0.Coords) : (L 0).val < 2 := (L 0).isLt
theorem sub_lt (L : grid0.Coords) : (L 1).val < 16 := (L 1).isLt
theorem wid_lt (L : grid0.Coords) : wid L < 32 := by have := core_lt L; have := sub_lt L; unfold wid; omega

/-! ## What a tile owns: three scratch buffers and the transfer semaphores -/

section Own

variable (d : Dev nD) (L : grid0.Coords)

abbrev semA (d : Dev nD) (c : Fin τ.nSC) (i : Fin τ.nSub) : GSem nD τ sig := (V d c i, .dma cc0_scoped0.sem)
abbrev semB (d : Dev nD) (c : Fin τ.nSC) (i : Fin τ.nSub) : GSem nD τ sig := (V d c i, .dma cc0_scoped1.sem)
abbrev semO (d : Dev nD) (c : Fin τ.nSC) (i : Fin τ.nSub) : GSem nD τ sig := (V d c i, .dma cc0_scoped4.sem)

/-- The three semaphores the tile's transfers complete on are among its own. -/
theorem ownSems0_V :
    (ownSems0 (V d (cV L) (jV L)) : sProp 𝕄)
      = iprop(semVal (semA d (cV L) (jV L)) 0 ∗ semVal (semB d (cV L) (jV L)) 0 ∗ semVal (semO d (cV L) (jV L)) 0
          ∗ bigSep ((((ownCells (V d (cV L) (jV L))).erase (semA d (cV L) (jV L))).erase (semB d (cV L) (jV L))).erase (semO d (cV L) (jV L)))
              fun g => semVal g 0) := by
  unfold SparseCore.Cfg.ownSems0
  rw [SparseCore.bigSep_erase' ((mem_ownCells (g := semA d (cV L) (jV L))).mpr ⟨rfl, by
      show (SemLoc.dma cc0_scoped0.sem : SemLoc sig).isScoped .scVector = true; decide⟩),
    SparseCore.bigSep_erase' (Finset.mem_erase.mpr ⟨by simp [semA, semB]; decide, (mem_ownCells (g := semB d (cV L) (jV L))).mpr ⟨rfl, by
      show (SemLoc.dma cc0_scoped1.sem : SemLoc sig).isScoped .scVector = true; decide⟩⟩),
    SparseCore.bigSep_erase' (Finset.mem_erase.mpr ⟨by simp [semB, semO]; decide, Finset.mem_erase.mpr ⟨by simp [semA, semO]; decide,
      (mem_ownCells (g := semO d (cV L) (jV L))).mpr ⟨rfl, by show (SemLoc.dma cc0_scoped4.sem : SemLoc sig).isScoped .scVector = true; decide⟩⟩⟩)]

/-- The three scratch buffers are among the tile's own, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

end Own

end Cert.Proof.KernelIdeal

end
-- ==== Proof.KernelIdealGroup.lean ====
/-
  One group of sixteen rows on a tile: the ten gathers of each table's lanes, and the three accumulating scatters.
-/
module

public import proofs.«01_k».proof.Proof.KernelIdealSetup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S10000000 EltTy.f32)
local notation "yW" => (Memref.whole Cert.KernelIdeal.main_v1_scv : Memref Cert.KernelIdeal.sig Kind.scVector Space.hbm Cert.KernelIdeal.S10000000 EltTy.f32)
local notation "oW" => (Memref.whole Cert.KernelIdeal.main_v2_scv : Memref Cert.KernelIdeal.sig Kind.scVector Space.hbm Cert.KernelIdeal.S32x48x16 EltTy.f32)
local notation "aW" => (Memref.whole Cert.KernelIdeal.cc0_scratch0 : Memref Cert.KernelIdeal.sig Kind.scVector Space.vmem Cert.KernelIdeal.S10080 EltTy.f32)
local notation "bW" => (Memref.whole Cert.KernelIdeal.cc0_scratch1 : Memref Cert.KernelIdeal.sig Kind.scVector Space.vmem Cert.KernelIdeal.S10080 EltTy.f32)
local notation "pW" => (Memref.whole Cert.KernelIdeal.cc0_scratch2 : Memref Cert.KernelIdeal.sig Kind.scVector Space.vmem Cert.KernelIdeal.S48x16 EltTy.f32)

section Steps

variable (d : Dev nD) (L : grid0.Coords)

abbrev aLoc (d : Dev nD) (L : grid0.Coords) : Loc nD τ sig := (V d (cV L) (jV L)).loc cc0_scratch0
abbrev bLoc (d : Dev nD) (L : grid0.Coords) : Loc nD τ sig := (V d (cV L) (jV L)).loc cc0_scratch1
abbrev pLoc (d : Dev nD) (L : grid0.Coords) : Loc nD τ sig := (V d (cV L) (jV L)).loc cc0_scratch2

/-- A gather from a table's scratch buffer, its index already checked. -/
theorem wp_gatherA {α : Type} {idxs : Fin 1 → IVec S16 32} {h : ∀ a x, (idxs a x).toNat < S10080.size a} {hl : (aW).view.Loads}
    {k : Vec F S16 .f32 → Prog (TpuEff nD τ sig (Elt F) Λ₀ (V d (cV L) (jV L)).2) α} {Q : α → sProp 𝕄} (f : Buf (Elt F) (aLoc d L)) :
    (aLoc d L ↦{fullShare} f)
      ⊢ iprop(((aLoc d L ↦{fullShare} f) -∗ wp frame (wpE (defs₀ (F := F)) 𝒱₀ (V d (cV L) (jV L)) none) Set.univ (k (loadIdx (s := S10080) (e := .f32) f idxs h)) Q)
        -∗ wp frame (wpE (defs₀ (F := F)) 𝒱₀ (V d (cV L) (jV L)) none) Set.univ (SparseCore.vectorLoadIdx aW idxs h hl >>= k) Q) := by
  have H := SparseCore.wp_vectorLoadIdx (defs := defs₀ (F := F)) 𝒱₀ (V d (cV L) (jV L)) none Set.univ (Q := Q) (base := aW) (idxs := idxs) (h := h) (hl := hl) (k := k)
    (S := Finset.univ) (q := fullShare) (f := f) (Finset.subset_univ _)
  rw [Memref.read_access_whole] at H
  exact H
theorem wp_gatherB {α : Type} {idxs : Fin 1 → IVec S16 32} {h : ∀ a x, (idxs a x).toNat < S10080.size a} {hl : (bW).view.Loads}
    {k : Vec F S16 .f32 → Prog (TpuEff nD τ sig (Elt F) Λ₀ (V d (cV L) (jV L)).2) α} {Q : α → sProp 𝕄} (f : Buf (Elt F) (bLoc d L)) :
    (bLoc d L ↦{fullShare} f)
      ⊢ iprop(((bLoc d L ↦{fullShare} f) -∗ wp frame (wpE (defs₀ (F := F)) 𝒱₀ (V d (cV L) (jV L)) none) Set.univ (k (loadIdx (s := S10080) (e := .f32) f idxs h)) Q)
        -∗ wp frame (wpE (defs₀ (F := F)) 𝒱₀ (V d (cV L) (jV L)) none) Set.univ (SparseCore.vectorLoadIdx bW idxs h hl >>= k) Q) := by
  have H := SparseCore.wp_vectorLoadIdx (defs := defs₀ (F := F)) 𝒱₀ (V d (cV L) (jV L)) none Set.univ (Q := Q) (base := bW) (idxs := idxs) (h := h) (hl := hl) (k := k)
    (S := Finset.univ) (q := fullShare) (f := f) (Finset.subset_univ _)
  rw [Memref.read_access_whole] at H
  exact H

/-- An accumulating scatter onto the tile's accumulator. -/
theorem wp_scatter {α : Type} {idxs : Fin 2 → IVec S16 32} {v : Vec F S16 .f32} {mask : IVec S16 1}
    {h : ∀ a x, (idxs a x).toNat < S48x16.size a} {hs : ((pW).access (.whole S48x16)).Stores Finset.univ}
    {k : PUnit → Prog (TpuEff nD τ sig (Elt F) Λ₀ (V d (cV L) (jV L)).2) α} {Q : α → sProp 𝕄}
    (f : Buf (Elt F) (pLoc d L)) :
    (pLoc d L ↦{fullShare} f)
      ⊢ iprop(((pLoc d L ↦{fullShare} (storeIdx (s := S48x16) (e := .f32) f idxs v mask true h : Vec F S48x16 .f32))
            -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx pW idxs v mask true h hs >>= k) Q) := by
  have H := SparseCore.wp_vectorStoreIdx (defs := defs₀ (F := F)) 𝒱₀ (V d (cV L) (jV L)) none Set.univ (Q := Q) (base := pW) (idxs := idxs) (v := v) (mask := mask) (add := true)
    (h := h) (hs := hs) (k := k) (f := f)
  rw [Memref.set_access_whole, Memref.read_access_whole, Memref.write_access_whole_univ] at H
  exact H

end Steps

/-! ## The three scatters, lane by lane -/

/-- A row's ten words, one of each of ten vectors of lanes. -/
def ten (A0 A1 A2 A3 A4 A5 A6 A7 A8 A9 : Vec F S16 .f32) (x : S16.Idx) : ℕ → F .f32
  | 0 => A0 x | 1 => A1 x | 2 => A2 x | 3 => A3 x | 4 => A4 x | 5 => A5 x | 6 => A6 x | 7 => A7 x | 8 => A8 x | _ => A9 x

/-- The lane numbers. -/
abbrev lanes : IVec S16 32 := iota .scVector S16 32 [0] iota_S16_d0_w32_scVector

theorem lanes_toNat (x : S16.Idx) : (lanes x).toNat = (x 0).val := by
  have h : (x 0).val < 16 := (x 0).isLt
  show (BitVec.ofNat 32 (0 * 16 + (x 0).val)).toNat = _
  rw [BitVec.toNat_ofNat, Nat.mod_eq_of_lt (by omega)]; omega

/-- Three accumulating scatters at rows `bin`, `bin + 16`, `bin + 32` of the lanes' own columns are, entry by entry, the
    lane's step. -/
theorem three_stores (p : Vec F S48x16 .f32) (a b : S16.Idx → ℕ → F .f32) (g : ℕ) (hg : g < 63)
    (v0 v1 v2 : IVec S16 32) (w0 w1 w2 : Vec F S16 .f32) (mask : IVec S16 1)
    (h0 : ∀ a x, ((![v0, lanes] : Fin 2 → IVec S16 32) a x).toNat < S48x16.size a)
    (h1 : ∀ a x, ((![v1, lanes] : Fin 2 → IVec S16 32) a x).toNat < S48x16.size a)
    (h2 : ∀ a x, ((![v2, lanes] : Fin 2 → IVec S16 32) a x).toNat < S48x16.size a)
    (e0 : ∀ x, v0 x = Lane.bin (a x)) (e1 : ∀ x, v1 x = IntOp.addi (Lane.bin (a x)) 16#32) (e2 : ∀ x, v2 x = IntOp.addi (Lane.bin (a x)) 32#32)
    (d0 : ∀ x, w0 x = Lane.one) (d1 : ∀ x, w1 x = Lane.hit (a x) (b x)) (d2 : ∀ x, w2 x = Lane.conf (a x))
    (em : ∀ x, mask x = IntOp.andi (IntOp.cmpi .slt (IntOp.addi (IntOp.muli (BitVec.ofNat 32 g) 16#32) (lanes x)) 1000#32) (Lane.live (a x))) :
    storeIdx (s := S48x16) (e := .f32) (storeIdx (s := S48x16) (e := .f32) (storeIdx (s := S48x16) (e := .f32) p ![v0, lanes] w0 mask true h0)
        ![v1, lanes] w1 mask true h1) ![v2, lanes] w2 mask true h2
      = fun i => if g * 16 + (i 1).val < 1000 then
          Lane.step (a (Shape.ofLane (d := S16.size) (i 1))) (b (Shape.ofLane (d := S16.size) (i 1))) (i 0).val (p i) else p i := by
  funext i
  set x : S16.Idx := Shape.ofLane (d := S16.size) (i 1) with hx
  have hi : (i 1).val < 16 := (i 1).isLt
  have hr : (i 0).val < 48 := (i 0).isLt
  have hb := Lane.bin_lt (a x)
  have n1 : (v1 x).toNat = (Lane.bin (a x)).toNat + 16 := by
    rw [e1]; show (Lane.bin (a x) + 16#32).toNat = _
    rw [BitVec.toNat_add]; simp only [BitVec.toNat_ofNat]; omega
  have n2 : (v2 x).toNat = (Lane.bin (a x)).toNat + 32 := by
    rw [e2]; show (Lane.bin (a x) + 32#32).toNat = _
    rw [BitVec.toNat_add]; simp only [BitVec.toNat_ofNat]; omega
  have n0 : (v0 x).toNat = (Lane.bin (a x)).toNat := by rw [e0]
  have hm : mask x = 1 ↔ (g * 16 + (i 1).val < 1000 ∧ Lane.live (a x) = 1) := by
    have hlt : IntOp.cmpi .slt (IntOp.addi (IntOp.muli (BitVec.ofNat 32 g) 16#32) (lanes x)) 1000#32
        = BitVec.ofBool (decide (g * 16 + (i 1).val < 1000)) := by
      show BitVec.ofBool (BitVec.slt (BitVec.ofNat 32 g * 16#32 + lanes x) 1000#32) = _
      congr 1
      have hl : lanes x = BitVec.ofNat 32 (i 1).val := by
        apply BitVec.eq_of_toNat_eq; rw [lanes_toNat, BitVec.toNat_ofNat, Nat.mod_eq_of_lt (by omega)]; rfl
      have hn : (BitVec.ofNat 32 g * 16#32 + lanes x).toNat = g * 16 + (i 1).val := by
        rw [hl, BitVec.toNat_add, BitVec.toNat_mul]; simp only [BitVec.toNat_ofNat]; omega
      rw [BitVec.slt, BitVec.toInt_eq_toNat_of_lt (by rw [hn]; omega), hn]
      have : (1000#32).toInt = 1000 := rfl
      rw [this]
      simp only [decide_eq_decide]; omega
    rw [em, hlt]
    by_cases hc : g * 16 + (i 1).val < 1000
    · have : BitVec.ofBool (decide (g * 16 + (i 1).val < 1000)) = 1#1 := by rw [decide_eq_true hc]; rfl
      rw [this]
      simp only [hc, true_and]
      generalize Lane.live (a x) = q
      revert q; decide
    · have : BitVec.ofBool (decide (g * 16 + (i 1).val < 1000)) = 0#1 := by rw [decide_eq_false hc]; rfl
      rw [this]
      simp only [hc, false_and]
      generalize Lane.live (a x) = q
      revert q; decide
  have st : ∀ (f : Vec F S48x16 .f32) (v : IVec S16 32) (w : Vec F S16 .f32) (h : ∀ a x, ((![v, lanes] : Fin 2 → IVec S16 32) a x).toNat < S48x16.size a),
      storeIdx (s := S48x16) (e := .f32) f ![v, lanes] w mask true h i
        = if mask x = 1 ∧ (i 0).val = (v x).toNat then FloatOps.idxAddf (f i) (w x) else f i :=
    fun f v w h => Lane.storeIdx_lane (d := S16.size) (s := S48x16) rfl f ![v, lanes] w mask h lanes_toNat i (i 1) rfl
  rw [st, st, st, n0, n1, n2, d0, d1, d2]
  by_cases hc : g * 16 + (i 1).val < 1000
  · rw [if_pos hc]
    unfold Lane.step
    by_cases hl : Lane.live (a x) = 1
    · have hm' : mask x = 1 := hm.mpr ⟨hc, hl⟩
      simp only [hm', hl, true_and, if_true]
      by_cases c0 : (i 0).val = (Lane.bin (a x)).toNat
      · rw [if_neg (by omega), if_neg (by omega), if_pos c0, if_pos c0]
      · rw [if_neg c0, if_neg c0]
        by_cases c1 : (i 0).val = (Lane.bin (a x)).toNat + 16
        · rw [if_neg (by omega), if_pos c1, if_pos c1]
        · rw [if_neg c1, if_neg c1]
    · have hm' : ¬ mask x = 1 := fun H => hl (hm.mp H).2
      simp only [hm', hl, false_and, if_false]
  · have hm' : ¬ mask x = 1 := fun H => hc (hm.mp H).1
    simp only [hm', hc, false_and, if_false]

/-! ## The group -/

/-- A scratch buffer's word `n` (zero past its end). -/
def scr (f : S10080.Idx → F .f32) (n : ℕ) : F .f32 :=
  if h : n < 10080 then f (fun a => ⟨n, by rw [Subsingleton.elim a 0]; exact h⟩) else Lane.zero

/-- What group `g` makes of the accumulator, from the two scratch buffers. -/
def groupVec (fa fb : S10080.Idx → F .f32) (g : ℕ) (p : S48x16.Idx → F .f32) : S48x16.Idx → F .f32 := fun i =>
  if g * 16 + (i 1).val < 1000 then
    Lane.step (fun j => scr fa ((g * 16 + (i 1).val) * 10 + j)) (fun j => scr fb ((g * 16 + (i 1).val) * 10 + j)) (i 0).val (p i)
  else p i

/-- The word index of column `j` of the group's rows. -/
theorem inb (v : IVec S16 32) (h : ∀ x, (v x).toNat < 10080) : ∀ a x, ((![v] : Fin 1 → IVec S16 32) a x).toNat < S10080.size a := by
  intro a x
  obtain rfl : a = 0 := Subsingleton.elim _ _
  exact h x

theorem load_scr (f : S10080.Idx → F .f32) (v : IVec S16 32) (h : ∀ a x, ((![v] : Fin 1 → IVec S16 32) a x).toNat < S10080.size a) (x : S16.Idx) :
    loadIdx (F := F) (s := S10080) (e := .f32) f ![v] h x = scr f (v x).toNat := by
  have hv : (v x).toNat < 10080 := h 0 x
  unfold scr; rw [dif_pos hv]
  show f _ = f _
  congr 1; funext a
  obtain rfl : a = 0 := Subsingleton.elim _ _
  rfl

theorem add_toNat (v : IVec S16 32) (hv : ∀ x, (v x).toNat + 9 < 10080) (c : BitVec 32) (hc : c.toNat ≤ 9) (x : S16.Idx) :
    (addi v (broadcast S16 c) x).toNat = (v x).toNat + c.toNat := by
  have := hv x
  show (v x + c).toNat = _
  rw [BitVec.toNat_add]; omega

theorem trips_t2 (k : Fin k0_t2_loop.trips) : k.val < 63 := lt_of_lt_of_le k.isLt k0_t2_abs.2.1

/-- The first word of each lane's row in group `k`. -/
theorem base_toNat (k : Fin k0_t2_loop.trips) (x : S16.Idx) : (k0_pay1 k0_pay100 0#32 1#32 k x).toNat = (k.val * 16 + (x 0).val) * 10 := by
  have hk := trips_t2 k
  have hx : (x 0).val < 16 := (x 0).isLt
  show (lanes x * 10#32 + (0#32 + BitVec.ofNat 32 k.val * 1#32) * 160#32).toNat = _
  rw [BitVec.toNat_add, BitVec.toNat_mul, BitVec.toNat_mul, BitVec.toNat_add, BitVec.toNat_mul, lanes_toNat]
  simp only [BitVec.toNat_ofNat]
  omega

/-- The three rows a lane's scatters name are rows of the accumulator. -/
theorem inb2 (v : IVec S16 32) (h : ∀ x, (v x).toNat < 48) : ∀ a x, ((![v, lanes] : Fin 2 → IVec S16 32) a x).toNat < S48x16.size a := by
  intro a x
  match a with
  | 0 => exact h x
  | 1 => show (lanes x).toNat < 16; rw [lanes_toNat]; exact (x 0).isLt

theorem chk20 (w : FVec F S16 .f32) : k0_chk20 lanes (k0_pay46 (k0_pay101 Lane.one) k0_pay102 w) :=
  inb2 _ fun _ => lt_trans (Lane.clamp_lt _) (by omega)
theorem chk21 (w : FVec F S16 .f32) : k0_chk21 lanes (k0_pay48 (k0_pay46 (k0_pay101 Lane.one) k0_pay102 w)) :=
  inb2 _ fun x => by
    have := Lane.clamp_lt (FloatOps.fptosi (F := F) 32 (FloatOps.mulf (k0_pay45 (k0_pay101 Lane.one) w x) Lane.fifteen))
    show (k0_pay46 (k0_pay101 Lane.one) k0_pay102 w x + 16#32).toNat < 48
    rw [BitVec.toNat_add]; change (k0_pay46 (k0_pay101 Lane.one) k0_pay102 w x).toNat < 15 at this
    simp only [BitVec.toNat_ofNat]; omega
theorem chk22 (w : FVec F S16 .f32) : k0_chk22 lanes (k0_pay49 (k0_pay46 (k0_pay101 Lane.one) k0_pay102 w)) :=
  inb2 _ fun x => by
    have := Lane.clamp_lt (FloatOps.fptosi (F := F) 32 (FloatOps.mulf (k0_pay45 (k0_pay101 Lane.one) w x) Lane.fifteen))
    show (k0_pay46 (k0_pay101 Lane.one) k0_pay102 w x + 32#32).toNat < 48
    rw [BitVec.toNat_add]; change (k0_pay46 (k0_pay101 Lane.one) k0_pay102 w x).toNat < 15 at this
    simp only [BitVec.toNat_ofNat]; omega

/-- The scattered accumulator, the ten gathered vectors of each table in it, is the group's. -/
theorem group_value (k : Fin k0_t2_loop.trips) (fa fb : S10080.Idx → F .f32) (p : Vec F S48x16 .f32)
    (A0 A1 A2 A3 A4 A5 A6 A7 A8 A9 B0 B1 B2 B3 B4 B5 B6 B7 B8 B9 : Vec F S16 .f32)
    (hA : ∀ x j, j ≤ 9 → ten A0 A1 A2 A3 A4 A5 A6 A7 A8 A9 x j = scr fa ((k.val * 16 + (x 0).val) * 10 + j))
    (hB : ∀ x j, j ≤ 9 → ten B0 B1 B2 B3 B4 B5 B6 B7 B8 B9 x j = scr fb ((k.val * 16 + (x 0).val) * 10 + j))
    {w : FVec F S16 .f32} (hw : w = k0_pay24 (k0_pay20 (k0_pay9 A0 A1 A2 A3) A4 A5 A6 A7) A8 A9)
    {t : FVec F S16 .f32} (ht : t = k0_pay44
        (k0_pay25 (k0_pay17 (k0_pay10 A0 A1 A2 A3) A4 A5 A6)
          (k0_pay18 (k0_pay7 A0 A1 A2) (k0_pay10 A0 A1 A2 A3) 0#32 k0_pay11 A4 A5 A6) (k0_pay21 A7) A8 A9)
        (k0_pay40 (k0_pay27 B0 B1) B2 B3 B4 B5 B6 B7) (k0_pay41 (k0_pay27 B0 B1) (k0_pay28 B0 B1) B2 B3 B4 B5 B6 B7) B8 B9)
    {h0 h1 h2} :
    storeIdx (s := S48x16) (e := .f32)
      (storeIdx (s := S48x16) (e := .f32)
        (storeIdx (s := S48x16) (e := .f32) p ![k0_pay46 (k0_pay101 Lane.one) k0_pay102 w, lanes] (k0_pay101 Lane.one)
          (k0_pay47 lanes (k0_pay101 Lane.one) (Scf.iv 0#32 1#32 k.val) w) true h0)
        ![k0_pay48 (k0_pay46 (k0_pay101 Lane.one) k0_pay102 w), lanes] t (k0_pay47 lanes (k0_pay101 Lane.one) (Scf.iv 0#32 1#32 k.val) w) true h1)
      ![k0_pay49 (k0_pay46 (k0_pay101 Lane.one) k0_pay102 w), lanes] (k0_pay45 (k0_pay101 Lane.one) w)
      (k0_pay47 lanes (k0_pay101 Lane.one) (Scf.iv 0#32 1#32 k.val) w) true h2
    = groupVec fa fb k.val p := by
  subst hw ht
  have hiv : Scf.iv 0#32 1#32 k.val = BitVec.ofNat 32 k.val := by
    show 0#32 + BitVec.ofNat 32 k.val * 1#32 = _
    simp
  rw [hiv]
  refine (three_stores p (ten A0 A1 A2 A3 A4 A5 A6 A7 A8 A9) (ten B0 B1 B2 B3 B4 B5 B6 B7 B8 B9) k.val (trips_t2 k) _ _ _ _ _ _ _ h0 h1 h2
    (fun _ => rfl) (fun _ => rfl) (fun _ => rfl) (fun _ => rfl) (fun _ => rfl) (fun _ => rfl) (fun _ => rfl)).trans ?_
  funext i
  unfold groupVec
  split
  · exact Lane.step_congr (fun j hj => hA _ j hj) (fun j hj => hB _ j hj) _ _
  · rfl

section Run

variable (d : Dev nD) (L : grid0.Coords)

local notation "WP" => wp frame (wpE (defs₀ (F := F)) 𝒱₀ (V d (cV L) (jV L)) none) Set.univ

set_option maxHeartbeats 4000000 in
set_option maxRecDepth 4096 in
/-- One trip of the inner loop: the two scratch buffers only read, the accumulator moved on by the group. -/
theorem group_wp (k : Fin k0_t2_loop.trips) (acc v1 : BitVec 32) (fa : Buf (Elt F) (aLoc d L)) (fb : Buf (Elt F) (bLoc d L)) (p : Buf (Elt F) (pLoc d L))
    (Q : BitVec 32 → sProp 𝕄) :
    iprop((aLoc d L ↦{fullShare} fa) ∗ (bLoc d L ↦{fullShare} fb) ∗ (pLoc d L ↦{fullShare} p)
        ∗ ((aLoc d L ↦{fullShare} fa) -∗ (bLoc d L ↦{fullShare} fb) -∗ (pLoc d L ↦{fullShare} (groupVec fa fb k.val p : Vec F S48x16 .f32)) -∗ Q 0#32))
      ⊢ WP (k0_t2_body L xW (Memref.isWhole_whole _) yW (Memref.isWhole_whole _) oW (Memref.isWhole_whole _)
          aW (Memref.isWhole_whole _) bW (Memref.isWhole_whole _) pW (Memref.isWhole_whole _) cc0_scoped0 cc0_scoped1 cc0_scoped2 cc0_scoped3 cc0_scoped4
          v1 lanes k0_pay100 Lane.one k acc) Q := by
  have hk := trips_t2 k
  have hb : ∀ x, (k0_pay1 k0_pay100 0#32 1#32 k x).toNat + 9 < 10080 := fun x => by
    have hx : (x 0).val < 16 := (x 0).isLt
    rw [base_toNat]; omega
  have hadd : ∀ c : BitVec 32, c.toNat ≤ 9 → ∀ a x, ((![addi (k0_pay1 k0_pay100 0#32 1#32 k) (broadcast S16 c)] : Fin 1 → IVec S16 32) a x).toNat < S10080.size a :=
    fun c hc => inb _ fun x => by rw [add_toNat _ hb c hc]; have := hb x; omega
  have hbase : ∀ a x, ((![k0_pay1 k0_pay100 0#32 1#32 k] : Fin 1 → IVec S16 32) a x).toNat < S10080.size a := inb _ fun x => by have := hb x; omega
  have c1 : k0_chk1 (k0_pay1 k0_pay100 0#32 1#32 k) := ⟨hbase, hbase⟩
  have c2 : k0_chk2 (k0_pay3 (k0_pay1 k0_pay100 0#32 1#32 k)) := hadd 1#32 (by decide)
  have c3 : k0_chk3 (k0_pay5 (k0_pay1 k0_pay100 0#32 1#32 k)) := hadd 2#32 (by decide)
  have c4 : k0_chk4 (k0_pay8 (k0_pay1 k0_pay100 0#32 1#32 k)) := hadd 3#32 (by decide)
  have c5 : k0_chk5 (k0_pay12 (k0_pay1 k0_pay100 0#32 1#32 k)) := hadd 4#32 (by decide)
  have c6 : k0_chk6 (k0_pay14 (k0_pay1 k0_pay100 0#32 1#32 k)) := hadd 5#32 (by decide)
  have c7 : k0_chk7 (k0_pay16 (k0_pay1 k0_pay100 0#32 1#32 k)) := hadd 6#32 (by decide)
  have c8 : k0_chk8 (k0_pay19 (k0_pay1 k0_pay100 0#32 1#32 k)) := hadd 7#32 (by decide)
  have c9 : k0_chk9 (k0_pay22 (k0_pay1 k0_pay100 0#32 1#32 k)) := hadd 8#32 (by decide)
  have c10 : k0_chk10 (k0_pay23 (k0_pay1 k0_pay100 0#32 1#32 k)) := hadd 9#32 (by decide)
  have c11 : k0_chk11 (k0_pay26 (k0_pay1 k0_pay100 0#32 1#32 k)) := hadd 1#32 (by decide)
  have c12 : k0_chk12 (addi (k0_pay1 k0_pay100 0#32 1#32 k) k0_pay29) := hadd 2#32 (by decide)
  have c13 : k0_chk13 (k0_pay31 (k0_pay1 k0_pay100 0#32 1#32 k)) := hadd 3#32 (by decide)
  have c14 : k0_chk14 (k0_pay33 (k0_pay1 k0_pay100 0#32 1#32 k)) := hadd 4#32 (by decide)
  have c15 : k0_chk15 (k0_pay35 (k0_pay1 k0_pay100 0#32 1#32 k)) := hadd 5#32 (by decide)
  have c16 : k0_chk16 (k0_pay37 (k0_pay1 k0_pay100 0#32 1#32 k)) := hadd 6#32 (by decide)
  have c17 : k0_chk17 (k0_pay39 (k0_pay1 k0_pay100 0#32 1#32 k)) := hadd 7#32 (by decide)
  have c18 : k0_chk18 (addi (k0_pay1 k0_pay100 0#32 1#32 k) k0_pay42) := hadd 8#32 (by decide)
  have c19 : k0_chk19 (k0_pay43 (k0_pay1 k0_pay100 0#32 1#32 k)) := hadd 9#32 (by decide)
  unfold k0_t2_body
  simp only [k0_part1_eq_skeleton, k0_part2_eq_skeleton, k0_part3_eq_skeleton, k0_part4_eq_skeleton, k0_part5_eq_skeleton]
  iintro ⟨Ha, Hb, Hp, HQ⟩
  rw [wp_bind]
  unfold k0_part1_skel
  simp only [Prog.lift, Prog.bind_op, Prog.bind_ret, Prog.pure_eq_ret]
  rw [wp_assume_of _ _ _ _ c1]
  iapply (wp_gatherA d L fa) $$ Ha; iintro Ha
  rw [wp_assume_of _ _ _ _ c2]
  iapply (wp_gatherA d L fa) $$ Ha; iintro Ha
  rw [wp_assume_of _ _ _ _ c3]
  iapply (wp_gatherA d L fa) $$ Ha; iintro Ha
  rw [wp_assume_of _ _ _ _ c4]
  iapply (wp_gatherA d L fa) $$ Ha; iintro Ha
  rw [wp_ret]; imodintro; dsimp only
  rw [wp_bind]; unfold k0_part2_skel
  simp only [Prog.lift, Prog.bind_op, Prog.bind_ret, Prog.pure_eq_ret]
  rw [wp_assume_of _ _ _ _ c5]
  iapply (wp_gatherA d L fa) $$ Ha; iintro Ha
  rw [wp_assume_of _ _ _ _ c6]
  iapply (wp_gatherA d L fa) $$ Ha; iintro Ha
  rw [wp_assume_of _ _ _ _ c7]
  iapply (wp_gatherA d L fa) $$ Ha; iintro Ha
  rw [wp_assume_of _ _ _ _ c8]
  iapply (wp_gatherA d L fa) $$ Ha; iintro Ha
  rw [wp_ret]; imodintro; dsimp only
  rw [wp_bind]; unfold k0_part3_skel
  simp only [Prog.lift, Prog.bind_op, Prog.bind_ret, Prog.pure_eq_ret]
  rw [wp_assume_of _ _ _ _ c9]
  iapply (wp_gatherA d L fa) $$ Ha; iintro Ha
  rw [wp_assume_of _ _ _ _ c10]
  iapply (wp_gatherA d L fa) $$ Ha; iintro Ha
  iapply (wp_gatherB d L fb) $$ Hb; iintro Hb
  rw [wp_assume_of _ _ _ _ c11]
  iapply (wp_gatherB d L fb) $$ Hb; iintro Hb
  rw [wp_ret]; imodintro; dsimp only
  rw [wp_bind]; unfold k0_part4_skel
  simp only [Prog.lift, Prog.bind_op, Prog.bind_ret, Prog.pure_eq_ret]
  rw [wp_assume_of _ _ _ _ c12]
  iapply (wp_gatherB d L fb) $$ Hb; iintro Hb
  rw [wp_assume_of _ _ _ _ c13]
  iapply (wp_gatherB d L fb) $$ Hb; iintro Hb
  rw [wp_assume_of _ _ _ _ c14]
  iapply (wp_gatherB d L fb) $$ Hb; iintro Hb
  rw [wp_assume_of _ _ _ _ c15]
  iapply (wp_gatherB d L fb) $$ Hb; iintro Hb
  rw [wp_assume_of _ _ _ _ c16]
  iapply (wp_gatherB d L fb) $$ Hb; iintro Hb
  rw [wp_assume_of _ _ _ _ c17]
  iapply (wp_gatherB d L fb) $$ Hb; iintro Hb
  rw [wp_ret]; imodintro; dsimp only
  rw [wp_bind]; unfold k0_part5_skel
  simp only [Prog.lift, Prog.bind_op, Prog.bind_ret, Prog.pure_eq_ret]
  rw [wp_assume_of _ _ _ _ c18]
  iapply (wp_gatherB d L fb) $$ Hb; iintro Hb
  rw [wp_assume_of _ _ _ _ c19]
  iapply (wp_gatherB d L fb) $$ Hb; iintro Hb
  rw [wp_assume_of _ _ _ _ (chk20 _)]
  iapply (wp_scatter d L p) $$ Hp; iintro Hp
  rw [wp_assume_of _ _ _ _ (chk21 _)]
  iapply (wp_scatter d L _) $$ Hp; iintro Hp
  rw [wp_assume_of _ _ _ _ (chk22 _)]
  rw [wp_ret]; imodintro; dsimp only
  iapply (wp_scatter d L _) $$ Hp; iintro Hp
  rw [wp_ret]; imodintro
  iapply HQ $$ Ha Hb
  iapply (Entails.of_eq (congrArg (fun f : Buf (Elt F) (pLoc d L) => (pLoc d L ↦{fullShare} f : sProp 𝕄))
    (group_value k fa fb p _ _ _ _ _ _ _ _ _ _ _ _ _ _ _ _ _ _ _ _ ?hA ?hB rfl rfl)))
  rotate_left 2
  · iexact Hp
  case hA =>
    intro x j hj
    have hx := base_toNat k x
    interval_cases j
    · exact (load_scr fa _ _ x).trans (by rw [hx]; rfl)
    all_goals exact (load_scr fa _ _ x).trans (congrArg (scr fa) ((add_toNat _ hb _ (by decide) x).trans (by rw [hx]; rfl)))
  case hB =>
    intro x j hj
    have hx := base_toNat k x
    interval_cases j
    · exact (load_scr fb _ _ x).trans (by rw [hx]; rfl)
    all_goals exact (load_scr fb _ _ x).trans (congrArg (scr fb) ((add_toNat _ hb _ (by decide) x).trans (by rw [hx]; rfl)))

end Run

end Cert.Proof.KernelIdeal

end
-- ==== Proof.KernelIdealChunk.lean ====
/-
  One chunk of a tile: the two copies that bring it to the scratch buffers, then the 63 groups of sixteen rows.
-/
module

public import Idealize.ShloMosaic.Lib.Pipeline.Value
public import proofs.«01_k».proof.Proof.KernelIdealGroup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S10000000 EltTy.f32)
local notation "yW" => (Memref.whole Cert.KernelIdeal.main_v1_scv : Memref Cert.KernelIdeal.sig Kind.scVector Space.hbm Cert.KernelIdeal.S10000000 EltTy.f32)
local notation "oW" => (Memref.whole Cert.KernelIdeal.main_v2_scv : Memref Cert.KernelIdeal.sig Kind.scVector Space.hbm Cert.KernelIdeal.S32x48x16 EltTy.f32)
local notation "aW" => (Memref.whole Cert.KernelIdeal.cc0_scratch0 : Memref Cert.KernelIdeal.sig Kind.scVector Space.vmem Cert.KernelIdeal.S10080 EltTy.f32)
local notation "bW" => (Memref.whole Cert.KernelIdeal.cc0_scratch1 : Memref Cert.KernelIdeal.sig Kind.scVector Space.vmem Cert.KernelIdeal.S10080 EltTy.f32)
local notation "pW" => (Memref.whole Cert.KernelIdeal.cc0_scratch2 : Memref Cert.KernelIdeal.sig Kind.scVector Space.vmem Cert.KernelIdeal.S48x16 EltTy.f32)

section Chunk

variable (d : Dev nD) (L : grid0.Coords)

/-- The tile's loop over its chunks runs once for each of them. -/
theorem trips_t1 : ∀ L : grid0.Coords, (k0_t1_loop L).trips = Lane.nChunks (wid L) := by decide +kernel

theorem trips_t2_eq : k0_t2_loop.trips = 63 := by decide +kernel

/-- The partial sums of a tile after its first `k` chunks. -/
def chunkVec (X Y : S10000000.Idx → F .f32) (w k : ℕ) : S48x16.Idx → F .f32 :=
  fun i => Lane.chunks (word X) (word Y) w (i 0).val (i 1).val k

/-- The partial sums of a tile after `k` chunks and the first `g` groups of the next. -/
def groupsVec (X Y : S10000000.Idx → F .f32) (w k g : ℕ) : S48x16.Idx → F .f32 :=
  fun i => Lane.groups (word X) (word Y) ((w + 32 * k) * 1000) (i 0).val (i 1).val
    (Lane.chunks (word X) (word Y) w (i 0).val (i 1).val k) g

/-- A scratch buffer holds chunk `w + 32 k` of a table in its first ten thousand words. -/
def Holds (f : S10080.Idx → F .f32) (X : S10000000.Idx → F .f32) (w k : ℕ) : Prop :=
  ∀ n, n < 10000 → scr f n = word X ((w + 32 * k) * 10000 + n)

theorem groupVec_holds {fa fb : S10080.Idx → F .f32} {X Y : S10000000.Idx → F .f32} {w k : ℕ} (ha : Holds fa X w k) (hb : Holds fb Y w k) (g : ℕ) :
    groupVec fa fb g (groupsVec X Y w k g) = groupsVec X Y w k (g + 1) := by
  funext i
  unfold groupVec groupsVec
  show _ = Lane.groupStep _ _ _ _ _ _ _
  unfold Lane.groupStep
  by_cases hr : g * 16 + (i 1).val < 1000
  · rw [if_pos hr, if_pos hr]
    refine Lane.step_congr (fun j hj => ?_) (fun j hj => ?_) _ _
    · rw [ha _ (by omega)]; unfold Lane.rowOf; congr 1; ring
    · rw [hb _ (by omega)]; unfold Lane.rowOf; congr 1; ring
  · rw [if_neg hr, if_neg hr]

theorem groupsVec_zero (X Y : S10000000.Idx → F .f32) (w k : ℕ) : groupsVec X Y w k 0 = chunkVec X Y w k := rfl

theorem groupsVec_all (X Y : S10000000.Idx → F .f32) (w k : ℕ) : groupsVec X Y w k 63 = chunkVec X Y w (k + 1) := rfl

/-- A chunk's first word, as the copies spell it. -/
theorem chunk_word (k : Fin (k0_t1_loop L).trips) (n : ℕ) (a : Fin 1) :
    (k0_off1 L k) a + 1 * n = (wid L + 32 * k.val) * 10000 + n := by
  rw [k0_off1_eq, Subsingleton.elim a 0]
  show 20000 * (L 1).val + 10000 * (L 0).val + 320000 * k.val + 1 * n = _
  unfold wid; ring

/-- The words a copy of one chunk brings. -/
abbrev chunkOf (X : S10000000.Idx → F .f32) (k : Fin (k0_t1_loop L).trips) : S10000.Idx → F .f32 :=
  fun x => X ((Rect.unit (s := S10000000) (k0_off1 L k) S10000.size (k0_off1_inb L k)).emb x)

/-- After the copy of chunk `k` the scratch buffer holds it. -/
theorem holds_of_copy (f : S10080.Idx → F .f32) (X : S10000000.Idx → F .f32) (k : Fin (k0_t1_loop L).trips) :
    Holds (updateSlice (s := S10080) f (chunkOf L X k) ![0] ⟨rfl, inb_S10080_S10000_0⟩) X (wid L) k.val := by
  intro n hn
  have hk : (wid L + 32 * k.val) * 10000 + n < 10000000 := by
    have h := k0_off1_inb L k 0
    rw [k0_off1_eq] at h
    have h' : 20000 * (L 1).val + 10000 * (L 0).val + 320000 * k.val + 10000 ≤ 10000000 := h
    unfold wid; omega
  unfold scr word
  rw [dif_pos (by omega), dif_pos hk]
  unfold updateSlice
  rw [dif_pos (fun a => ⟨by rw [Subsingleton.elim a 0]; exact Nat.zero_le _, by rw [Subsingleton.elim a 0]; show n < 0 + 10000; omega⟩)]
  refine congrArg X (funext fun a => Fin.ext ?_)
  rw [Rect.emb_apply]
  refine Eq.trans ?_ (chunk_word L k n a)
  show (k0_off1 L k) a + 1 * (n - ![0] (Fin.cast _ a)) = _
  rw [Subsingleton.elim (Fin.cast _ a) (0 : Fin 1)]
  rfl

theorem pts_x (q : PosShare TreeShare) (f : Buf (Elt F) (xLoc d)) :
    ((xW).view.loc (V d (cV L) (jV L)) ↦{q} f : sProp 𝕄) = xLoc d ↦{q} f := rfl

/-- What one trip of the loop over chunks starts from and leaves, but for the partial sums. -/
def inv1 (qx qy : PosShare TreeShare) (X : Buf (Elt F) (xLoc d)) (Y : Buf (Elt F) (yLoc d)) (O : CellTallies nD τ sig (HIx 1)) (W : Waits sig (HIx 1))
    (k : ℕ) (_ : BitVec 32) : sProp 𝕄 :=
  iprop(Transfers.MayWaits (V d (cV L) (jV L)) (none : HIx 1) O
    ∗ ((xW).view.loc (V d (cV L) (jV L)) ↦{qx} X) ∗ ((yW).view.loc (V d (cV L) (jV L)) ↦{qy} Y)
    ∗ (∃ f, (aW).view.loc (V d (cV L) (jV L)) ↦{fullShare} f) ∗ (∃ f, (bW).view.loc (V d (cV L) (jV L)) ↦{fullShare} f)
    ∗ ((pW).view.loc (V d (cV L) (jV L)) ↦{fullShare} (chunkVec X Y (wid L) k : Vec F S48x16 .f32))
    ∗ semVal (semA d (cV L) (jV L)) 0 ∗ semVal (semB d (cV L) (jV L)) 0
    ∗ ∃ W', ⌜∀ p ∈ W', p ∈ W ∨ p.2 = none⌝ ∗ owes (V d (cV L) (jV L)) O W')

/-- What the first copy leaves in its scratch buffer. -/
theorem landA (f : Buf (Elt F) (aLoc d L)) (X : Buf (Elt F) (xLoc d)) (k : Fin (k0_t1_loop L).trips) (w : S10000.Idx → F .f32) (hw : w = chunkOf L X k) :
    ((aW).view.loc (V d (cV L) (jV L)) ↦{fullShare} (aW).view.writes (Elt F) f [⟨Rect.unit (s := S10080) ![0] S10000.size inb_S10080_S10000_0, w⟩] : sProp 𝕄)
      ⊢ iprop(∃ f', ⌜Holds f' X (wid L) k.val⌝ ∗ (aLoc d L ↦{fullShare} f')) := by
  subst hw
  have e : (aW).view.writes (Elt F) f [⟨Rect.unit (s := S10080) ![0] S10000.size inb_S10080_S10000_0, chunkOf L X k⟩]
      = updateSlice (s := S10080) f (chunkOf L X k) ![0] ⟨rfl, inb_S10080_S10000_0⟩ :=
    View.write_whole_slice_unit (Val := Elt F) cc0_scratch0 ![0] S10000.size inb_S10080_S10000_0 f (chunkOf L X k)
  rw [e]
  iintro H
  iexists _
  isplitr
  · ipureintro; exact holds_of_copy L f X k
  · iexact H

/-- What the second copy leaves in its scratch buffer. -/
theorem landB (f : Buf (Elt F) (bLoc d L)) (X : Buf (Elt F) (yLoc d)) (k : Fin (k0_t1_loop L).trips) (w : S10000.Idx → F .f32) (hw : w = chunkOf L X k) :
    ((bW).view.loc (V d (cV L) (jV L)) ↦{fullShare} (bW).view.writes (Elt F) f [⟨Rect.unit (s := S10080) ![0] S10000.size inb_S10080_S10000_0, w⟩] : sProp 𝕄)
      ⊢ iprop(∃ f', ⌜Holds f' X (wid L) k.val⌝ ∗ (bLoc d L ↦{fullShare} f')) := by
  subst hw
  have e : (bW).view.writes (Elt F) f [⟨Rect.unit (s := S10080) ![0] S10000.size inb_S10080_S10000_0, chunkOf L X k⟩]
      = updateSlice (s := S10080) f (chunkOf L X k) ![0] ⟨rfl, inb_S10080_S10000_0⟩ :=
    View.write_whole_slice_unit (Val := Elt F) cc0_scratch1 ![0] S10000.size inb_S10080_S10000_0 f (chunkOf L X k)
  rw [e]
  iintro H
  iexists _
  isplitr
  · ipureintro; exact holds_of_copy L f X k
  · iexact H

/-- The inner loop's invariant: the two chunks stand, the partial sums have taken in the first groups. -/
def inv2 (X : Buf (Elt F) (xLoc d)) (Y : Buf (Elt F) (yLoc d)) (fa : Buf (Elt F) (aLoc d L)) (fb : Buf (Elt F) (bLoc d L)) (k g : ℕ) (_ : BitVec 32) : sProp 𝕄 :=
  iprop((aLoc d L ↦{fullShare} fa) ∗ (bLoc d L ↦{fullShare} fb) ∗ (pLoc d L ↦{fullShare} (groupsVec X Y (wid L) k g : Vec F S48x16 .f32)))

/-- One trip of the loop over chunks: both chunks copied and waited for, then their groups. -/
theorem chunk_wp (qx qy : PosShare TreeShare) (X : Buf (Elt F) (xLoc d)) (Y : Buf (Elt F) (yLoc d)) (O : CellTallies nD τ sig (HIx 1)) (W : Waits sig (HIx 1))
    (k : Fin (k0_t1_loop L).trips) (acc v1 : BitVec 32) :
    inv1 d L qx qy X Y O W k.val acc
      ⊢ wp frame (wpE (defs₀ (F := F)) 𝒱₀ (V d (cV L) (jV L)) none) Set.univ
        (k0_t1_body L xW (Memref.isWhole_whole _) yW (Memref.isWhole_whole _) oW (Memref.isWhole_whole _) aW (Memref.isWhole_whole _) bW (Memref.isWhole_whole _)
          pW (Memref.isWhole_whole _) cc0_scoped0 cc0_scoped1 cc0_scoped2 cc0_scoped3 cc0_scoped4 v1 lanes k0_pay100 Lane.one k acc)
        (inv1 d L qx qy X Y O W (k.val + 1)) := by
  unfold inv1 k0_t1_body
  iintro ⟨Hmw, Hx, Hy, ⟨%fa, Ha⟩, ⟨%fb, Hb⟩, Hp, HsA, HsB, %W', %hW', HO⟩
  sl_exec (disch := exact View.amount_pos _ _ (show 0 < S10000.numel by decide))
  ihave HA := (landA d L fa X k _ ?hwA) $$ Ha
  case hwA => rfl
  icases HA with ⟨%fa', %hA, Ha⟩
  ihave HB := (landB d L fb Y k _ ?hwB) $$ Hb
  case hwB => rfl
  icases HB with ⟨%fb', %hB, Hb⟩
  sl_for (inv2 d L X Y fa' fb' k.val) $$ [Ha Hb Hp]
  case region =>
    intro g acc'
    unfold inv2
    iintro ⟨Ha, Hb, Hp⟩
    iapply (group_wp d L g acc' v1 fa' fb' (groupsVec X Y (wid L) k.val g.val) _)
    isplitl [Ha]; · iexact Ha
    isplitl [Hb]; · iexact Hb
    isplitl [Hp]; · iexact Hp
    iintro Ha Hb Hp
    isplitl [Ha]; · iexact Ha
    isplitl [Hb]; · iexact Hb
    rw [groupVec_holds hA hB]
    iexact Hp
  · unfold inv2
    isplitl [Ha]; · iexact Ha
    isplitl [Hb]; · iexact Hb
    rw [groupsVec_zero]; iexact Hp
  iintro %_ HI
  unfold inv2
  icases HI with ⟨Ha, Hb, Hp⟩
  rw [show Scf.trips k0_t2_loop.lb k0_t2_loop.ub k0_t2_loop.st = 63 from trips_t2_eq, groupsVec_all]
  sl_step
  isplitl [Hmw]; · iexact Hmw
  isplitl [Hx]; · iexact Hx
  isplitl [Hy]; · iexact Hy
  isplitl [Ha]; · iexists _; iexact Ha
  isplitl [Hb]; · iexists _; iexact Hb
  isplitl [Hp]; · iexact Hp
  isplitl [HsA]; · iexact HsA
  isplitl [HsB]; · iexact HsB
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

end Chunk

end Cert.Proof.KernelIdeal

end
-- ==== Proof.KernelIdealTile.lean ====
/-
  A whole tile: the accumulator cleared row by row, the loop over the tile's chunks, the copy of the accumulator to the
  tile's row block of the partial sums.
-/
module

public import proofs.«01_k».proof.Proof.KernelIdealChunk

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S10000000 EltTy.f32)
local notation "yW" => (Memref.whole Cert.KernelIdeal.main_v1_scv : Memref Cert.KernelIdeal.sig Kind.scVector Space.hbm Cert.KernelIdeal.S10000000 EltTy.f32)
local notation "oW" => (Memref.whole Cert.KernelIdeal.main_v2_scv : Memref Cert.KernelIdeal.sig Kind.scVector Space.hbm Cert.KernelIdeal.S32x48x16 EltTy.f32)
local notation "aW" => (Memref.whole Cert.KernelIdeal.cc0_scratch0 : Memref Cert.KernelIdeal.sig Kind.scVector Space.vmem Cert.KernelIdeal.S10080 EltTy.f32)
local notation "bW" => (Memref.whole Cert.KernelIdeal.cc0_scratch1 : Memref Cert.KernelIdeal.sig Kind.scVector Space.vmem Cert.KernelIdeal.S10080 EltTy.f32)
local notation "pW" => (Memref.whole Cert.KernelIdeal.cc0_scratch2 : Memref Cert.KernelIdeal.sig Kind.scVector Space.vmem Cert.KernelIdeal.S48x16 EltTy.f32)

section Tile

variable (d : Dev nD) (L : grid0.Coords)

/-- The row block of the partial sums that the tile fills, as its copy spells it. -/
abbrev rowK (L : grid0.Coords) : Memref sig .scVector .hbm S48x16 .f32 :=
  ((oW).slice (Rect.unit (s := S32x48x16) (k0_off3 L) S1x48x16.size (k0_off3_inb L)) (fun _ => rfl)).squeeze S48x16 squeezes_S1x48x16_S48x16

/-- The tile's row block of the partial sums at contents `f`, as its copy addresses it. -/
def rowPts (f : Buf (Elt F) (oLoc d)) : sProp 𝕄 :=
  (rowK L).view.loc (V d (cV L) (jV L)) ↦[(rowK L).view.set]{fullShare} f

theorem pts_y (q : PosShare TreeShare) (f : Buf (Elt F) (yLoc d)) :
    ((yW).view.loc (V d (cV L) (jV L)) ↦{q} f : sProp 𝕄) = yLoc d ↦{q} f := rfl
theorem pts_a (f : Buf (Elt F) (aLoc d L)) :
    ((aW).view.loc (V d (cV L) (jV L)) ↦{fullShare} f : sProp 𝕄) = aLoc d L ↦{fullShare} f := rfl
theorem pts_b (f : Buf (Elt F) (bLoc d L)) :
    ((bW).view.loc (V d (cV L) (jV L)) ↦{fullShare} f : sProp 𝕄) = bLoc d L ↦{fullShare} f := rfl
theorem pts_row (f : Buf (Elt F) (oLoc d)) :
    rowPts d L f = (((oW).slice (Rect.unit (s := S32x48x16) (k0_off3 L) S1x48x16.size (k0_off3_inb L)) (fun _ => rfl)).squeeze S48x16 squeezes_S1x48x16_S48x16).view.loc
        (V d (cV L) (jV L))
      ↦[(((oW).slice (Rect.unit (s := S32x48x16) (k0_off3 L) S1x48x16.size (k0_off3_inb L)) (fun _ => rfl)).squeeze S48x16 squeezes_S1x48x16_S48x16).view.set]{fullShare} f := rfl
theorem pts_p (f : Buf (Elt F) (pLoc d L)) :
    ((pW).view.loc (V d (cV L) (jV L)) ↦{fullShare} f : sProp 𝕄) = pLoc d L ↦{fullShare} f := rfl

/-- Writes that store zeros only and cover the accumulator leave it zero. -/
theorem zeros_land (f : Buf (Elt F) (pLoc d L)) (ws : List (View.Piece (Elt F) S48x16 .f32)) (X Y : S10000000.Idx → F .f32)
    (hv : ∀ p ∈ ws, ∀ x : p.1.shape.Idx, p.2 x = (Lane.zero : F .f32)) (hc : ∀ y, ∃ p ∈ ws, y ∈ p.1.set) :
    ((pW).view.loc (V d (cV L) (jV L)) ↦{fullShare} (pW).view.writes (Elt F) f ws : sProp 𝕄)
      ⊢ ((pW).view.loc (V d (cV L) (jV L)) ↦{fullShare} (chunkVec X Y (wid L) 0 : Vec F S48x16 .f32)) := by
  refine Entails.of_eq (congrArg (fun g : Buf (Elt F) (pLoc d L) => (pLoc d L ↦{fullShare} g : sProp 𝕄)) (funext fun y => ?_))
  exact View.read_writes_apply_of_pieces (Val := Elt F) (pW).view f (fun _ => (Lane.zero : F .f32)) ws hv y (hc y)

/-- The partial sums of all tiles: row block `w` is tile `w`'s. -/
def sums (X Y : S10000000.Idx → F .f32) : S32x48x16.Idx → F .f32 :=
  fun i => Lane.partials (word X) (word Y) (i 0).val (i 1).val (i 2).val

/-- Where the tile's row block lies. -/
theorem rowK_emb (x : S48x16.Idx) (a : Fin 3) :
    ((rowK L).view.emb x a).val = (![wid L, (x 0).val, (x 1).val] : Fin 3 → ℕ) a := by
  have e : Shape.reshapeEquiv (squeezes_S1x48x16_S48x16.numel_eq) x = (fun a => Fin.cons (α := fun a : Fin 3 => Fin (S1x48x16.size a)) (0 : Fin 1) (fun b : Fin 2 => x b) a) := by
    refine Shape.reshapeEquiv_eq_of_rowMajor _ ?_
    rw [Shape.rowMajor_val_two, Shape.rowMajor_val_three]
    show (0 * _ + (x 0).val) * 16 + (x 1).val = _
    rw [Nat.zero_mul, Nat.zero_add]; rfl
  show ((Rect.unit (s := S32x48x16) (k0_off3 L) S1x48x16.size (k0_off3_inb L)).emb (Shape.reshapeEquiv (squeezes_S1x48x16_S48x16.numel_eq) x) a).val = _
  rw [e, Rect.emb_apply]
  have ho := congrFun (k0_off3_eq L) a
  refine (congrArg (· + 1 * _) ho).trans ?_
  match a with
  | 0 => show 2 * (L 1).val + (L 0).val + 1 * 0 = wid L; unfold wid; omega
  | 1 => show 0 + 1 * (x 0).val = (x 0).val; omega
  | 2 => show 0 + 1 * (x 1).val = (x 1).val; omega

/-- What the last copy leaves in the tile's row block. -/
theorem row_land (f : Buf (Elt F) (oLoc d)) (X Y : S10000000.Idx → F .f32) (w : S48x16.Idx → F .f32)
    (hw : w = chunkVec X Y (wid L) (Lane.nChunks (wid L))) :
    ((rowK L).view.loc (V d (cV L) (jV L)) ↦[(rowK L).view.set]{fullShare} (rowK L).view.writes (Elt F) f [⟨Rect.whole S48x16, w⟩] : sProp 𝕄)
      ⊢ rowPts d L (sums X Y : Vec F S32x48x16 .f32) := by
  refine Entails.of_eq (pointsTo_congr fun i hi => ?_)
  obtain ⟨x, -, rfl⟩ := Finset.mem_map.mp hi
  have e := View.write_univ_eq_writes_whole (Val := Elt F) (rowK L).view f [] w
  rw [View.writes_nil] at e
  rw [← e, View.write_emb_of_mem _ _ (Finset.mem_univ x), hw]
  have h0 := rowK_emb L x 0
  have h1 := rowK_emb L x 1
  have h2 := rowK_emb L x 2
  show Lane.chunks _ _ (wid L) (x 0).val (x 1).val (Lane.nChunks (wid L)) = Lane.partials _ _ ((rowK L).view.emb x 0).val ((rowK L).view.emb x 1).val ((rowK L).view.emb x 2).val
  rw [h0, h1, h2]
  rfl

set_option maxRecDepth 8192 in
/-- The kernel on one tile, from read shares of the two tables and the tile's row block of the partial sums. -/
theorem tile_body (hF : (K (F := F)).Facts) (qx qy : PosShare TreeShare) (X : Buf (Elt F) (xLoc d)) (Y : Buf (Elt F) (yLoc d))
    (O : CellTallies nD τ sig (HIx 1)) (W : Waits sig (HIx 1)) (hO : ∀ g, O g none = 0) :
    iprop(levAts (K (F := F)).L (K (F := F)).lev ∗ emp
        ∗ ((xLoc d ↦{qx} X) ∗ (yLoc d ↦{qy} Y) ∗ ∃ f, rowPts (F := F) d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L xW (Memref.isWhole_whole _) yW (Memref.isWhole_whole _) oW (Memref.isWhole_whole _) aW (Memref.isWhole_whole _) bW (Memref.isWhole_whole _)
            pW (Memref.isWhole_whole _) cc0_scoped0 cc0_scoped1 cc0_scoped2 cc0_scoped3 cc0_scoped4)
          fun _ => iprop(((xLoc d ↦{qx} X) ∗ (yLoc d ↦{qy} Y) ∗ rowPts d L (sums X Y : Vec F S32x48x16 .f32))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  simp only [k0_part11_eq_skeleton, k0_part12_eq_skeleton, k0_part13_eq_skeleton, k0_part14_eq_skeleton, k0_part15_eq_skeleton, k0_part16_eq_skeleton]
  unfold k0_part11_skel k0_part12_skel k0_part13_skel k0_part14_skel k0_part15_skel k0_part16_skel
  rw [(K (F := F)).scopedBufs_V hF d (cV L) (jV L), SparseCore.Cfg.scopedSems0_V (Val := Elt F) d (cV L) (jV L), ownSems0_V, ownBufs_V]
  iintro ⟨#Hlv, -, ⟨Hx, Hy, %fo, Ho⟩, ⟨⟨%fa, Ha⟩, ⟨%fb, Hb⟩, ⟨%fp, Hp⟩, Hbufs⟩, ⟨HsA, HsB, HsO, Hsems⟩, HO⟩
  ihave Hmw := ((K (F := F)).mayWaits_none (thr := V d (cV L) (jV L)) hO) $$ Hlv
  ihave Hx' := (Entails.of_eq (pts_x (F := F) d L qx X).symm) $$ Hx
  ihave Hy' := (Entails.of_eq (pts_y (F := F) d L qy Y).symm) $$ Hy
  ihave Ha' := (Entails.of_eq (pts_a (F := F) d L fa).symm) $$ Ha
  ihave Hb' := (Entails.of_eq (pts_b (F := F) d L fb).symm) $$ Hb
  ihave Hp' := (Entails.of_eq (pts_p (F := F) d L fp).symm) $$ Hp
  sl_exec
  ihave Hz := (zeros_land (F := F) d L fp _ X Y ?hv ?hc) $$ Hp'
  case hv => simp only [List.forall_mem_cons]; repeat' (first | exact fun _ => rfl | exact fun _ h => absurd h List.not_mem_nil | constructor)
  case hc => exact View.cover_of_tiled _ S1x16.size (by rfl)
  simp only [bind_assoc]
  sl_for (inv1 d L qx qy X Y O W) $$ [Hmw Hx' Hy' Ha' Hb' Hz HsA HsB HO]
  case region =>
    intro k acc
    exact chunk_wp d L qx qy X Y O W k acc _
  · unfold inv1
    isplitl [Hmw]; · iexact Hmw
    isplitl [Hx']; · iexact Hx'
    isplitl [Hy']; · iexact Hy'
    isplitl [Ha']; · iexists _; iexact Ha'
    isplitl [Hb']; · iexists _; iexact Hb'
    isplitl [Hz]; · iexact Hz
    isplitl [HsA]; · iexact HsA
    isplitl [HsB]; · iexact HsB
    iexists W; isplitr
    · ipureintro; exact fun p hp => .inl hp
    · iexact HO
  iintro %_ HI
  unfold inv1
  rw [show Scf.trips (k0_t1_loop L).lb (k0_t1_loop L).ub (k0_t1_loop L).st = Lane.nChunks (wid L) from trips_t1 L]
  icases HI with ⟨Hmw, Hx, Hy, ⟨%ga, Ha⟩, ⟨%gb, Hb⟩, Hp, HsA, HsB, %W', %hW', HO⟩
  sl_exec
  sl_for (fun _ _ => iprop(emp)) $$ []
  case region =>
    intro k _
    exact absurd k.isLt (Nat.not_lt.2 (Nat.le_trans (k0_t3_abs L).2.1 (Nat.zero_le _)))
  · iempintro
  iintro %_ -
  ihave Ho' := (Entails.of_eq (pts_row (F := F) d L fo)) $$ Ho
  sl_exec
  ihave Hrow := (row_land (F := F) d L fo X Y _ ?hw) $$ Ho'
  case hw => rfl
  sl_step
  isplitl [Hx Hy Hrow]
  · isplitl [Hx]; · iexact Hx
    isplitl [Hy]; · iexact Hy
    iexact Hrow
  isplitl [Ha Hb Hp Hbufs]
  · isplitl [Ha]; · iexists _; iexact Ha
    isplitl [Hb]; · iexists _; iexact Hb
    isplitl [Hp]; · iexists _; iexact Hp
    iexact Hbufs
  isplitl [HsA HsB HsO Hsems]
  · isplitl [HsA]; · iexact HsA
    isplitl [HsB]; · iexact HsB
    isplitl [HsO]; · iexact HsO
    iexact Hsems
  iexists _; isplitr
  rotate_left
  · iexact HO
  · ipureintro; intro p hp
    rcases Finset.mem_insert.mp hp with hp | hp
    · exact .inr (hp ▸ rfl)
    · exact hW' p hp

end Tile

end Cert.Proof.KernelIdeal

end
-- ==== Proof.KernelIdealLaunch.lean ====
/-
  The SparseCore call as the launch theorem takes it: what each tile is handed and hands back, the tile's obligation, the
  arrays dealt among the thirty-two tiles and joined again, the launch element.
-/
module

public import proofs.«01_k».proof.Proof.KernelIdealTile
public import proofs.«01_k».proof.Proof.Gen.KernelIdeal.Launch

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S10000000 EltTy.f32)
local notation "yW" => (Memref.whole Cert.KernelIdeal.main_v1_scv : Memref Cert.KernelIdeal.sig Kind.scVector Space.hbm Cert.KernelIdeal.S10000000 EltTy.f32)
local notation "oW" => (Memref.whole Cert.KernelIdeal.main_v2_scv : Memref Cert.KernelIdeal.sig Kind.scVector Space.hbm Cert.KernelIdeal.S32x48x16 EltTy.f32)
local notation "aW" => (Memref.whole Cert.KernelIdeal.cc0_scratch0 : Memref Cert.KernelIdeal.sig Kind.scVector Space.vmem Cert.KernelIdeal.S10080 EltTy.f32)
local notation "bW" => (Memref.whole Cert.KernelIdeal.cc0_scratch1 : Memref Cert.KernelIdeal.sig Kind.scVector Space.vmem Cert.KernelIdeal.S10080 EltTy.f32)
local notation "pW" => (Memref.whole Cert.KernelIdeal.cc0_scratch2 : Memref Cert.KernelIdeal.sig Kind.scVector Space.vmem Cert.KernelIdeal.S48x16 EltTy.f32)

/-! ## The tiles, and how the arrays are dealt to them -/

/-- The tile of SparseCore `c` and vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          xW (Memref.isWhole_whole _) yW (Memref.isWhole_whole _) oW (Memref.isWhole_whole _) aW (Memref.isWhole_whole _) bW (Memref.isWhole_whole _)
            pW (Memref.isWhole_whole _) cc0_scoped0 cc0_scoped1 cc0_scoped2 cc0_scoped3 cc0_scoped4) ⟨⟩ c s := rfl

omit [FloatOps F] [Named F] in
theorem nCore_zero : (K (F := F)).nCore 0 = 2 := rfl
omit [FloatOps F] [Named F] in
theorem nSub_zero : (K (F := F)).nSub 0 = 16 := rfl

/-- The tile at a pair of numbers. -/
abbrev tl (c : Fin 2) (i : Fin 16) : grid0.Coords := coordsV (Fin.cast rfl c) (Fin.cast rfl i)

/-- The share of a flat table that a tile reads under. -/
def qT (c : Fin 2) (i : Fin 16) : PosShare TreeShare :=
  Transfers.dealOf (Transfers.dealOf fullShare (Finset.univ : Finset (Fin 2)) c) (Finset.univ : Finset (Fin 16)) i

variable (m : (ℓ : Loc nD τ sig) → Buf (Elt F) ℓ)

/-- The two arguments laid flat. -/
def X (d : Dev nD) : S10000000.Idx → F .f32 :=
  fun i => shapeCast S10000000 (m ((SparseCore.T d).loc main_arg0) : Vec F S1000000x10 .f32) shapeCasts_S1000000x10_S10000000 i
def Y (d : Dev nD) : S10000000.Idx → F .f32 :=
  fun i => shapeCast S10000000 (m ((SparseCore.T d).loc main_arg1) : Vec F S1000000x10 .f32) shapeCasts_S1000000x10_S10000000 i

/-- A tile's row block at some contents. -/
abbrev rowAny (d : Dev nD) (L : grid0.Coords) : sProp 𝕄 := iprop(∃ f, rowPts (F := F) d L f)

/-- What a tile is handed: its share of both flat tables, its row block; and what it hands back, the row block at its partial sums. -/
def goT (d : Dev nD) (c : Fin 2) (i : Fin 16) : sProp 𝕄 :=
  iprop((xLoc d ↦{qT c i} (X m d : Vec F S10000000 .f32)) ∗ (yLoc d ↦{qT c i} (Y m d : Vec F S10000000 .f32)) ∗ rowAny (F := F) d (tl c i))
def tdT (d : Dev nD) (c : Fin 2) (i : Fin 16) : sProp 𝕄 :=
  iprop((xLoc d ↦{qT c i} (X m d : Vec F S10000000 .f32)) ∗ (yLoc d ↦{qT c i} (Y m d : Vec F S10000000 .f32))
    ∗ rowPts d (tl c i) (sums (X m d) (Y m d) : Vec F S32x48x16 .f32))

instance rowPts_storable (d : Dev nD) (L : grid0.Coords) (f : Buf (Elt F) (oLoc d)) : BI.Storable (upEmb : UEmb _ 𝕄) (rowPts (F := F) d L f) := by
  unfold rowPts; infer_instance
instance goT_storable (d : Dev nD) (c : Fin 2) (i : Fin 16) : BI.Storable (upEmb : UEmb _ 𝕄) (goT m d c i) := by
  unfold goT; infer_instance
instance tdT_storable (d : Dev nD) (c : Fin 2) (i : Fin 16) : BI.Storable (upEmb : UEmb _ 𝕄) (tdT m d c i) := by
  unfold tdT; infer_instance

/-- The call hands each SparseCore what its sixteen tiles are handed, and takes back what they hand back. -/
def P : (K (F := F)).Pay (nD := nD) (Val := Elt F) (Name := ℕ) (U := UU) where
  st := fun q d c => match q with | 0 => bigSep Finset.univ fun i : Fin ((K (F := F)).nSub 0) => goT m d (Fin.cast nCore_zero c) (Fin.cast nSub_zero i)
  dn := fun q d c => match q with | 0 => bigSep Finset.univ fun i : Fin ((K (F := F)).nSub 0) => tdT m d (Fin.cast nCore_zero c) (Fin.cast nSub_zero i)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => goT m d (Fin.cast nCore_zero c) (Fin.cast nSub_zero i)))
  dn q d c := match q with
    | 0 => (inferInstance : BI.Storable (upEmb : UEmb _ 𝕄)
        (bigSep Finset.univ fun i : Fin ((K (F := F)).nSub 0) => tdT m d (Fin.cast nCore_zero c) (Fin.cast nSub_zero i)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

omit [FloatOps F] [Named F] in
/-- The waits a tile records are at the kernel's own index, which the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
/-- Every tile's task runs from what it is handed to what it hands back. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (qT (Fin.cast nCore_zero c) (Fin.cast nSub_zero i)) (qT (Fin.cast nCore_zero c) (Fin.cast nSub_zero i))
    (X m d : Vec F S10000000 .f32) (Y m d : Vec F S10000000 .f32) O W hO).trans (wp_mono frame _ _ fun _ => obl_post)

/-- What a SparseCore is handed is what its tiles are. -/
theorem vecSplit : (K (F := F)).VecSplit' (P m) 0 := by
  intro d c
  show (bigSep Finset.univ fun i : Fin ((K (F := F)).nSub 0) => goT m d (Fin.cast nCore_zero c) (Fin.cast nSub_zero i)) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ bigSep Finset.univ fun i : Fin ((K (F := F)).nSub 0) => tdT m d (Fin.cast nCore_zero c) (Fin.cast nSub_zero i)))
  iintro H; imodintro
  isplitl [H]; · iexact H
  iintro H; iexact H

/-! ## The arrays as their tiles' parts -/

omit [FloatOps F] [Named F] in
/-- The elements of a tile's row block. -/
abbrev rowSet (p : Fin 2 × Fin 16) : Finset S32x48x16.Idx := (rowK (tl p.1 p.2)).view.set

theorem mem_rowSet (p : Fin 2 × Fin 16) (y : S32x48x16.Idx) : y ∈ rowSet p ↔ (y 0).val = p.2.val * 2 + p.1.val := by
  constructor
  · intro h
    obtain ⟨x, -, rfl⟩ := Finset.mem_map.mp h
    exact rowK_emb (tl p.1 p.2) x 0
  · intro h
    refine Finset.mem_map.mpr ⟨(fun a => match a with | 0 => ⟨(y 1).val, (y 1).isLt⟩ | 1 => ⟨(y 2).val, (y 2).isLt⟩ : S48x16.Idx), Finset.mem_univ _, ?_⟩
    refine funext fun a => Fin.ext ?_
    refine (rowK_emb (tl p.1 p.2) _ a).trans ?_
    match a with
    | 0 => exact h.symm
    | 1 => rfl
    | 2 => rfl

theorem rows_disjoint : ∀ p ∈ (Finset.univ : Finset (Fin 2 × Fin 16)), ∀ p' ∈ (Finset.univ : Finset (Fin 2 × Fin 16)), p ≠ p' → Disjoint (rowSet p) (rowSet p') := by
  intro p _ p' _ hne
  refine Finset.disjoint_left.mpr fun y h1 h2 => hne ?_
  rw [mem_rowSet] at h1 h2
  have a := p.1.isLt; have b := p'.1.isLt
  exact Prod.ext (Fin.ext (by omega)) (Fin.ext (by omega))

theorem rows_cover : (Finset.univ : Finset (Fin 2 × Fin 16)).biUnion rowSet = Finset.univ := by
  refine Finset.eq_univ_of_forall fun y => Finset.mem_biUnion.mpr ?_
  have hy : (y 0).val < 32 := (y 0).isLt
  refine ⟨(⟨(y 0).val % 2, Nat.mod_lt _ (by decide)⟩, ⟨(y 0).val / 2, by omega⟩), Finset.mem_univ _, ?_⟩
  rw [mem_rowSet]
  show (y 0).val = (y 0).val / 2 * 2 + (y 0).val % 2
  omega

/-- The partial sums whole are their row blocks. -/
theorem oPts_rows (d : Dev nD) (f : Buf (Elt F) (oLoc d)) :
    (oLoc d ↦{fullShare} f : sProp 𝕄) = bigSep Finset.univ fun c : Fin 2 => bigSep Finset.univ fun i : Fin 16 => rowPts d (tl c i) f := by
  rw [← bigSep_univ_prod (fun p : Fin 2 × Fin 16 => rowPts (F := F) d (tl p.1 p.2) f)]
  have h := pointsTo_biUnion (Finset.univ : Finset (Fin 2 × Fin 16)) (ℓ := oLoc d) (q := fullShare) (f := f) (Ix := HIx 1) (Val := Elt F) (Name := ℕ) (U := UU) (Lvl := ℕ) rowSet rows_disjoint
  rw [rows_cover] at h
  exact h

/-- A flat table whole is its tiles' shares. -/
theorem tab_deal (ℓ : Loc nD τ sig) (f : Buf (Elt F) ℓ) :
    (ℓ ↦{fullShare} f : sProp 𝕄) = bigSep Finset.univ fun c : Fin 2 => bigSep Finset.univ fun i : Fin 16 => ℓ ↦{qT c i} f := by
  rw [Transfers.pointsTo_deal (Finset.univ : Finset (Fin 2)) Finset.univ_nonempty fullShare]
  exact bigSep_congr fun c _ => Transfers.pointsTo_deal (Finset.univ : Finset (Fin 16)) Finset.univ_nonempty _

/-- The two flat tables and the partial sums' buffer are what the call hands the SparseCores; -/
theorem st0_intro (d : Dev nD) (f : Buf (Elt F) (oLoc d)) :
    iprop((xLoc d ↦{fullShare} (X m d : Vec F S10000000 .f32)) ∗ (yLoc d ↦{fullShare} (Y m d : Vec F S10000000 .f32)) ∗ oLoc d ↦{fullShare} f)
      ⊢ (bigSep Finset.univ fun c : Fin ((K (F := F)).nCore 0) => (P m).st 0 d c : sProp 𝕄) := by
  show _ ⊢ bigSep (Finset.univ : Finset (Fin 2)) fun c => bigSep (Finset.univ : Finset (Fin 16)) fun i => goT m d c i
  unfold goT
  simp only [bigSep_sep']
  rw [tab_deal (xLoc d), tab_deal (yLoc d), oPts_rows]
  refine sep_mono .rfl (sep_mono .rfl (bigSep_mono fun c _ => bigSep_mono fun i _ => ?_))
  exact exists_intro (Φ := fun f => rowPts (F := F) d (tl c i) f) f

/-- what it takes back is the two tables and all the partial sums. -/
theorem dn0_elim (d : Dev nD) :
    (bigSep Finset.univ fun c : Fin ((K (F := F)).nCore 0) => (P m).dn 0 d c : sProp 𝕄)
      = iprop((xLoc d ↦{fullShare} (X m d : Vec F S10000000 .f32)) ∗ (yLoc d ↦{fullShare} (Y m d : Vec F S10000000 .f32))
          ∗ oLoc d ↦{fullShare} (sums (X m d) (Y m d) : Vec F S32x48x16 .f32)) := by
  show (bigSep (Finset.univ : Finset (Fin 2)) fun c => bigSep (Finset.univ : Finset (Fin 16)) fun i => tdT m d c i) = _
  unfold tdT
  simp only [bigSep_sep']
  rw [tab_deal (xLoc d), tab_deal (yLoc d), oPts_rows]

/-! ## The launch element: the handshakes' rounds, the staging cells' rounds -/

def u₀ : UU := (initOf (K (F := F)).hsCells (K (F := F)).hsToks,
  (initOf (Pipeline.cells cfgs cellOf_inj) (Pipeline.launchToks cfgs cellOf_inj), 1))

/-- What the TensorCore is dealt for its pallas_call's staging cells. -/
def ghost (d : Dev nD) : sProp 𝕄 := iprop(Pipeline.cellsGhost cfgs (EP (F := F)) 0 d ∗ Pipeline.toksInit cfgs (EP (F := F)) 0 d)

omit [FloatOps F] [Named F] in
theorem bigSep_emp' {I : Type} (s : Finset I) : (bigSep s fun _ => iprop(emp)) = (iprop(emp) : sProp 𝕄) := bigSep_emp_const s

omit [FloatOps F] [Named F] in
theorem one_call (Φ : Fin 1 → sProp 𝕄) : bigSep Finset.univ Φ = Φ 0 := by
  rw [show (Finset.univ : Finset (Fin 1)) = {0} from rfl]; exact bigSep_singleton

theorem cells_one (d : Dev nD) : (Pipeline.cellsGhost cfgs (EP (F := F)) 0 d : sProp 𝕄)
    = bigSep (Finset.univ : Finset (Fin 1)) fun p => Pipeline.cellsGhost cfgs (EP (F := F)) p d := (one_call (F := F) (fun p => Pipeline.cellsGhost cfgs (EP (F := F)) p d)).symm

theorem toks_one (d : Dev nD) : (Pipeline.toksInit cfgs (EP (F := F)) 0 d : sProp 𝕄)
    = bigSep (Finset.univ : Finset (Fin 1)) fun p => Pipeline.toksInit cfgs (EP (F := F)) p d := (one_call (F := F) (fun p => Pipeline.toksInit cfgs (EP (F := F)) p d)).symm

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (show _ ⊢ iprop(BI.own ((EP (F := F)) (initOf (Pipeline.cells cfgs cellOf_inj) (Pipeline.launchToks cfgs cellOf_inj))) ∗ BI.own ((Emb.inr.trans (embR : Emb (UK × Counters) 𝕄)) (1 : Counters)))
    from own_pair_emb _ _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · unfold ghost
    rw [bigSep_sep']
    isplitl [Hg]
    · rw [bigSep_congr fun (d : Dev nD) _ => show _ = _ from cells_one d]; iexact Hg
    · rw [bigSep_congr fun (d : Dev nD) _ => show _ = _ from toks_one d]; iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KernelIdeal

end
-- ==== Proof.KernelIdealRegion.lean ====
/-
  The TensorCore pallas_call that combines the thirty-two tables of partial sums: its body's run, and the region it is in @main.
-/
module

public import proofs.«01_k».proof.Proof.KernelIdealLaunch
public import proofs.«01_k».proof.Proof.Gen.KernelIdeal.Launch
public import Idealize.ShloMosaic.Lib.Pipeline.ValueKit
public import Idealize.ShloMosaic.Lib.Pipeline.RegionArrays

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S10000000 EltTy.f32)
local notation "yW" => (Memref.whole Cert.KernelIdeal.main_v1_scv : Memref Cert.KernelIdeal.sig Kind.scVector Space.hbm Cert.KernelIdeal.S10000000 EltTy.f32)
local notation "oW" => (Memref.whole Cert.KernelIdeal.main_v2_scv : Memref Cert.KernelIdeal.sig Kind.scVector Space.hbm Cert.KernelIdeal.S32x48x16 EltTy.f32)
local notation "aW" => (Memref.whole Cert.KernelIdeal.cc0_scratch0 : Memref Cert.KernelIdeal.sig Kind.scVector Space.vmem Cert.KernelIdeal.S10080 EltTy.f32)
local notation "bW" => (Memref.whole Cert.KernelIdeal.cc0_scratch1 : Memref Cert.KernelIdeal.sig Kind.scVector Space.vmem Cert.KernelIdeal.S10080 EltTy.f32)
local notation "pW" => (Memref.whole Cert.KernelIdeal.cc0_scratch2 : Memref Cert.KernelIdeal.sig Kind.scVector Space.vmem Cert.KernelIdeal.S48x16 EltTy.f32)

abbrev adm : (p : Fin 1) → (pcfgs (F := F) p).Adm := fun p => (cfgs p).toPCfg_adm

/-- The single number the combining kernel leaves, over the one element of its result. -/
def combined (S : Vec F S32x48x16 .f32) : Vec F S1x1 .f32 := fun _ => k1_pay1 S

/-- What the store leaves in the one-element buffer, whatever it held. -/
theorem landed (S : Vec F S32x48x16 .f32) (S' : Vec F S32x48x16 .f32) (hS : S' = S) {f : Vec F S1x1 .f32} :
    ((Memref.whole cc1_stg1_0).view.slice (Rect.unit ![0, 0] S1x1.size inb_S1x1_S1x1_0_0)).write (Elt F) f (fun _ => k1_pay1 S') Finset.univ = combined S := by
  subst hS
  exact Memref.write_access_unit_zero_univ (Elt F) cc1_stg1_0 (funext fun a => match a with | 0 => rfl | 1 => rfl) _ f (fun _ => k1_pay1 S')

set_option maxHeartbeats 1000000 in
/-- The combining kernel: from the partial sums in its staging buffer to their combination in the result's. -/
theorem combine_body (d : Dev nD) (S : Vec F S32x48x16 .f32) (w : Vec F S1x1 .f32) (W : Waits sig (HIx 1)) (Q : PUnit → sProp 𝕄) :
    iprop(((Memref.whole cc1_stg0_0).view.loc (SparseCore.T d) ↦{fullShare} S) ∗ ((Memref.whole cc1_stg1_0).view.loc (SparseCore.T d) ↦{fullShare} w)
        ∗ owes (SparseCore.T d) 0 W
        ∗ (iprop(((Memref.whole cc1_stg0_0).view.loc (SparseCore.T d) ↦{fullShare} S) ∗ ((Memref.whole cc1_stg1_0).view.loc (SparseCore.T d) ↦{fullShare} combined S)
            ∗ owes (SparseCore.T d) 0 W) -∗ Q ⟨⟩))
      ⊢ wp frame (wpE (defs₀ (F := F)) 𝒱₀ (SparseCore.T d) none) Set.univ
        (cc1_tc_kernel (Memref.whole cc1_stg0_0) (Memref.isWhole_whole _) (Memref.whole cc1_stg1_0) (Memref.isWhole_whole _)) Q := by
  rw [cc1_tc_kernel_eq_skeleton]; unfold cc1_tc_kernel_skel
  iintro ⟨H0, H1, HO, Hk⟩
  sl_exec!
  sl_step
  iapply Hk
  isplitl [H0]; · iexact H0
  isplitl [H1]
  · iapply (Entails.of_eq (congrArg (fun g => ((Memref.whole cc1_stg1_0).view.loc (SparseCore.T d) ↦{fullShare} g : sProp 𝕄)) ?hA)) $$ H1
    case hA =>
      delta combine_body.sl.H1_1
      exact landed S _ (Memref.readAt_unit_zero (Elt F) cc1_stg0_0 (funext fun a => match a with | 0 => rfl | 1 => rfl | 2 => rfl) _ S)
  iexact HO

/-! ## The region -/

variable (m : (ℓ : Loc nD τ sig) → Buf (Elt F) ℓ)

/-- The partial sums of device `d`'s arguments, as the array the pallas_call reads. -/
def Sd (d : Dev nD) : Vec F S32x48x16 .f32 := sums (X m d) (Y m d)

/-- The recorded waits that the launch's account of the TensorCore allows after the SparseCore call. -/
def recd (d : Dev nD) : Set (SemLoc sig × HIx 1) := {p | (K (F := F)).lev (SparseCore.T d, p.1) p.2 ≤ 8 * 1}

/-- The proof data: the partial sums in, the result at whatever it held; after the body, their combination. -/
def dats (r0 : Dev nD → Vec F S1x1 .f32) (_ : Fin 1) (d : Dev nD) : Dat τ (Elt F) (HIx 1) ℕ UU ℕ cfg1 d where
  A w := match w with | ⟨0, _⟩ => Sd m d | ⟨1, _⟩ => r0 d
  after w _ := match w with | ⟨0, _⟩ => Sd m d | ⟨1, _⟩ => combined (Sd m d)
  Φ _ := iprop(emp)
  q _ := fullShare
  owed _ := 0
  recorded _ := recd (F := F) d

/-- Both windows' block index at the one point. -/
theorem idx : ∀ t : Fin cfg1.N, win1_0.index t = ![0, 0, 0] ∧ win1_1.index t = ![0, 0] :=
  (by decide +kernel : ∀ t : Fin grid1.N, _)

theorem before_in (r0 : Dev nD → Vec F S1x1 .f32) (d : Dev nD) (x : (cfg1.win 0).block.Idx → Elt F (cfg1.win 0).elt) :
    (dats m r0 0 d).before 0 t1_0 x = Sd m d := by
  unfold Dat.before; rw [if_pos (by decide)]
  show (win1_0.blk t1_0).view.read (Elt F) (Sd m d) = Sd m d
  funext y
  show Sd m d ((win1_0.blk t1_0).view.emb y) = Sd m d y
  refine congrArg (Sd m d) (funext fun a => Fin.ext ?_)
  show win1_0.index t1_0 a * S32x48x16.size a + 1 * (y a).val = (y a).val
  rw [(idx t1_0).1]
  match a with
  | 0 => simp
  | 1 => simp
  | 2 => simp

theorem body_obligation (r0 : Dev nD → Vec F S1x1 .f32) (d : Dev nD) :
    BodyObligation (dats m r0 0 d) (defs₀ (F := F)) 𝒱₀ (none : HIx 1) Set.univ := fun t => by
  obtain rfl := fin_N1 t
  rw [bigSep_W1, bigSep_W1]
  simp only [owns_whole_eq]
  unfold Dat.owesAt Pipeline.owesWithin
  rw [show (dats m r0 0 d).owed t1_0.castSucc = 0 from rfl, show (dats m r0 0 d).owed t1_0.succ = 0 from rfl]
  iintro ⟨HΦ, ⟨%W, %hW, HO⟩, ⟨%d0, %f0, %hf0, H0⟩, ⟨%d1, %f1, %hf1, H1⟩⟩
  rw [before_in] at hf0
  subst hf0
  iapply (combine_body d (Sd m d) f1 W)
  isplitl [H0]; · iexact H0
  isplitl [H1]; · iexact H1
  isplitl [HO]; · iexact HO
  iintro ⟨H0, H1, HO⟩
  isplitl [HΦ]; · dsimp only [dats]; iexact HΦ
  isplitl [HO]
  · iexists W; isplitr; · ipureintro; exact hW
    iexact HO
  isplitl [H0]
  · iexists _; isplitr; swap; (· iexact H0); ipureintro; dsimp only [dats]
  iexists _; isplitr; swap; (· iexact H1); ipureintro; dsimp only [dats]

/-- The result after the region. -/
theorem final_out (r0 : Dev nD → Vec F S1x1 .f32) (d : Dev nD) : (dats m r0 0 d).arrAt 1 cfg1.N = combined (Sd m d) := by
  refine (dats m r0 0 d).arrAt_eq_of_after_last 1 t1_0 (by decide +kernel) _ fun j => ?_
  dsimp only [dats]
  rfl

theorem in_kept (r0 : Dev nD → Vec F S1x1 .f32) (d : Dev nD) (n : ℕ) : (dats m r0 0 d).arrAt 0 n = Sd m d :=
  (dats m r0 0 d).arrAt_in 0 rfl n

/-- The one-element array the pallas_call writes. -/
abbrev rLoc (d : Dev nD) : Loc nD τ sig := (SparseCore.T d).loc main_v3

/-- The region's two arrays, one by one. -/
theorem arrays_two (r0 : Dev nD → Vec F S1x1 .f32) (d : Dev nD) (G : (w : Fin cfg1.W) → Buf (Elt F) ((cfg1.win w).arr.view.loc (SparseCore.T d))) :
    ((dats m r0 0 d).arrays G : sProp 𝕄) = iprop((oLoc d ↦{fullShare} (G 0 : Vec F S32x48x16 .f32)) ∗ (rLoc d ↦{fullShare} (G 1 : Vec F S1x1 .f32))) := by
  rw [Pipeline.arrays_eq (Pipeline.pin (pcfgs (F := F)) adm) (dats m r0) 0 d arr_whole1 ((dats m r0 0 d).share_full fun _ => rfl) G]
  exact bigSep_W1 _

-- the launch kit's facts are stated at the configuration itself, the region's fields at the pinned one: unification must
-- be let unfold plain definitions in a metavariable's type
set_option backward.isDefEq.respectTransparency.types false in
/-- The region: from the partial sums and the result's buffer to the combination in that buffer. -/
def reg0 (r0 : Dev nD → Vec F S1x1 .f32) : Pipeline.RegionSeg (pcfgs (F := F)) adm (dats m r0) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation m r0 d).loose
  hwaits := Pipeline.hwaits_of_owed_zero _ _ _ _ (K (F := F)).L (K (F := F)).lev 0 fun _ _ => rfl
  pre d := iprop((oLoc d ↦{fullShare} Sd m d) ∗ (rLoc d ↦{fullShare} r0 d) ∗ ∃ W, ⌜(K (F := F)).WBelow (SparseCore.T d) W (8 * 1)⌝ ∗ owes (SparseCore.T d) 0 W)
  post d := iprop((oLoc d ↦{fullShare} Sd m d) ∗ (rLoc d ↦{fullShare} combined (Sd m d)) ∗ ∃ W, ⌜(K (F := F)).WBelow (SparseCore.T d) W (8 * 1)⌝ ∗ owes (SparseCore.T d) 0 W)
  X _ := iprop(emp)
  Y _ := iprop(emp)
  Z _ := iprop(emp)
  hentry d := by
    rw [Pipeline.ownSems0_none, Pipeline.prefHeld_of_none _ rfl, arrays_two]
    iintro ⟨⟨Ho, Hr, HO⟩, -, -⟩
    imodintro
    isplitl [Ho Hr]
    · isplitl [Ho]; · iexact Ho
      iexact Hr
    isplitr; · iempintro
    isplitl [HO]
    · unfold Dat.owesAt Pipeline.owesWithin
      icases HO with ⟨%W, %hW, HO⟩; iexists W; isplitr; · ipureintro; exact fun p hp => Or.inl (hW p hp)
      iexact HO
    isplitr <;> iempintro
  hin d := by
    rw [show (dats m r0 0 d).Φ 0 = iprop(emp) from rfl]
    iintro -
    iempintro
  hout d := by
    rw [Pipeline.ownSems0_none, show (dats m r0 0 d).Φ (Fin.last cfg1.N) = iprop(emp) from rfl]
    show iprop(emp) ⊢ iprop(emp ∗ emp ∗ Pipeline.scopedRest spec1 d)
    rw [scopedRest1_eq]
    iintro -
    isplitr; · iempintro
    isplitr <;> iempintro
  hexit d := by
    rw [arrays_two]
    iintro ⟨⟨Ho, Hr⟩, HO, -, -⟩
    imodintro
    isplitl [Ho]
    · iapply (Entails.of_eq (congrArg (fun g : Vec F S32x48x16 .f32 => (oLoc d ↦{fullShare} g : sProp 𝕄)) (in_kept m r0 d cfg1.N))) $$ Ho
    isplitl [Hr]
    · iapply (Entails.of_eq (congrArg (fun g : Vec F S1x1 .f32 => (rLoc d ↦{fullShare} g : sProp 𝕄)) (final_out m r0 d))) $$ Hr
    unfold Dat.owesAt Pipeline.owesWithin
    icases HO with ⟨%W, %hW, HO⟩; iexists W; isplitr
    · ipureintro; intro p hp
      rcases hW hp with h | ⟨w, s, h⟩
      · exact h
      · rw [h]; exact Nat.zero_le _
    iexact HO

theorem reg0_pre (r0 : Dev nD → Vec F S1x1 .f32) (d : Dev nD) : (reg0 m r0).pre d
    = iprop((oLoc d ↦{fullShare} Sd m d) ∗ (rLoc d ↦{fullShare} r0 d) ∗ ∃ W, ⌜(K (F := F)).WBelow (SparseCore.T d) W (8 * 1)⌝ ∗ owes (SparseCore.T d) 0 W) := rfl

theorem reg0_post (r0 : Dev nD → Vec F S1x1 .f32) (d : Dev nD) : (reg0 m r0).post d
    = iprop((oLoc d ↦{fullShare} Sd m d) ∗ (rLoc d ↦{fullShare} combined (Sd m d)) ∗ ∃ W, ⌜(K (F := F)).WBelow (SparseCore.T d) W (8 * 1)⌝ ∗ owes (SparseCore.T d) 0 W) := rfl

/-- The pallas_call in @main: from the partial sums to their combination in the result's buffer, what the TensorCore owes kept. -/
theorem wp_region (d : Dev nD) (r0 : Vec F S1x1 .f32) (Φ : PUnit → sProp 𝕄) :
    iprop(levAts (K (F := F)).L (K (F := F)).lev ∗ boundary (SparseCore.T d) ∗ ghost (F := F) d
        ∗ (oLoc d ↦{fullShare} Sd m d) ∗ (rLoc d ↦{fullShare} r0) ∗ (∃ W, ⌜(K (F := F)).WBelow (SparseCore.T d) W (8 * 1)⌝ ∗ owes (SparseCore.T d) 0 W)
        ∗ (iprop(boundary (SparseCore.T d) ∗ (oLoc d ↦{fullShare} Sd m d) ∗ (rLoc d ↦{fullShare} combined (Sd m d))
            ∗ ∃ W, ⌜(K (F := F)).WBelow (SparseCore.T d) W (8 * 1)⌝ ∗ owes (SparseCore.T d) 0 W) -∗ Φ ⟨⟩))
      ⊢ wp frame (wpE ((K (F := F)).defs (D (F := F))) 𝒱 (SparseCore.T d) none) Set.univ (Prog.lift (.customCall (SparseCore.inner (Pipeline.entry 0)) ())) Φ := by
  have H0 := (K (F := F)).wp_liftProg (D (F := F)) 𝒱 (SparseCore.T d) Set.univ none
    (.op (.customCall (Pipeline.entry 0) ()) .ret : Prog (TpuEff nD τ sig (Elt F) ΛP .tc) PUnit) Φ
  refine BIBase.Entails.trans ?_ H0
  have H := (reg0 m fun _ => r0).wp (pcfgs (F := F)) adm (dats m fun _ => r0) none cellOf_inj (EP (F := F)) defs₀ 𝒱₀ (K (F := F)).L (K (F := F)).lev d none
    (fun _ h => nomatch h) .ret Φ
  rw [reg0_pre, reg0_post] at H
  refine BIBase.Entails.trans ?_ H
  unfold ghost
  iintro ⟨Hl, Hb, ⟨Hg, Ht⟩, Ho, Hr, HO, Hk⟩
  isplitl [Hk]
  · iintro ⟨Hb, Ho, Hr, HO⟩
    rw [wp_ret]; imodintro
    iapply Hk
    isplitl [Hb]; · iexact Hb
    isplitl [Ho]; · iexact Ho
    isplitl [Hr]; · iexact Hr
    iexact HO
  isplitl [Hb]; · iexact Hb
  isplitl [Ho Hr HO]
  · isplitl [Ho]; · iexact Ho
    isplitl [Hr]; · iexact Hr
    iexact HO
  isplitl [Hl]; · iexact Hl
  isplitl [Hg]; · iexact Hg
  iexact Ht

end Cert.Proof.KernelIdeal

end
-- ==== Proof.KernelIdealMain.lean ====
/-
  @main on the TensorCore — two reshapes, the SparseCore call, the combining pallas_call, a reshape — and the program's run: the
  result as a function of the arguments, the arguments unchanged.
-/
module

public import proofs.«01_k».proof.Proof.KernelIdealRegion
public import proofs.«01_k».proof.Proof.Gen.KernelIdeal.Launch
public import Idealize.ShloMosaic.Lib.Pipeline.ValueKit
public import Idealize.ShloMosaic.Lib.Pipeline.RegionArrays

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S10000000 EltTy.f32)
local notation "yW" => (Memref.whole Cert.KernelIdeal.main_v1_scv : Memref Cert.KernelIdeal.sig Kind.scVector Space.hbm Cert.KernelIdeal.S10000000 EltTy.f32)
local notation "oW" => (Memref.whole Cert.KernelIdeal.main_v2_scv : Memref Cert.KernelIdeal.sig Kind.scVector Space.hbm Cert.KernelIdeal.S32x48x16 EltTy.f32)
local notation "aW" => (Memref.whole Cert.KernelIdeal.cc0_scratch0 : Memref Cert.KernelIdeal.sig Kind.scVector Space.vmem Cert.KernelIdeal.S10080 EltTy.f32)
local notation "bW" => (Memref.whole Cert.KernelIdeal.cc0_scratch1 : Memref Cert.KernelIdeal.sig Kind.scVector Space.vmem Cert.KernelIdeal.S10080 EltTy.f32)
local notation "pW" => (Memref.whole Cert.KernelIdeal.cc0_scratch2 : Memref Cert.KernelIdeal.sig Kind.scVector Space.vmem Cert.KernelIdeal.S48x16 EltTy.f32)

open Idealize.ShloMosaic.StableHlo (held wp_hlo_within)

variable (m : (ℓ : Loc nD τ sig) → Buf (Elt F) ℓ) (ρ : Dev nD → PrngReg)

omit [FloatOps F] [Named F] in
/-- Two buffers held at a valuation are their two points-to. -/
theorem held_two (d : Dev nD) (x y : Ref sig .tc) (hne : (Proc.devRef .tc x : DevRef τ sig) ≠ Proc.devRef .tc y) (W : Valuation τ sig (Elt F)) :
    (held (SparseCore.T d) {(Proc.devRef .tc x : DevRef τ sig), Proc.devRef .tc y} W : sProp 𝕄)
      = iprop(((SparseCore.T d).loc x ↦{fullShare} W (Proc.devRef .tc x)) ∗ (SparseCore.T d).loc y ↦{fullShare} W (Proc.devRef .tc y)) := by
  unfold held
  rw [SparseCore.bigSep_insert' (by rwa [Finset.mem_singleton]), bigSep_singleton]

include m in
/-- A host reshape: the result's buffer at the operand's elements. -/
theorem wp_reshape (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hne : (Proc.devRef .tc x : DevRef τ sig) ≠ Proc.devRef .tc y)
    (f : Buf (Elt F) ((SparseCore.T d : Thread nD τ).loc x)) (g : Buf (Elt F) ((SparseCore.T d : Thread nD τ).loc y)) (Φ : PUnit → sProp 𝕄) :
    iprop(boundary (SparseCore.T d) ∗ ((SparseCore.T d).loc x ↦{fullShare} f) ∗ ((SparseCore.T d).loc y ↦{fullShare} g)
        ∗ (iprop(boundary (SparseCore.T d) ∗ ((SparseCore.T d).loc x ↦{fullShare} f)
            ∗ ((SparseCore.T d).loc y ↦{fullShare} (fun i => he ▸ shapeCast y.ty.shape f hn i : y.ty.Contents (Elt F)))) -∗ Φ ⟨⟩))
      ⊢ wp frame (wpE ((K (F := F)).defs (D (F := F))) 𝒱 (SparseCore.T d) none) Set.univ
          (hlo rfl (StableHlo.reshape x y he hn hx hy) (fun _ => .ret ⟨⟩)) Φ := by
  have hV : ∃ V : Valuation τ sig (Elt F), V (Proc.devRef .tc x) = f ∧ V (Proc.devRef .tc y) = g :=
    ⟨Function.update (Function.update (fun b => m (d, b)) (Proc.devRef .tc x) f) (Proc.devRef .tc y) g,
      (Function.update_of_ne hne _ _).trans (Function.update_self _ _ _), Function.update_self _ _ _⟩
  obtain ⟨V, hVx, hVy⟩ := hV
  iintro ⟨Hb, Hx, Hy, Hk⟩
  iapply (wp_hlo_within 𝒱 (SparseCore.T d) none Set.univ (op := StableHlo.reshape x y he hn hx hy)
    (S := {(Proc.devRef .tc x : DevRef τ sig), Proc.devRef .tc y}) (Finset.Subset.refl _) (V := V)) $$ [Hb Hx Hy]
  · isplitl [Hb]; · iexact Hb
    rw [held_two d x y hne, hVx, hVy]
    isplitl [Hx]; · iexact Hx
    iexact Hy
  rw [held_two d x y hne, StableHlo.reshape_result, hVx,
    HloOp.result_of_not_mem _ V (show (Proc.devRef .tc x : DevRef τ sig) ∉ ({(Proc.devRef .tc y : DevRef τ sig)} : Finset (DevRef τ sig)) from by rwa [Finset.mem_singleton]), hVx]
  iintro ⟨Hb, Hx, Hy⟩
  rw [wp_ret]; imodintro
  iapply Hk
  isplitl [Hb]; · iexact Hb
  isplitl [Hx]; · iexact Hx
  iexact Hy

/-- The kernel's result: the combination of the partial sums, as an array of one element. -/
def result (d : Dev nD) : Vec F S1 .f32 := fun i => shapeCast S1 (combined (Sd m d)) shapeCasts_S1x1_S1 i

abbrev argLoc (d : Dev nD) : Loc nD τ sig := (SparseCore.T d).loc main_arg0
abbrev labLoc (d : Dev nD) : Loc nD τ sig := (SparseCore.T d).loc main_arg1
abbrev zLoc (d : Dev nD) : Loc nD τ sig := (SparseCore.T d).loc main_v4

omit [FloatOps F] [Named F] in
/-- The TensorCore's arrays one by one. -/
theorem unscopedBufs_eq (d : Dev nD) (W : (b : Ref sig .tc) → Buf (Elt F) ((d.tc : Thread nD τ).loc b)) :
    (unscopedBufs d W : sProp 𝕄) = iprop((argLoc d ↦{fullShare} W main_arg0) ∗ (labLoc d ↦{fullShare} W main_arg1) ∗ (xLoc d ↦{fullShare} W main_v0)
      ∗ (yLoc d ↦{fullShare} W main_v1) ∗ (oLoc d ↦{fullShare} W main_v2) ∗ (rLoc d ↦{fullShare} W main_v3) ∗ zLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What @main leaves: the arguments as they were, the result. -/
def FIN (d : Dev nD) : sProp 𝕄 :=
  iprop((argLoc d ↦{fullShare} m (argLoc d)) ∗ (labLoc d ↦{fullShare} m (labLoc d)) ∗ zLoc d ↦{fullShare} (result m d : Vec F S1 .f32))

set_option maxHeartbeats 1000000 in
/-- @main on a device's TensorCore. -/
theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hc, Hx, Hy, Ho, Hr, Hz⟩, Hts, -⟩, HG⟩
  iapply (wp_reshape m d main_arg0 main_v0 rfl shapeCasts_S1000000x10_S10000000 _ _ (by decide) _ _) $$ [-]
  isplitl [Hb]; · iexact Hb
  isplitl [Ha]; · iexact Ha
  isplitl [Hx]; · iexact Hx
  iintro ⟨Hb, Ha, Hx⟩
  iapply (wp_reshape m d main_arg1 main_v1 rfl shapeCasts_S1000000x10_S10000000 _ _ (by decide) _ _) $$ [-]
  isplitl [Hb]; · iexact Hb
  isplitl [Hc]; · iexact Hc
  isplitl [Hy]; · iexact Hy
  iintro ⟨Hb, Hc, Hy⟩
  iapply ((K (F := F)).wp_run (D (F := F)) 𝒱 (EH := EH) (P := P m) κ d 0) $$ [-]
  isplitr; · iexact Hctx
  isplitl [Hst]; · iexact Hst
  isplitl [Hx Hy Ho]
  · iapply (st0_intro m d _) $$ [-]
    isplitl [Hx]; · iexact Hx
    isplitl [Hy]; · iexact Hy
    iexact Ho
  iintro ⟨Hst, Hdn⟩
  ihave Hdn' := (Entails.of_eq (dn0_elim m d)) $$ Hdn
  icases Hdn' with ⟨Hx, Hy, Ho⟩
  unfold SparseCore.Cfg.tcSt
  icases Hst with ⟨HO, Hst⟩
  rw [show (K (F := F)).Otc (N := 1) d ((0 : Fin 1).val + 1) = 0 from (K (F := F)).Otc_end d le_rfl, show (K (F := F)).Otc (N := 1) d 1 = 0 from (K (F := F)).Otc_end d le_rfl]
  ihave Hl := ((K (F := F)).ctx_levAts κ) $$ Hctx
  iapply (wp_region m d _ _) $$ [-]
  isplitl [Hl]; · iexact Hl
  isplitl [Hb]; · iexact Hb
  isplitl [HG]; · iexact HG
  isplitl [Ho]; · iexact Ho
  isplitl [Hr]; · iexact Hr
  isplitl [HO]; · iexact HO
  iintro ⟨Hb, Ho, Hr, HO⟩
  iapply (wp_reshape m d main_v3 main_v4 rfl shapeCasts_S1x1_S1 _ _ (by decide) _ _) $$ [-]
  isplitl [Hb]; · iexact Hb
  isplitl [Hr]; · iexact Hr
  isplitl [Hz]; · iexact Hz
  iintro ⟨Hb, Hr, Hz⟩
  imodintro
  isplitl [HO Hst]
  · isplitl [HO]; · iexact HO
    iexact Hst
  unfold FIN
  isplitl [Ha Hc Hz]
  · isplitl [Ha]; · iexact Ha
    isplitl [Hc]; · iexact Hc
    iexact Hz
  isplitl [Hb]; · iexact Hb
  iexact Hts

/-- What a final state shows of a device. -/
def fq (d : Dev nD) (s' : Phys nD τ sig (Elt F)) : Prop :=
  s'.mem.mem (zLoc d) = (result m d : Vec F S1 .f32) ∧ s'.mem.mem (argLoc d) = m (argLoc d) ∧ s'.mem.mem (labLoc d) = m (labLoc d)

theorem hfin (d : Dev nD) (s' : Phys nD τ sig (Elt F)) : iprop(FIN m d ∗ SI s') ⊢ (⌜fq m d s'⌝ : sProp 𝕄) := by
  unfold FIN fq
  iintro ⟨⟨H1, H2, H3⟩, HSI⟩
  icombine HSI H1 gives %h1
  icombine HSI H2 gives %h2
  icombine HSI H3 gives %h3
  ipureintro
  exact ⟨funext fun i => h3 i (Finset.mem_univ i), funext fun i => h1 i (Finset.mem_univ i), funext fun i => h2 i (Finset.mem_univ i)⟩

/-! ## The program's run -/

/-- Every final state: the result, the arguments unchanged, every counter at zero. -/
def QC : PUnit × MemSt nD τ sig (Elt F) → Prop := fun r =>
  (∀ d : Dev nD, r.2.mem (zLoc d) = (result m d : Vec F S1 .f32) ∧ r.2.mem (argLoc d) = m (argLoc d) ∧ r.2.mem (labLoc d) = m (labLoc d)) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof.KernelIdeal

end
-- ==== Proof.ReferenceOps.lean ====
/-
  The reference's @main as a list of host operations: a header (the sigmoid, its row maximum, the two argmaxes, their
  agreement, the bin edges) and one stretch of 36 operations per bin, the same stretch over fifteen sets of buffers.
-/
module

public import proofs.«01_k».proof.Proof.Gen.ReferenceIdeal
public import Idealize.ShloMosaic.Lib.StableHlo.Run
public import Idealize.ShloMosaic.Lib.Pipeline.Frame

@[expose] public section

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-- The concatenation of the fifteen computed edges and the last one, as a function of the two. -/
def joinEdges (a : Vec F S15 .f32) (b : Vec F S1 .f32) : Vec F S16 .f32 :=
  concatenate S16 0 [⟨S15, a⟩, ⟨S1, b⟩] concatenates_S15_S1_S16_d0

/-- The buffers of one bin: the running error it starts from, then the result of each of its 36 operations, and the place of its
    lower edge among the sixteen. -/
structure Bin where
  acc : TRef sig ⟨S1, .f32⟩
  lo1 : TRef sig ⟨S1, .f32⟩
  lo : TRef sig ⟨S_, .f32⟩
  hi1 : TRef sig ⟨S1, .f32⟩
  hi : TRef sig ⟨S_, .f32⟩
  loB : TRef sig ⟨S1000000, .f32⟩
  above : TRef sig ⟨S1000000, .i1⟩
  hiB : TRef sig ⟨S1000000, .f32⟩
  below : TRef sig ⟨S1000000, .i1⟩
  both : TRef sig ⟨S1000000, .i1⟩
  mem : TRef sig ⟨S1000000, .f32⟩
  z0 : TRef sig ⟨S_, .f32⟩
  count : TRef sig ⟨S_, .f32⟩
  rows : TRef sig ⟨S_, .f32⟩
  prop : TRef sig ⟨S_, .f32⟩
  z1 : TRef sig ⟨S_, .f32⟩
  count2 : TRef sig ⟨S_, .f32⟩
  one : TRef sig ⟨S_, .f32⟩
  safe : TRef sig ⟨S_, .f32⟩
  accMem : TRef sig ⟨S1000000, .f32⟩
  z2 : TRef sig ⟨S_, .f32⟩
  accSum : TRef sig ⟨S_, .f32⟩
  accMean : TRef sig ⟨S_, .f32⟩
  confMem : TRef sig ⟨S1000000, .f32⟩
  z3 : TRef sig ⟨S_, .f32⟩
  confSum : TRef sig ⟨S_, .f32⟩
  confMean : TRef sig ⟨S_, .f32⟩
  gap : TRef sig ⟨S_, .f32⟩
  absGap : TRef sig ⟨S_, .f32⟩
  contrib : TRef sig ⟨S_, .f32⟩
  z4 : TRef sig ⟨S_, .f32⟩
  pos : TRef sig ⟨S_, .i1⟩
  z5 : TRef sig ⟨S_, .f32⟩
  z6 : TRef sig ⟨S_, .f32⟩
  term : TRef sig ⟨S_, .f32⟩
  term1 : TRef sig ⟨S1, .f32⟩
  out : TRef sig ⟨S1, .f32⟩
  i : ℕ
  hi_i : S16.Slices ![i] S1
  hi_j : S16.Slices ![i + 1] S1

/-- The rows' confidences. -/
abbrev conf : TRef sig ⟨S1000000, .f32⟩ := .of main_v6
/-- The rows' agreements, as floats. -/
abbrev accs : TRef sig ⟨S1000000, .f32⟩ := .of main_v15
/-- The sixteen bin edges. -/
abbrev edges : TRef sig ⟨S16, .f32⟩ := .of main_v13

/-- The 36 operations of a bin. -/
abbrev binOps (B : Bin) : List (HloOp τ sig (Elt F)) :=
  [ TRef.unary edges B.lo1 (fun x : Vec F S16 .f32 => extractStridedSlice S1 ![B.i] x B.hi_i),
    TRef.reshape B.lo1 B.lo (rfl : (.f32 : EltTy) = .f32) shapeCasts_S1_S_,
    TRef.unary edges B.hi1 (fun x : Vec F S16 .f32 => extractStridedSlice S1 ![B.i + 1] x B.hi_j),
    TRef.reshape B.hi1 B.hi (rfl : (.f32 : EltTy) = .f32) shapeCasts_S1_S_,
    TRef.unary B.lo B.loB (broadcastInDim S1000000 ![] bcast_S_S1000000),
    TRef.binary conf B.loB B.above (cmpf .ogt),
    TRef.unary B.hi B.hiB (broadcastInDim S1000000 ![] bcast_S_S1000000),
    TRef.binary conf B.hiB B.below (cmpf .ole),
    TRef.binary B.above B.below B.both (andi),
    TRef.unary B.both B.mem (uitofp .f32),
    TRef.nullary B.z0 (constant S_ .f32 0x00000000#32),
    TRef.binary B.mem B.z0 B.count ((fun x v => Host.reduceAdd x v reducesTo_S1000000_S_d0 h_S_)),
    TRef.nullary B.rows (constant S_ .f32 0x49742400#32),
    TRef.binary B.count B.rows B.prop (Host.divf),
    TRef.nullary B.z1 (constant S_ .f32 0x00000000#32),
    TRef.binary B.mem B.z1 B.count2 ((fun x v => Host.reduceAdd x v reducesTo_S1000000_S_d0 h_S_)),
    TRef.nullary B.one (constant S_ .f32 0x3F800000#32),
    TRef.binary B.count2 B.one B.safe (maximumf),
    TRef.binary accs B.mem B.accMem (mulf),
    TRef.nullary B.z2 (constant S_ .f32 0x00000000#32),
    TRef.binary B.accMem B.z2 B.accSum ((fun x v => Host.reduceAdd x v reducesTo_S1000000_S_d0 h_S_)),
    TRef.binary B.accSum B.safe B.accMean (Host.divf),
    TRef.binary conf B.mem B.confMem (mulf),
    TRef.nullary B.z3 (constant S_ .f32 0x00000000#32),
    TRef.binary B.confMem B.z3 B.confSum ((fun x v => Host.reduceAdd x v reducesTo_S1000000_S_d0 h_S_)),
    TRef.binary B.confSum B.safe B.confMean (Host.divf),
    TRef.binary B.confMean B.accMean B.gap (subf),
    TRef.unary B.gap B.absGap (Host.absf),
    TRef.binary B.absGap B.prop B.contrib (mulf),
    TRef.nullary B.z4 (constant S_ .f32 0x00000000#32),
    TRef.binary B.prop B.z4 B.pos (cmpf .ogt),
    TRef.nullary B.z5 (constant S_ .f32 0x00000000#32),
    TRef.unary B.z5 B.z6 id,
    TRef.ternary B.pos B.contrib B.z6 B.term select,
    TRef.unary B.term B.term1 (broadcastInDim S1 ![] bcast_S_S1),
    TRef.binary B.acc B.term1 B.out (addf) ]

/-- The buffers a bin's operations write, in order. -/
abbrev binOuts (B : Bin) : List (Ref sig .tc) :=
  [B.lo1.ref, B.lo.ref, B.hi1.ref, B.hi.ref, B.loB.ref, B.above.ref, B.hiB.ref, B.below.ref, B.both.ref, B.mem.ref, B.z0.ref, B.count.ref, B.rows.ref, B.prop.ref, B.z1.ref, B.count2.ref, B.one.ref, B.safe.ref, B.accMem.ref, B.z2.ref, B.accSum.ref, B.accMean.ref, B.confMem.ref, B.z3.ref, B.confSum.ref, B.confMean.ref, B.gap.ref, B.absGap.ref, B.contrib.ref, B.z4.ref, B.pos.ref, B.z5.ref, B.z6.ref, B.term.ref, B.term1.ref, B.out.ref]

/-- The buffers of bin 0. -/
abbrev bin0 : Bin :=
  ⟨.of main_v14, .of main_v16, .of main_v17, .of main_v18, .of main_v19, .of main_v20, .of main_v21, .of main_v22, .of main_v23, .of main_v24, .of main_v25, .of main_cst_6, .of main_v26, .of main_cst_7, .of main_v27, .of main_cst_8, .of main_v28, .of main_cst_9, .of main_v29, .of main_v30, .of main_cst_10, .of main_v31, .of main_v32, .of main_v33, .of main_cst_11, .of main_v34, .of main_v35, .of main_v36, .of main_v37, .of main_v38, .of main_cst_12, .of main_v39, .of main_cst_13, .of main_call3_v0, .of main_v40, .of main_v41, .of main_v42, 0, slices_S16_S1_0, slices_S16_S1_1⟩
/-- The buffers of bin 1. -/
abbrev bin1 : Bin :=
  ⟨.of main_v42, .of main_v43, .of main_v44, .of main_v45, .of main_v46, .of main_v47, .of main_v48, .of main_v49, .of main_v50, .of main_v51, .of main_v52, .of main_cst_14, .of main_v53, .of main_cst_15, .of main_v54, .of main_cst_16, .of main_v55, .of main_cst_17, .of main_v56, .of main_v57, .of main_cst_18, .of main_v58, .of main_v59, .of main_v60, .of main_cst_19, .of main_v61, .of main_v62, .of main_v63, .of main_v64, .of main_v65, .of main_cst_20, .of main_v66, .of main_cst_21, .of main_call4_v0, .of main_v67, .of main_v68, .of main_v69, 1, slices_S16_S1_1, slices_S16_S1_2⟩
/-- The buffers of bin 2. -/
abbrev bin2 : Bin :=
  ⟨.of main_v69, .of main_v70, .of main_v71, .of main_v72, .of main_v73, .of main_v74, .of main_v75, .of main_v76, .of main_v77, .of main_v78, .of main_v79, .of main_cst_22, .of main_v80, .of main_cst_23, .of main_v81, .of main_cst_24, .of main_v82, .of main_cst_25, .of main_v83, .of main_v84, .of main_cst_26, .of main_v85, .of main_v86, .of main_v87, .of main_cst_27, .of main_v88, .of main_v89, .of main_v90, .of main_v91, .of main_v92, .of main_cst_28, .of main_v93, .of main_cst_29, .of main_call5_v0, .of main_v94, .of main_v95, .of main_v96, 2, slices_S16_S1_2, slices_S16_S1_3⟩
/-- The buffers of bin 3. -/
abbrev bin3 : Bin :=
  ⟨.of main_v96, .of main_v97, .of main_v98, .of main_v99, .of main_v100, .of main_v101, .of main_v102, .of main_v103, .of main_v104, .of main_v105, .of main_v106, .of main_cst_30, .of main_v107, .of main_cst_31, .of main_v108, .of main_cst_32, .of main_v109, .of main_cst_33, .of main_v110, .of main_v111, .of main_cst_34, .of main_v112, .of main_v113, .of main_v114, .of main_cst_35, .of main_v115, .of main_v116, .of main_v117, .of main_v118, .of main_v119, .of main_cst_36, .of main_v120, .of main_cst_37, .of main_call6_v0, .of main_v121, .of main_v122, .of main_v123, 3, slices_S16_S1_3, slices_S16_S1_4⟩
/-- The buffers of bin 4. -/
abbrev bin4 : Bin :=
  ⟨.of main_v123, .of main_v124, .of main_v125, .of main_v126, .of main_v127, .of main_v128, .of main_v129, .of main_v130, .of main_v131, .of main_v132, .of main_v133, .of main_cst_38, .of main_v134, .of main_cst_39, .of main_v135, .of main_cst_40, .of main_v136, .of main_cst_41, .of main_v137, .of main_v138, .of main_cst_42, .of main_v139, .of main_v140, .of main_v141, .of main_cst_43, .of main_v142, .of main_v143, .of main_v144, .of main_v145, .of main_v146, .of main_cst_44, .of main_v147, .of main_cst_45, .of main_call7_v0, .of main_v148, .of main_v149, .of main_v150, 4, slices_S16_S1_4, slices_S16_S1_5⟩
/-- The buffers of bin 5. -/
abbrev bin5 : Bin :=
  ⟨.of main_v150, .of main_v151, .of main_v152, .of main_v153, .of main_v154, .of main_v155, .of main_v156, .of main_v157, .of main_v158, .of main_v159, .of main_v160, .of main_cst_46, .of main_v161, .of main_cst_47, .of main_v162, .of main_cst_48, .of main_v163, .of main_cst_49, .of main_v164, .of main_v165, .of main_cst_50, .of main_v166, .of main_v167, .of main_v168, .of main_cst_51, .of main_v169, .of main_v170, .of main_v171, .of main_v172, .of main_v173, .of main_cst_52, .of main_v174, .of main_cst_53, .of main_call8_v0, .of main_v175, .of main_v176, .of main_v177, 5, slices_S16_S1_5, slices_S16_S1_6⟩
/-- The buffers of bin 6. -/
abbrev bin6 : Bin :=
  ⟨.of main_v177, .of main_v178, .of main_v179, .of main_v180, .of main_v181, .of main_v182, .of main_v183, .of main_v184, .of main_v185, .of main_v186, .of main_v187, .of main_cst_54, .of main_v188, .of main_cst_55, .of main_v189, .of main_cst_56, .of main_v190, .of main_cst_57, .of main_v191, .of main_v192, .of main_cst_58, .of main_v193, .of main_v194, .of main_v195, .of main_cst_59, .of main_v196, .of main_v197, .of main_v198, .of main_v199, .of main_v200, .of main_cst_60, .of main_v201, .of main_cst_61, .of main_call9_v0, .of main_v202, .of main_v203, .of main_v204, 6, slices_S16_S1_6, slices_S16_S1_7⟩
/-- The buffers of bin 7. -/
abbrev bin7 : Bin :=
  ⟨.of main_v204, .of main_v205, .of main_v206, .of main_v207, .of main_v208, .of main_v209, .of main_v210, .of main_v211, .of main_v212, .of main_v213, .of main_v214, .of main_cst_62, .of main_v215, .of main_cst_63, .of main_v216, .of main_cst_64, .of main_v217, .of main_cst_65, .of main_v218, .of main_v219, .of main_cst_66, .of main_v220, .of main_v221, .of main_v222, .of main_cst_67, .of main_v223, .of main_v224, .of main_v225, .of main_v226, .of main_v227, .of main_cst_68, .of main_v228, .of main_cst_69, .of main_call10_v0, .of main_v229, .of main_v230, .of main_v231, 7, slices_S16_S1_7, slices_S16_S1_8⟩
/-- The buffers of bin 8. -/
abbrev bin8 : Bin :=
  ⟨.of main_v231, .of main_v232, .of main_v233, .of main_v234, .of main_v235, .of main_v236, .of main_v237, .of main_v238, .of main_v239, .of main_v240, .of main_v241, .of main_cst_70, .of main_v242, .of main_cst_71, .of main_v243, .of main_cst_72, .of main_v244, .of main_cst_73, .of main_v245, .of main_v246, .of main_cst_74, .of main_v247, .of main_v248, .of main_v249, .of main_cst_75, .of main_v250, .of main_v251, .of main_v252, .of main_v253, .of main_v254, .of main_cst_76, .of main_v255, .of main_cst_77, .of main_call11_v0, .of main_v256, .of main_v257, .of main_v258, 8, slices_S16_S1_8, slices_S16_S1_9⟩
/-- The buffers of bin 9. -/
abbrev bin9 : Bin :=
  ⟨.of main_v258, .of main_v259, .of main_v260, .of main_v261, .of main_v262, .of main_v263, .of main_v264, .of main_v265, .of main_v266, .of main_v267, .of main_v268, .of main_cst_78, .of main_v269, .of main_cst_79, .of main_v270, .of main_cst_80, .of main_v271, .of main_cst_81, .of main_v272, .of main_v273, .of main_cst_82, .of main_v274, .of main_v275, .of main_v276, .of main_cst_83, .of main_v277, .of main_v278, .of main_v279, .of main_v280, .of main_v281, .of main_cst_84, .of main_v282, .of main_cst_85, .of main_call12_v0, .of main_v283, .of main_v284, .of main_v285, 9, slices_S16_S1_9, slices_S16_S1_10⟩
/-- The buffers of bin 10. -/
abbrev bin10 : Bin :=
  ⟨.of main_v285, .of main_v286, .of main_v287, .of main_v288, .of main_v289, .of main_v290, .of main_v291, .of main_v292, .of main_v293, .of main_v294, .of main_v295, .of main_cst_86, .of main_v296, .of main_cst_87, .of main_v297, .of main_cst_88, .of main_v298, .of main_cst_89, .of main_v299, .of main_v300, .of main_cst_90, .of main_v301, .of main_v302, .of main_v303, .of main_cst_91, .of main_v304, .of main_v305, .of main_v306, .of main_v307, .of main_v308, .of main_cst_92, .of main_v309, .of main_cst_93, .of main_call13_v0, .of main_v310, .of main_v311, .of main_v312, 10, slices_S16_S1_10, slices_S16_S1_11⟩
/-- The buffers of bin 11. -/
abbrev bin11 : Bin :=
  ⟨.of main_v312, .of main_v313, .of main_v314, .of main_v315, .of main_v316, .of main_v317, .of main_v318, .of main_v319, .of main_v320, .of main_v321, .of main_v322, .of main_cst_94, .of main_v323, .of main_cst_95, .of main_v324, .of main_cst_96, .of main_v325, .of main_cst_97, .of main_v326, .of main_v327, .of main_cst_98, .of main_v328, .of main_v329, .of main_v330, .of main_cst_99, .of main_v331, .of main_v332, .of main_v333, .of main_v334, .of main_v335, .of main_cst_100, .of main_v336, .of main_cst_101, .of main_call14_v0, .of main_v337, .of main_v338, .of main_v339, 11, slices_S16_S1_11, slices_S16_S1_12⟩
/-- The buffers of bin 12. -/
abbrev bin12 : Bin :=
  ⟨.of main_v339, .of main_v340, .of main_v341, .of main_v342, .of main_v343, .of main_v344, .of main_v345, .of main_v346, .of main_v347, .of main_v348, .of main_v349, .of main_cst_102, .of main_v350, .of main_cst_103, .of main_v351, .of main_cst_104, .of main_v352, .of main_cst_105, .of main_v353, .of main_v354, .of main_cst_106, .of main_v355, .of main_v356, .of main_v357, .of main_cst_107, .of main_v358, .of main_v359, .of main_v360, .of main_v361, .of main_v362, .of main_cst_108, .of main_v363, .of main_cst_109, .of main_call15_v0, .of main_v364, .of main_v365, .of main_v366, 12, slices_S16_S1_12, slices_S16_S1_13⟩
/-- The buffers of bin 13. -/
abbrev bin13 : Bin :=
  ⟨.of main_v366, .of main_v367, .of main_v368, .of main_v369, .of main_v370, .of main_v371, .of main_v372, .of main_v373, .of main_v374, .of main_v375, .of main_v376, .of main_cst_110, .of main_v377, .of main_cst_111, .of main_v378, .of main_cst_112, .of main_v379, .of main_cst_113, .of main_v380, .of main_v381, .of main_cst_114, .of main_v382, .of main_v383, .of main_v384, .of main_cst_115, .of main_v385, .of main_v386, .of main_v387, .of main_v388, .of main_v389, .of main_cst_116, .of main_v390, .of main_cst_117, .of main_call16_v0, .of main_v391, .of main_v392, .of main_v393, 13, slices_S16_S1_13, slices_S16_S1_14⟩
/-- The buffers of bin 14. -/
abbrev bin14 : Bin :=
  ⟨.of main_v393, .of main_v394, .of main_v395, .of main_v396, .of main_v397, .of main_v398, .of main_v399, .of main_v400, .of main_v401, .of main_v402, .of main_v403, .of main_cst_118, .of main_v404, .of main_cst_119, .of main_v405, .of main_cst_120, .of main_v406, .of main_cst_121, .of main_v407, .of main_v408, .of main_cst_122, .of main_v409, .of main_v410, .of main_v411, .of main_cst_123, .of main_v412, .of main_v413, .of main_v414, .of main_v415, .of main_v416, .of main_cst_124, .of main_v417, .of main_cst_125, .of main_call17_v0, .of main_v418, .of main_v419, .of main_v420, 14, slices_S16_S1_14, slices_S16_S1_15⟩

/-- The header's operations: the sigmoid and its maximum over a row. -/
abbrev headConf : List (HloOp τ sig (Elt F)) :=
  [ TRef.unary (TRef.of (T := ⟨S1000000x10, .f32⟩) main_arg0) (TRef.of (T := ⟨S1000000x10, .f32⟩) main_v0) (Host.negf),
    TRef.unary (TRef.of (T := ⟨S1000000x10, .f32⟩) main_v0) (TRef.of (T := ⟨S1000000x10, .f32⟩) main_v1) (Host.exp),
    TRef.nullary (TRef.of (T := ⟨S_, .f32⟩) main_cst) (constant S_ .f32 0x3F800000#32),
    TRef.unary (TRef.of (T := ⟨S_, .f32⟩) main_cst) (TRef.of (T := ⟨S1000000x10, .f32⟩) main_v2) (broadcastInDim S1000000x10 ![] bcast_S_S1000000x10),
    TRef.binary (TRef.of (T := ⟨S1000000x10, .f32⟩) main_v2) (TRef.of (T := ⟨S1000000x10, .f32⟩) main_v1) (TRef.of (T := ⟨S1000000x10, .f32⟩) main_v3) (addf),
    TRef.nullary (TRef.of (T := ⟨S_, .f32⟩) main_cst_0) (constant S_ .f32 0x3F800000#32),
    TRef.unary (TRef.of (T := ⟨S_, .f32⟩) main_cst_0) (TRef.of (T := ⟨S1000000x10, .f32⟩) main_v4) (broadcastInDim S1000000x10 ![] bcast_S_S1000000x10),
    TRef.binary (TRef.of (T := ⟨S1000000x10, .f32⟩) main_v4) (TRef.of (T := ⟨S1000000x10, .f32⟩) main_v3) (TRef.of (T := ⟨S1000000x10, .f32⟩) main_v5) (Host.divf),
    TRef.nullary (TRef.of (T := ⟨S_, .f32⟩) main_cst_1) (constant S_ .f32 0xFF800000#32),
    StableHlo.binary main_v5 main_cst_1 main_v6 ((fun x v => Host.reduce FloatOps.maximumf x v reducesTo_S1000000x10_S1000000_d1 h_S_) : (⟨S1000000x10, .f32⟩ : BufTy).Contents (Elt F) → (⟨S_, .f32⟩ : BufTy).Contents (Elt F) → (⟨S1000000, .f32⟩ : BufTy).Contents (Elt F)) ]

/-- The buffers that `headConf` writes, in order. -/
abbrev headConfOuts : List (Ref sig .tc) :=
  [main_v0, main_v1, main_cst, main_v2, main_v3, main_cst_0, main_v4, main_v5, main_cst_1, main_v6]

/-- The header's operations: the argmax of the labels, the argmax of the predictions, and whether they agree. -/
abbrev headAcc : List (HloOp τ sig (Elt F)) :=
  [ TRef.nullary (TRef.of (T := ⟨S1000000x10, .i32⟩) main_call0_v0) (iotaInDim S1000000x10 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1000000x10, .f32⟩) main_arg1) (TRef.of (T := ⟨S1000000x10, .i32⟩) main_call0_v0) (TRef.of (T := ⟨S_, .f32⟩) main_call0_cst) (TRef.of (T := ⟨S_, .i32⟩) main_call0_c) (TRef.of (T := ⟨S1000000, .f32⟩) main_call0_v1_0) (fun x y u v j => (Host.argReduce reducer_argmax_f32_i32 x y u v reducesTo_S1000000x10_S1000000_d1 h_S_ j).1),
    TRef.quaternary (TRef.of (T := ⟨S1000000x10, .f32⟩) main_arg1) (TRef.of (T := ⟨S1000000x10, .i32⟩) main_call0_v0) (TRef.of (T := ⟨S_, .f32⟩) main_call0_cst) (TRef.of (T := ⟨S_, .i32⟩) main_call0_c) (TRef.of (T := ⟨S1000000, .i32⟩) main_v7) (fun x y u v j => (Host.argReduce reducer_argmax_f32_i32 x y u v reducesTo_S1000000x10_S1000000_d1 h_S_ j).2),
    TRef.nullary (TRef.of (T := ⟨S_, .f32⟩) main_cst_2) (constant S_ .f32 0x3F000000#32),
    TRef.unary (TRef.of (T := ⟨S_, .f32⟩) main_cst_2) (TRef.of (T := ⟨S1000000x10, .f32⟩) main_v8) (broadcastInDim S1000000x10 ![] bcast_S_S1000000x10),
    TRef.binary (TRef.of (T := ⟨S1000000x10, .f32⟩) main_v5) (TRef.of (T := ⟨S1000000x10, .f32⟩) main_v8) (TRef.of (T := ⟨S1000000x10, .i1⟩) main_v9) (cmpf .oge),
    TRef.unary (TRef.of (T := ⟨S1000000x10, .i1⟩) main_v9) (TRef.of (T := ⟨S1000000x10, .i32⟩) main_v10) ((extui 32 · natLt_1_32)),
    TRef.nullary (TRef.of (T := ⟨S1000000x10, .i32⟩) main_call1_v0) (iotaInDim S1000000x10 32 1),
    TRef.nullary (TRef.of (T := ⟨S_, .i32⟩) main_call1_c) (constantI S_ 32 2147483648#32),
    TRef.nullary (TRef.of (T := ⟨S_, .i32⟩) main_call1_c_0) (constantI S_ 32 0#32),
    TRef.quaternary (TRef.of (T := ⟨S1000000x10, .i32⟩) main_v10) (TRef.of (T := ⟨S1000000x10, .i32⟩) main_call1_v0) (TRef.of (T := ⟨S_, .i32⟩) main_call1_c) (TRef.of (T := ⟨S_, .i32⟩) main_call1_c_0) (TRef.of (T := ⟨S1000000, .i32⟩) main_call1_v1_0) (fun x y u v j => (Host.reduce2 reducer_argmax_i32_i32 x y u v reducesTo_S1000000x10_S1000000_d1 h_S_ j).1),
    TRef.quaternary (TRef.of (T := ⟨S1000000x10, .i32⟩) main_v10) (TRef.of (T := ⟨S1000000x10, .i32⟩) main_call1_v0) (TRef.of (T := ⟨S_, .i32⟩) main_call1_c) (TRef.of (T := ⟨S_, .i32⟩) main_call1_c_0) (TRef.of (T := ⟨S1000000, .i32⟩) main_v11) (fun x y u v j => (Host.reduce2 reducer_argmax_i32_i32 x y u v reducesTo_S1000000x10_S1000000_d1 h_S_ j).2),
    TRef.binary (TRef.of (T := ⟨S1000000, .i32⟩) main_v11) (TRef.of (T := ⟨S1000000, .i32⟩) main_v7) (TRef.of (T := ⟨S1000000, .i1⟩) main_v12) (cmpi .eq) ]

/-- The buffers that `headAcc` writes, in order. -/
abbrev headAccOuts : List (Ref sig .tc) :=
  [main_call0_v0, main_call0_cst, main_call0_c, main_call0_v1_0, main_v7, main_cst_2, main_v8, main_v9, main_v10, main_call1_v0, main_call1_c, main_call1_c_0, main_call1_v1_0, main_v11, main_v12]

/-- The header's operations: the bin edges, the error before any bin, and the agreement as a float. -/
abbrev headEdges : List (HloOp τ sig (Elt F)) :=
  [ TRef.nullary (TRef.of (T := ⟨S_, .f32⟩) main_cst_3) (constant S_ .f32 0x00000000#32),
    TRef.nullary (TRef.of (T := ⟨S_, .f32⟩) main_cst_4) (constant S_ .f32 0x3F800000#32),
    TRef.unary (TRef.of (T := ⟨S_, .f32⟩) main_cst_3) (TRef.of (T := ⟨S_, .f32⟩) main_call2_v0) id,
    TRef.unary (TRef.of (T := ⟨S_, .f32⟩) main_cst_4) (TRef.of (T := ⟨S_, .f32⟩) main_call2_v1) id,
    TRef.binary (TRef.of (T := ⟨S_, .f32⟩) main_call2_v1) (TRef.of (T := ⟨S_, .f32⟩) main_call2_v0) (TRef.of (T := ⟨S_, .f32⟩) main_call2_v2) subf,
    TRef.nullary (TRef.of (T := ⟨S_, .f32⟩) main_call2_cst) (constant S_ .f32 0x41700000#32),
    TRef.binary (TRef.of (T := ⟨S_, .f32⟩) main_call2_v2) (TRef.of (T := ⟨S_, .f32⟩) main_call2_cst) (TRef.of (T := ⟨S_, .f32⟩) main_call2_v3) Host.divf,
    TRef.nullary (TRef.of (T := ⟨S15, .f32⟩) main_call2_v4) (sitofp .f32 (iotaInDim S15 32 0)),
    TRef.nullary (TRef.of (T := ⟨S_, .f32⟩) main_call2_cst_0) (constant S_ .f32 0x41700000#32),
    TRef.unary (TRef.of (T := ⟨S_, .f32⟩) main_call2_cst_0) (TRef.of (T := ⟨S15, .f32⟩) main_call2_v5) (broadcastInDim S15 ![] bcast_S_S15),
    TRef.binary (TRef.of (T := ⟨S15, .f32⟩) main_call2_v4) (TRef.of (T := ⟨S15, .f32⟩) main_call2_v5) (TRef.of (T := ⟨S15, .f32⟩) main_call2_v6) Host.divf,
    TRef.reshape (TRef.of (T := ⟨S_, .f32⟩) main_call2_v0) (TRef.of (T := ⟨S1, .f32⟩) main_call2_v7) (rfl : (.f32 : EltTy) = .f32) shapeCasts_S_S1,
    TRef.nullary (TRef.of (T := ⟨S_, .f32⟩) main_call2_cst_1) (constant S_ .f32 0x3F800000#32),
    TRef.unary (TRef.of (T := ⟨S_, .f32⟩) main_call2_cst_1) (TRef.of (T := ⟨S15, .f32⟩) main_call2_v8) (broadcastInDim S15 ![] bcast_S_S15),
    TRef.binary (TRef.of (T := ⟨S15, .f32⟩) main_call2_v8) (TRef.of (T := ⟨S15, .f32⟩) main_call2_v6) (TRef.of (T := ⟨S15, .f32⟩) main_call2_v9) subf,
    TRef.unary (TRef.of (T := ⟨S1, .f32⟩) main_call2_v7) (TRef.of (T := ⟨S15, .f32⟩) main_call2_v10) (broadcastInDim S15 ![0] bcast_S1_S15_0),
    TRef.binary (TRef.of (T := ⟨S15, .f32⟩) main_call2_v10) (TRef.of (T := ⟨S15, .f32⟩) main_call2_v9) (TRef.of (T := ⟨S15, .f32⟩) main_call2_v11) mulf,
    TRef.reshape (TRef.of (T := ⟨S_, .f32⟩) main_call2_v1) (TRef.of (T := ⟨S1, .f32⟩) main_call2_v12) (rfl : (.f32 : EltTy) = .f32) shapeCasts_S_S1,
    TRef.unary (TRef.of (T := ⟨S1, .f32⟩) main_call2_v12) (TRef.of (T := ⟨S15, .f32⟩) main_call2_v13) (broadcastInDim S15 ![0] bcast_S1_S15_0),
    TRef.binary (TRef.of (T := ⟨S15, .f32⟩) main_call2_v13) (TRef.of (T := ⟨S15, .f32⟩) main_call2_v6) (TRef.of (T := ⟨S15, .f32⟩) main_call2_v14) mulf,
    TRef.binary (TRef.of (T := ⟨S15, .f32⟩) main_call2_v11) (TRef.of (T := ⟨S15, .f32⟩) main_call2_v14) (TRef.of (T := ⟨S15, .f32⟩) main_call2_v15) addf,
    TRef.unary (TRef.of (T := ⟨S_, .f32⟩) main_call2_v1) (TRef.of (T := ⟨S1, .f32⟩) main_call2_v16) (broadcastInDim S1 ![] bcast_S_S1),
    TRef.binary (TRef.of (T := ⟨S15, .f32⟩) main_call2_v15) (TRef.of (T := ⟨S1, .f32⟩) main_call2_v16) (TRef.of (T := ⟨S16, .f32⟩) main_v13) (joinEdges (F := F)),
    TRef.nullary (TRef.of (T := ⟨S_, .f32⟩) main_cst_5) (constant S_ .f32 0x00000000#32),
    TRef.unary (TRef.of (T := ⟨S_, .f32⟩) main_cst_5) (TRef.of (T := ⟨S1, .f32⟩) main_v14) (broadcastInDim S1 ![] bcast_S_S1),
    TRef.unary (TRef.of (T := ⟨S1000000, .i1⟩) main_v12) (TRef.of (T := ⟨S1000000, .f32⟩) main_v15) (uitofp .f32) ]

/-- The buffers that `headEdges` writes, in order. -/
abbrev headEdgesOuts : List (Ref sig .tc) :=
  [main_cst_3, main_cst_4, main_call2_v0, main_call2_v1, main_call2_v2, main_call2_cst, main_call2_v3, main_call2_v4, main_call2_cst_0, main_call2_v5, main_call2_v6, main_call2_v7, main_call2_cst_1, main_call2_v8, main_call2_v9, main_call2_v10, main_call2_v11, main_call2_v12, main_call2_v13, main_call2_v14, main_call2_v15, main_call2_v16, main_v13, main_cst_5, main_v14, main_v15]

/-- @main's operations, in order. -/
def ops : List (HloOp τ sig (Elt F)) :=
  headConf ++ (headAcc ++ (headEdges ++ (binOps bin0 ++ (binOps bin1 ++ (binOps bin2 ++ (binOps bin3 ++ (binOps bin4 ++ (binOps bin5 ++ (binOps bin6 ++ (binOps bin7 ++ (binOps bin8 ++ (binOps bin9 ++ (binOps bin10 ++ (binOps bin11 ++ (binOps bin12 ++ (binOps bin13 ++ (binOps bin14)))))))))))))))))

set_option maxRecDepth 100000 in
set_option maxHeartbeats 4000000 in
/-- Window 0 of @main is the run of its operations. -/
theorem part0_eq (c : Dev nD) : main_part0 (F := F) c = seq ((ops.drop 0).take 89) := rfl

set_option maxRecDepth 100000 in
set_option maxHeartbeats 4000000 in
/-- Window 1 of @main is the run of its operations. -/
theorem part1_eq (c : Dev nD) : main_part1 (F := F) c = seq ((ops.drop 89).take 61) := rfl

set_option maxRecDepth 100000 in
set_option maxHeartbeats 4000000 in
/-- Window 2 of @main is the run of its operations. -/
theorem part2_eq (c : Dev nD) : main_part2 (F := F) c = seq ((ops.drop 150).take 62) := rfl

set_option maxRecDepth 100000 in
set_option maxHeartbeats 4000000 in
/-- Window 3 of @main is the run of its operations. -/
theorem part3_eq (c : Dev nD) : main_part3 (F := F) c = seq ((ops.drop 212).take 62) := rfl

set_option maxRecDepth 100000 in
set_option maxHeartbeats 4000000 in
/-- Window 4 of @main is the run of its operations. -/
theorem part4_eq (c : Dev nD) : main_part4 (F := F) c = seq ((ops.drop 274).take 61) := rfl

set_option maxRecDepth 100000 in
set_option maxHeartbeats 4000000 in
/-- Window 5 of @main is the run of its operations. -/
theorem part5_eq (c : Dev nD) : main_part5 (F := F) c = seq ((ops.drop 335).take 62) := rfl

set_option maxRecDepth 100000 in
set_option maxHeartbeats 4000000 in
/-- Window 6 of @main is the run of its operations. -/
theorem part6_eq (c : Dev nD) : main_part6 (F := F) c = seq ((ops.drop 397).take 62) := rfl

set_option maxRecDepth 100000 in
set_option maxHeartbeats 4000000 in
/-- Window 7 of @main is the run of its operations. -/
theorem part7_eq (c : Dev nD) : main_part7 (F := F) c = seq ((ops.drop 459).take 62) := rfl

set_option maxRecDepth 100000 in
set_option maxHeartbeats 4000000 in
/-- Window 8 of @main is the run of its operations. -/
theorem part8_eq (c : Dev nD) : main_part8 (F := F) c = seq ((ops.drop 521).take 61) := rfl

set_option maxRecDepth 100000 in
set_option maxHeartbeats 4000000 in
/-- Window 9 of @main is the run of its operations. -/
theorem part9_eq (c : Dev nD) : main_part9 (F := F) c = seq ((ops.drop 582).take 9) := rfl

set_option maxRecDepth 100000 in
/-- What follows window 8 is nine operations. -/
theorem ops_tail : ((ops : List (HloOp τ sig (Elt F))).drop 582).length = 9 := rfl

/-- A line cut at a length is its first part run before the rest. -/
theorem seq_cut (l : List (HloOp τ sig (Elt F))) (a n : ℕ) :
    (seq (l.drop a) : Prog (TpuEff nD τ sig (Elt F) (Pipeline.Sig Λ₀ (Fin 0) fun p => (pcfgs (F := F) p).Adm) .tc) PUnit)
      = seq ((l.drop a).take n) >>= fun _ => seq (l.drop (a + n)) := by
  rw [← seq_append, ← List.drop_drop, List.take_append_drop]

/-- @main is the run of its operations. -/
theorem main_eq (c : Dev nD) : main (F := F) c = seq ops := by
  rw [← List.drop_zero (l := (ops : List (HloOp τ sig (Elt F))))]
  unfold main
  rw [seq_cut ops 0 89, ← part0_eq c]; refine congrArg (fun k => main_part0 (F := F) c >>= k) (funext fun _ => ?_)
  rw [seq_cut ops 89 61, ← part1_eq c]; refine congrArg (fun k => main_part1 (F := F) c >>= k) (funext fun _ => ?_)
  rw [seq_cut ops 150 62, ← part2_eq c]; refine congrArg (fun k => main_part2 (F := F) c >>= k) (funext fun _ => ?_)
  rw [seq_cut ops 212 62, ← part3_eq c]; refine congrArg (fun k => main_part3 (F := F) c >>= k) (funext fun _ => ?_)
  rw [seq_cut ops 274 61, ← part4_eq c]; refine congrArg (fun k => main_part4 (F := F) c >>= k) (funext fun _ => ?_)
  rw [seq_cut ops 335 62, ← part5_eq c]; refine congrArg (fun k => main_part5 (F := F) c >>= k) (funext fun _ => ?_)
  rw [seq_cut ops 397 62, ← part6_eq c]; refine congrArg (fun k => main_part6 (F := F) c >>= k) (funext fun _ => ?_)
  rw [seq_cut ops 459 62, ← part7_eq c]; refine congrArg (fun k => main_part7 (F := F) c >>= k) (funext fun _ => ?_)
  rw [seq_cut ops 521 61, ← part8_eq c]; refine congrArg (fun k => main_part8 (F := F) c >>= k) (funext fun _ => ?_)
  rw [part9_eq c, List.take_of_length_le (Nat.le_of_eq ops_tail)]

end Cert.Proof.Reference

end
-- ==== Proof.ReferenceRun.lean ====
/-
  The reference's run: what each stretch of its operations leaves in the buffers that later stretches read, and @main's result as a
  function of the two arguments.
-/
module

public import proofs.«01_k».proof.Proof.ReferenceOps

@[expose] public section

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The sigmoid of the logits. -/
def probs (x : Vec F S1000000x10 .f32) : Vec F S1000000x10 .f32 :=
  Host.divf (broadcastInDim S1000000x10 ![] bcast_S_S1000000x10 (constant S_ .f32 0x3F800000#32))
    (addf (broadcastInDim S1000000x10 ![] bcast_S_S1000000x10 (constant S_ .f32 0x3F800000#32)) (Host.exp (Host.negf x)))

/-- A row's confidence: its largest sigmoid. -/
def confidences (x : Vec F S1000000x10 .f32) : Vec F S1000000 .f32 :=
  Host.reduce FloatOps.maximumf (probs x) (constant S_ .f32 0xFF800000#32) reducesTo_S1000000x10_S1000000_d1 h_S_

/-- A row's label: the first place of its largest label entry. -/
def labelIdx (y : Vec F S1000000x10 .f32) : S1000000.Idx → BitVec 32 := fun j =>
  (Host.argReduce reducer_argmax_f32_i32 y (iotaInDim S1000000x10 32 1) (constant S_ .f32 0xFF800000#32) (constantI S_ 32 0#32)
    reducesTo_S1000000x10_S1000000_d1 h_S_ j).2

/-- A row's prediction: the first place where the sigmoid is at least one half, or the first place at all. -/
def predIdx (p : Vec F S1000000x10 .f32) : S1000000.Idx → BitVec 32 := fun j =>
  (Host.reduce2 reducer_argmax_i32_i32
    (extui 32 (cmpf .oge p (broadcastInDim S1000000x10 ![] bcast_S_S1000000x10 (constant S_ .f32 0x3F000000#32))) natLt_1_32)
    (iotaInDim S1000000x10 32 1) (constantI S_ 32 2147483648#32) (constantI S_ 32 0#32)
    reducesTo_S1000000x10_S1000000_d1 h_S_ j).2

/-- Whether a row's prediction is its label. -/
def agree (x y : Vec F S1000000x10 .f32) : S1000000.Idx → BitVec 1 := cmpi .eq (predIdx (probs x)) (labelIdx y)

/-- The fractions `i / 15` for `i < 15`. -/
def fifteenths : Vec F S15 .f32 :=
  Host.divf (sitofp .f32 (iotaInDim S15 32 0)) (broadcastInDim S15 ![] bcast_S_S15 (constant S_ .f32 0x41700000#32))

/-- The sixteen bin edges: `0 · (1 - i/15) + 1 · (i/15)` for `i < 15`, then one. -/
def binEdges : Vec F S16 .f32 :=
  joinEdges
    (addf
      (mulf (broadcastInDim S15 ![0] bcast_S1_S15_0 (shapeCast S1 (constant S_ .f32 0x00000000#32) shapeCasts_S_S1))
        (subf (broadcastInDim S15 ![] bcast_S_S15 (constant S_ .f32 0x3F800000#32)) fifteenths))
      (mulf (broadcastInDim S15 ![0] bcast_S1_S15_0 (shapeCast S1 (constant S_ .f32 0x3F800000#32) shapeCasts_S_S1)) fifteenths))
    (broadcastInDim S1 ![] bcast_S_S1 (constant S_ .f32 0x3F800000#32))

/-- One edge, as a scalar. -/
def edge (e : Vec F S16 .f32) (i : ℕ) (h : S16.Slices ![i] S1) : Vec F S_ .f32 :=
  shapeCast S_ (extractStridedSlice S1 ![i] e h) shapeCasts_S1_S_

/-- One or zero per row: whether its confidence is above the lower edge and at most the upper one. -/
def members (c : Vec F S1000000 .f32) (lo hi : Vec F S_ .f32) : Vec F S1000000 .f32 :=
  uitofp .f32 (andi (cmpf .ogt c (broadcastInDim S1000000 ![] bcast_S_S1000000 lo))
    (cmpf .ole c (broadcastInDim S1000000 ![] bcast_S_S1000000 hi)))

/-- The sum over the rows. -/
def total (v : Vec F S1000000 .f32) : Vec F S_ .f32 :=
  Host.reduceAdd v (constant S_ .f32 0x00000000#32) reducesTo_S1000000_S_d0 h_S_

/-- One bin's contribution. -/
def binTerm (c a mem : Vec F S1000000 .f32) : Vec F S_ .f32 :=
  select (cmpf .ogt (Host.divf (total mem) (constant S_ .f32 0x49742400#32)) (constant S_ .f32 0x00000000#32))
    (mulf
      (Host.absf (subf (Host.divf (total (mulf c mem)) (maximumf (total mem) (constant S_ .f32 0x3F800000#32)))
        (Host.divf (total (mulf a mem)) (maximumf (total mem) (constant S_ .f32 0x3F800000#32)))))
      (Host.divf (total mem) (constant S_ .f32 0x49742400#32)))
    (constant S_ .f32 0x00000000#32)

/-- The running error after one more bin. -/
def addBin (e : Vec F S1 .f32) (c a : Vec F S1000000 .f32) (g : Vec F S16 .f32) (i : ℕ) (hi : S16.Slices ![i] S1)
    (hj : S16.Slices ![i + 1] S1) : Vec F S1 .f32 :=
  addf e (broadcastInDim S1 ![] bcast_S_S1 (binTerm c a (members c (edge g i hi) (edge g (i + 1) hj))))

/-! ## The header -/

variable (V : Valuation τ sig (Elt F))

set_option maxRecDepth 8192 in
set_option maxHeartbeats 4000000 in
/-- After the first stretch the confidences are computed. -/
theorem headConf_conf : after headConf V (Proc.devRef .tc main_v6) = confidences (V (Proc.devRef .tc main_arg0)) := by
  simp only [headConf, TRef.binary, TRef.nullary, TRef.quaternary, TRef.ternary, TRef.reshape, TRef.unary, TRef.toBuf, TRef.ofBuf, cast_eq]
  after_results_simp
  rfl

set_option maxRecDepth 8192 in
set_option maxHeartbeats 4000000 in
/-- After the first stretch the sigmoid is computed. -/
theorem headConf_probs : after headConf V (Proc.devRef .tc main_v5) = probs (V (Proc.devRef .tc main_arg0)) := by
  simp only [headConf, TRef.binary, TRef.nullary, TRef.quaternary, TRef.ternary, TRef.reshape, TRef.unary, TRef.toBuf, TRef.ofBuf, cast_eq]
  after_results_simp
  rfl

set_option maxRecDepth 8192 in
set_option maxHeartbeats 4000000 in
/-- After the second stretch the agreements are computed. -/
theorem headAcc_agree : after headAcc V (Proc.devRef .tc main_v12) = cmpi .eq (predIdx (V (Proc.devRef .tc main_v5))) (labelIdx (V (Proc.devRef .tc main_arg1))) := by
  simp only [headAcc, TRef.binary, TRef.nullary, TRef.quaternary, TRef.ternary, TRef.reshape, TRef.unary, TRef.toBuf, TRef.ofBuf, cast_eq]
  after_results_simp
  rfl

set_option maxRecDepth 8192 in
set_option maxHeartbeats 4000000 in
/-- After the third stretch the edges are computed. -/
theorem headEdges_edges : after headEdges V (Proc.devRef .tc main_v13) = binEdges (F := F) := by
  simp only [headEdges, TRef.binary, TRef.nullary, TRef.quaternary, TRef.ternary, TRef.reshape, TRef.unary, TRef.toBuf, TRef.ofBuf, cast_eq]
  after_results_simp
  rfl

set_option maxRecDepth 8192 in
set_option maxHeartbeats 4000000 in
/-- After the third stretch the running error is zero. -/
theorem headEdges_zero : after headEdges V (Proc.devRef .tc main_v14) = broadcastInDim S1 ![] bcast_S_S1 (constant S_ .f32 0x00000000#32) := by
  simp only [headEdges, TRef.binary, TRef.nullary, TRef.quaternary, TRef.ternary, TRef.reshape, TRef.unary, TRef.toBuf, TRef.ofBuf, cast_eq]
  after_results_simp

set_option maxRecDepth 8192 in
set_option maxHeartbeats 4000000 in
/-- After the third stretch the agreements are floats. -/
theorem headEdges_acc : after headEdges V (Proc.devRef .tc main_v15) = uitofp .f32 (V (Proc.devRef .tc main_v12) : S1000000.Idx → BitVec 1) := by
  simp only [headEdges, TRef.binary, TRef.nullary, TRef.quaternary, TRef.ternary, TRef.reshape, TRef.unary, TRef.toBuf, TRef.ofBuf, cast_eq]
  after_results_simp

set_option maxRecDepth 8192 in
/-- The stretch `headConf` leaves every other buffer as it was. -/
theorem headConf_keep (r : Ref sig .tc) (h : r ∉ headConfOuts) : after headConf V (Proc.devRef .tc r) = V (Proc.devRef .tc r) :=
  after_of_writes_sub headConf V (forall_writes_sub_of_map rfl) h

set_option maxRecDepth 8192 in
/-- The stretch `headAcc` leaves every other buffer as it was. -/
theorem headAcc_keep (r : Ref sig .tc) (h : r ∉ headAccOuts) : after headAcc V (Proc.devRef .tc r) = V (Proc.devRef .tc r) :=
  after_of_writes_sub headAcc V (forall_writes_sub_of_map rfl) h

set_option maxRecDepth 8192 in
/-- The stretch `headEdges` leaves every other buffer as it was. -/
theorem headEdges_keep (r : Ref sig .tc) (h : r ∉ headEdgesOuts) : after headEdges V (Proc.devRef .tc r) = V (Proc.devRef .tc r) :=
  after_of_writes_sub headEdges V (forall_writes_sub_of_map rfl) h

/-! ## The bins -/

/-- A bin's stretch leaves every other buffer as it was. -/
theorem bin_keep (B : Bin) (r : Ref sig .tc) (h : r ∉ binOuts B) : after (binOps B) V (Proc.devRef .tc r) = V (Proc.devRef .tc r) :=
  after_of_writes_sub (binOps B) V (forall_writes_sub_of_map rfl) h

set_option maxRecDepth 8192 in
set_option maxHeartbeats 4000000 in
/-- Bin 0 adds its contribution to the running error. -/
theorem bin0_out : after (binOps bin0) V (Proc.devRef .tc main_v42) = addBin (V (Proc.devRef .tc main_v14)) (V (Proc.devRef .tc main_v6)) (V (Proc.devRef .tc main_v15)) (V (Proc.devRef .tc main_v13)) 0 slices_S16_S1_0 slices_S16_S1_1 := by
  simp only [binOps, bin0, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 1 adds its contribution to the running error. -/
theorem bin1_out : after (binOps bin1) V (Proc.devRef .tc main_v69) = addBin (V (Proc.devRef .tc main_v42)) (V (Proc.devRef .tc main_v6)) (V (Proc.devRef .tc main_v15)) (V (Proc.devRef .tc main_v13)) 1 slices_S16_S1_1 slices_S16_S1_2 := by
  simp only [binOps, bin1, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 2 adds its contribution to the running error. -/
theorem bin2_out : after (binOps bin2) V (Proc.devRef .tc main_v96) = addBin (V (Proc.devRef .tc main_v69)) (V (Proc.devRef .tc main_v6)) (V (Proc.devRef .tc main_v15)) (V (Proc.devRef .tc main_v13)) 2 slices_S16_S1_2 slices_S16_S1_3 := by
  simp only [binOps, bin2, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 3 adds its contribution to the running error. -/
theorem bin3_out : after (binOps bin3) V (Proc.devRef .tc main_v123) = addBin (V (Proc.devRef .tc main_v96)) (V (Proc.devRef .tc main_v6)) (V (Proc.devRef .tc main_v15)) (V (Proc.devRef .tc main_v13)) 3 slices_S16_S1_3 slices_S16_S1_4 := by
  simp only [binOps, bin3, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 4 adds its contribution to the running error. -/
theorem bin4_out : after (binOps bin4) V (Proc.devRef .tc main_v150) = addBin (V (Proc.devRef .tc main_v123)) (V (Proc.devRef .tc main_v6)) (V (Proc.devRef .tc main_v15)) (V (Proc.devRef .tc main_v13)) 4 slices_S16_S1_4 slices_S16_S1_5 := by
  simp only [binOps, bin4, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 5 adds its contribution to the running error. -/
theorem bin5_out : after (binOps bin5) V (Proc.devRef .tc main_v177) = addBin (V (Proc.devRef .tc main_v150)) (V (Proc.devRef .tc main_v6)) (V (Proc.devRef .tc main_v15)) (V (Proc.devRef .tc main_v13)) 5 slices_S16_S1_5 slices_S16_S1_6 := by
  simp only [binOps, bin5, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 6 adds its contribution to the running error. -/
theorem bin6_out : after (binOps bin6) V (Proc.devRef .tc main_v204) = addBin (V (Proc.devRef .tc main_v177)) (V (Proc.devRef .tc main_v6)) (V (Proc.devRef .tc main_v15)) (V (Proc.devRef .tc main_v13)) 6 slices_S16_S1_6 slices_S16_S1_7 := by
  simp only [binOps, bin6, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 7 adds its contribution to the running error. -/
theorem bin7_out : after (binOps bin7) V (Proc.devRef .tc main_v231) = addBin (V (Proc.devRef .tc main_v204)) (V (Proc.devRef .tc main_v6)) (V (Proc.devRef .tc main_v15)) (V (Proc.devRef .tc main_v13)) 7 slices_S16_S1_7 slices_S16_S1_8 := by
  simp only [binOps, bin7, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 8 adds its contribution to the running error. -/
theorem bin8_out : after (binOps bin8) V (Proc.devRef .tc main_v258) = addBin (V (Proc.devRef .tc main_v231)) (V (Proc.devRef .tc main_v6)) (V (Proc.devRef .tc main_v15)) (V (Proc.devRef .tc main_v13)) 8 slices_S16_S1_8 slices_S16_S1_9 := by
  simp only [binOps, bin8, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 9 adds its contribution to the running error. -/
theorem bin9_out : after (binOps bin9) V (Proc.devRef .tc main_v285) = addBin (V (Proc.devRef .tc main_v258)) (V (Proc.devRef .tc main_v6)) (V (Proc.devRef .tc main_v15)) (V (Proc.devRef .tc main_v13)) 9 slices_S16_S1_9 slices_S16_S1_10 := by
  simp only [binOps, bin9, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 10 adds its contribution to the running error. -/
theorem bin10_out : after (binOps bin10) V (Proc.devRef .tc main_v312) = addBin (V (Proc.devRef .tc main_v285)) (V (Proc.devRef .tc main_v6)) (V (Proc.devRef .tc main_v15)) (V (Proc.devRef .tc main_v13)) 10 slices_S16_S1_10 slices_S16_S1_11 := by
  simp only [binOps, bin10, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 11 adds its contribution to the running error. -/
theorem bin11_out : after (binOps bin11) V (Proc.devRef .tc main_v339) = addBin (V (Proc.devRef .tc main_v312)) (V (Proc.devRef .tc main_v6)) (V (Proc.devRef .tc main_v15)) (V (Proc.devRef .tc main_v13)) 11 slices_S16_S1_11 slices_S16_S1_12 := by
  simp only [binOps, bin11, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 12 adds its contribution to the running error. -/
theorem bin12_out : after (binOps bin12) V (Proc.devRef .tc main_v366) = addBin (V (Proc.devRef .tc main_v339)) (V (Proc.devRef .tc main_v6)) (V (Proc.devRef .tc main_v15)) (V (Proc.devRef .tc main_v13)) 12 slices_S16_S1_12 slices_S16_S1_13 := by
  simp only [binOps, bin12, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 13 adds its contribution to the running error. -/
theorem bin13_out : after (binOps bin13) V (Proc.devRef .tc main_v393) = addBin (V (Proc.devRef .tc main_v366)) (V (Proc.devRef .tc main_v6)) (V (Proc.devRef .tc main_v15)) (V (Proc.devRef .tc main_v13)) 13 slices_S16_S1_13 slices_S16_S1_14 := by
  simp only [binOps, bin13, TRef.binary, TRef.nullary, TRef.quaternary, TRef.ternary, TRef.reshape, TRef.unary, TRef.toBuf, TRef.ofBuf, cast_eq]
  after_results_simp
  rfl

set_option maxRecDepth 8192 in
set_option maxHeartbeats 4000000 in
/-- Bin 14 adds its contribution to the running error. -/
theorem bin14_out : after (binOps bin14) V (Proc.devRef .tc main_v420) = addBin (V (Proc.devRef .tc main_v393)) (V (Proc.devRef .tc main_v6)) (V (Proc.devRef .tc main_v15)) (V (Proc.devRef .tc main_v13)) 14 slices_S16_S1_14 slices_S16_S1_15 := by
  simp only [binOps, bin14, TRef.binary, TRef.nullary, TRef.quaternary, TRef.ternary, TRef.reshape, TRef.unary, TRef.toBuf, TRef.ofBuf, cast_eq]
  after_results_simp
  rfl

/-! ## The whole line -/

/-- Contents in which the confidences, the agreements, the edges and the two arguments are those given. -/
structure Holds (W : Valuation τ sig (Elt F)) (x y : Vec F S1000000x10 .f32) : Prop where
  conf : W (Proc.devRef .tc main_v6) = confidences x
  acc : W (Proc.devRef .tc main_v15) = (uitofp .f32 (agree x y) : Vec F S1000000 .f32)
  edges : W (Proc.devRef .tc main_v13) = binEdges (F := F)
  arg0 : W (Proc.devRef .tc main_arg0) = x
  arg1 : W (Proc.devRef .tc main_arg1) = y

variable {V} in
/-- A bin's stretch keeps all of that, as long as it writes none of those five buffers. -/
theorem Holds.bin {x y : Vec F S1000000x10 .f32} (h : Holds V x y) (B : Bin) (h6 : main_v6 ∉ binOuts B) (h15 : main_v15 ∉ binOuts B)
    (h13 : main_v13 ∉ binOuts B) (h0 : main_arg0 ∉ binOuts B) (h1 : main_arg1 ∉ binOuts B) : Holds (after (binOps B) V) x y :=
  ⟨(bin_keep V B _ h6).trans h.conf, (bin_keep V B _ h15).trans h.acc, (bin_keep V B _ h13).trans h.edges,
    (bin_keep V B _ h0).trans h.arg0, (bin_keep V B _ h1).trans h.arg1⟩

/-- A one-element slice fits at each of the sixteen places. -/
theorem slice_at : ∀ k : ℕ, k ≤ 15 → S16.Slices ![k] S1
  | 0, _ => slices_S16_S1_0
  | 1, _ => slices_S16_S1_1
  | 2, _ => slices_S16_S1_2
  | 3, _ => slices_S16_S1_3
  | 4, _ => slices_S16_S1_4
  | 5, _ => slices_S16_S1_5
  | 6, _ => slices_S16_S1_6
  | 7, _ => slices_S16_S1_7
  | 8, _ => slices_S16_S1_8
  | 9, _ => slices_S16_S1_9
  | 10, _ => slices_S16_S1_10
  | 11, _ => slices_S16_S1_11
  | 12, _ => slices_S16_S1_12
  | 13, _ => slices_S16_S1_13
  | 14, _ => slices_S16_S1_14
  | 15, _ => slices_S16_S1_15
  | k + 16, h => absurd h (by omega)

/-- The running error before bin `k`. -/
def eceUpTo (x y : Vec F S1000000x10 .f32) : (k : ℕ) → k ≤ 15 → Vec F S1 .f32
  | 0, _ => broadcastInDim S1 ![] bcast_S_S1 (constant S_ .f32 0x00000000#32)
  | k + 1, h => addBin (eceUpTo x y k (by omega)) (confidences x) (uitofp .f32 (agree x y)) binEdges k
      (slice_at k (by omega)) (slice_at (k + 1) (by omega))

/-- The expected calibration error the reference computes. -/
def ece (x y : Vec F S1000000x10 .f32) : Vec F S1 .f32 := eceUpTo x y 15 le_rfl

set_option maxRecDepth 8192 in
set_option maxHeartbeats 4000000 in
/-- After the header everything the bins read is in place. -/
theorem holds_head : Holds (after headEdges (after headAcc (after headConf V))) (V (Proc.devRef .tc main_arg0)) (V (Proc.devRef .tc main_arg1)) where
  conf := by
    rw [headEdges_keep _ _ (by decide), headAcc_keep _ _ (by decide), headConf_conf]
  acc := by
    rw [headEdges_acc, headAcc_agree, headConf_probs, headConf_keep _ _ (by decide)]; rfl
  edges := headEdges_edges _
  arg0 := by
    rw [headEdges_keep _ _ (by decide), headAcc_keep _ _ (by decide), headConf_keep _ _ (by decide)]
  arg1 := by
    rw [headEdges_keep _ _ (by decide), headAcc_keep _ _ (by decide), headConf_keep _ _ (by decide)]

set_option maxRecDepth 8192 in
set_option maxHeartbeats 4000000 in
variable {V} in
/-- Bin 0: what the bins read is still in place, and the running error has gone one bin further. -/
theorem step0 {x y : Vec F S1000000x10 .f32} (h : Holds V x y) (he : V (Proc.devRef .tc main_v14) = eceUpTo x y 0 (by omega)) :
    Holds (after (binOps bin0) V) x y ∧ after (binOps bin0) V (Proc.devRef .tc main_v42) = eceUpTo x y 1 (by omega) :=
  ⟨h.bin bin0 (by decide) (by decide) (by decide) (by decide) (by decide), by
    rw [bin0_out, he, h.conf, h.acc, h.edges]; rfl⟩

set_option maxRecDepth 8192 in
set_option maxHeartbeats 4000000 in
variable {V} in
/-- Bin 1: what the bins read is still in place, and the running error has gone one bin further. -/
theorem step1 {x y : Vec F S1000000x10 .f32} (h : Holds V x y) (he : V (Proc.devRef .tc main_v42) = eceUpTo x y 1 (by omega)) :
    Holds (after (binOps bin1) V) x y ∧ after (binOps bin1) V (Proc.devRef .tc main_v69) = eceUpTo x y 2 (by omega) :=
  ⟨h.bin bin1 (by decide) (by decide) (by decide) (by decide) (by decide), by
    rw [bin1_out, he, h.conf, h.acc, h.edges]; rfl⟩

set_option maxRecDepth 8192 in
set_option maxHeartbeats 4000000 in
variable {V} in
/-- Bin 2: what the bins read is still in place, and the running error has gone one bin further. -/
theorem step2 {x y : Vec F S1000000x10 .f32} (h : Holds V x y) (he : V (Proc.devRef .tc main_v69) = eceUpTo x y 2 (by omega)) :
    Holds (after (binOps bin2) V) x y ∧ after (binOps bin2) V (Proc.devRef .tc main_v96) = eceUpTo x y 3 (by omega) :=
  ⟨h.bin bin2 (by decide) (by decide) (by decide) (by decide) (by decide), by
    rw [bin2_out, he, h.conf, h.acc, h.edges]; rfl⟩

set_option maxRecDepth 8192 in
set_option maxHeartbeats 4000000 in
variable {V} in
/-- Bin 3: what the bins read is still in place, and the running error has gone one bin further. -/
theorem step3 {x y : Vec F S1000000x10 .f32} (h : Holds V x y) (he : V (Proc.devRef .tc main_v96) = eceUpTo x y 3 (by omega)) :
    Holds (after (binOps bin3) V) x y ∧ after (binOps bin3) V (Proc.devRef .tc main_v123) = eceUpTo x y 4 (by omega) :=
  ⟨h.bin bin3 (by decide) (by decide) (by decide) (by decide) (by decide), by
    rw [bin3_out, he, h.conf, h.acc, h.edges]; rfl⟩

set_option maxRecDepth 8192 in
set_option maxHeartbeats 4000000 in
variable {V} in
/-- Bin 4: what the bins read is still in place, and the running error has gone one bin further. -/
theorem step4 {x y : Vec F S1000000x10 .f32} (h : Holds V x y) (he : V (Proc.devRef .tc main_v123) = eceUpTo x y 4 (by omega)) :
    Holds (after (binOps bin4) V) x y ∧ after (binOps bin4) V (Proc.devRef .tc main_v150) = eceUpTo x y 5 (by omega) :=
  ⟨h.bin bin4 (by decide) (by decide) (by decide) (by decide) (by decide), by
    rw [bin4_out, he, h.conf, h.acc, h.edges]; rfl⟩

set_option maxRecDepth 8192 in
set_option maxHeartbeats 4000000 in
variable {V} in
/-- Bin 5: what the bins read is still in place, and the running error has gone one bin further. -/
theorem step5 {x y : Vec F S1000000x10 .f32} (h : Holds V x y) (he : V (Proc.devRef .tc main_v150) = eceUpTo x y 5 (by omega)) :
    Holds (after (binOps bin5) V) x y ∧ after (binOps bin5) V (Proc.devRef .tc main_v177) = eceUpTo x y 6 (by omega) :=
  ⟨h.bin bin5 (by decide) (by decide) (by decide) (by decide) (by decide), by
    rw [bin5_out, he, h.conf, h.acc, h.edges]; rfl⟩

set_option maxRecDepth 8192 in
set_option maxHeartbeats 4000000 in
variable {V} in
/-- Bin 6: what the bins read is still in place, and the running error has gone one bin further. -/
theorem step6 {x y : Vec F S1000000x10 .f32} (h : Holds V x y) (he : V (Proc.devRef .tc main_v177) = eceUpTo x y 6 (by omega)) :
    Holds (after (binOps bin6) V) x y ∧ after (binOps bin6) V (Proc.devRef .tc main_v204) = eceUpTo x y 7 (by omega) :=
  ⟨h.bin bin6 (by decide) (by decide) (by decide) (by decide) (by decide), by
    rw [bin6_out, he, h.conf, h.acc, h.edges]; rfl⟩

set_option maxRecDepth 8192 in
set_option maxHeartbeats 4000000 in
variable {V} in
/-- Bin 7: what the bins read is still in place, and the running error has gone one bin further. -/
theorem step7 {x y : Vec F S1000000x10 .f32} (h : Holds V x y) (he : V (Proc.devRef .tc main_v204) = eceUpTo x y 7 (by omega)) :
    Holds (after (binOps bin7) V) x y ∧ after (binOps bin7) V (Proc.devRef .tc main_v231) = eceUpTo x y 8 (by omega) :=
  ⟨h.bin bin7 (by decide) (by decide) (by decide) (by decide) (by decide), by
    rw [bin7_out, he, h.conf, h.acc, h.edges]; rfl⟩

set_option maxRecDepth 8192 in
set_option maxHeartbeats 4000000 in
variable {V} in
/-- Bin 8: what the bins read is still in place, and the running error has gone one bin further. -/
theorem step8 {x y : Vec F S1000000x10 .f32} (h : Holds V x y) (he : V (Proc.devRef .tc main_v231) = eceUpTo x y 8 (by omega)) :
    Holds (after (binOps bin8) V) x y ∧ after (binOps bin8) V (Proc.devRef .tc main_v258) = eceUpTo x y 9 (by omega) :=
  ⟨h.bin bin8 (by decide) (by decide) (by decide) (by decide) (by decide), by
    rw [bin8_out, he, h.conf, h.acc, h.edges]; rfl⟩

set_option maxRecDepth 8192 in
set_option maxHeartbeats 4000000 in
variable {V} in
/-- Bin 9: what the bins read is still in place, and the running error has gone one bin further. -/
theorem step9 {x y : Vec F S1000000x10 .f32} (h : Holds V x y) (he : V (Proc.devRef .tc main_v258) = eceUpTo x y 9 (by omega)) :
    Holds (after (binOps bin9) V) x y ∧ after (binOps bin9) V (Proc.devRef .tc main_v285) = eceUpTo x y 10 (by omega) :=
  ⟨h.bin bin9 (by decide) (by decide) (by decide) (by decide) (by decide), by
    rw [bin9_out, he, h.conf, h.acc, h.edges]; rfl⟩

set_option maxRecDepth 8192 in
set_option maxHeartbeats 4000000 in
variable {V} in
/-- Bin 10: what the bins read is still in place, and the running error has gone one bin further. -/
theorem step10 {x y : Vec F S1000000x10 .f32} (h : Holds V x y) (he : V (Proc.devRef .tc main_v285) = eceUpTo x y 10 (by omega)) :
    Holds (after (binOps bin10) V) x y ∧ after (binOps bin10) V (Proc.devRef .tc main_v312) = eceUpTo x y 11 (by omega) :=
  ⟨h.bin bin10 (by decide) (by decide) (by decide) (by decide) (by decide), by
    rw [bin10_out, he, h.conf, h.acc, h.edges]; rfl⟩

set_option maxRecDepth 8192 in
set_option maxHeartbeats 4000000 in
variable {V} in
/-- Bin 11: what the bins read is still in place, and the running error has gone one bin further. -/
theorem step11 {x y : Vec F S1000000x10 .f32} (h : Holds V x y) (he : V (Proc.devRef .tc main_v312) = eceUpTo x y 11 (by omega)) :
    Holds (after (binOps bin11) V) x y ∧ after (binOps bin11) V (Proc.devRef .tc main_v339) = eceUpTo x y 12 (by omega) :=
  ⟨h.bin bin11 (by decide) (by decide) (by decide) (by decide) (by decide), by
    rw [bin11_out, he, h.conf, h.acc, h.edges]; rfl⟩

set_option maxRecDepth 8192 in
set_option maxHeartbeats 4000000 in
variable {V} in
/-- Bin 12: what the bins read is still in place, and the running error has gone one bin further. -/
theorem step12 {x y : Vec F S1000000x10 .f32} (h : Holds V x y) (he : V (Proc.devRef .tc main_v339) = eceUpTo x y 12 (by omega)) :
    Holds (after (binOps bin12) V) x y ∧ after (binOps bin12) V (Proc.devRef .tc main_v366) = eceUpTo x y 13 (by omega) :=
  ⟨h.bin bin12 (by decide) (by decide) (by decide) (by decide) (by decide), by
    rw [bin12_out, he, h.conf, h.acc, h.edges]; rfl⟩

set_option maxRecDepth 8192 in
set_option maxHeartbeats 4000000 in
variable {V} in
/-- Bin 13: what the bins read is still in place, and the running error has gone one bin further. -/
theorem step13 {x y : Vec F S1000000x10 .f32} (h : Holds V x y) (he : V (Proc.devRef .tc main_v366) = eceUpTo x y 13 (by omega)) :
    Holds (after (binOps bin13) V) x y ∧ after (binOps bin13) V (Proc.devRef .tc main_v393) = eceUpTo x y 14 (by omega) :=
  ⟨h.bin bin13 (by decide) (by decide) (by decide) (by decide) (by decide), by
    rw [bin13_out, he, h.conf, h.acc, h.edges]; rfl⟩

set_option maxRecDepth 8192 in
set_option maxHeartbeats 4000000 in
variable {V} in
/-- Bin 14: what the bins read is still in place, and the running error has gone one bin further. -/
theorem step14 {x y : Vec F S1000000x10 .f32} (h : Holds V x y) (he : V (Proc.devRef .tc main_v393) = eceUpTo x y 14 (by omega)) :
    Holds (after (binOps bin14) V) x y ∧ after (binOps bin14) V (Proc.devRef .tc main_v420) = eceUpTo x y 15 (by omega) :=
  ⟨h.bin bin14 (by decide) (by decide) (by decide) (by decide) (by decide), by
    rw [bin14_out, he, h.conf, h.acc, h.edges]; rfl⟩

set_option maxRecDepth 8192 in
/-- After @main's operations the result is the calibration error of the arguments, and the arguments are as they were. -/
theorem after_main : after ops V (Proc.devRef .tc main_v420) = ece (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  have h := holds_head V
  have s0 := step0 h (headEdges_zero _)
  have s1 := step1 s0.1 s0.2
  have s2 := step2 s1.1 s1.2
  have s3 := step3 s2.1 s2.2
  have s4 := step4 s3.1 s3.2
  have s5 := step5 s4.1 s4.2
  have s6 := step6 s5.1 s5.2
  have s7 := step7 s6.1 s6.2
  have s8 := step8 s7.1 s7.2
  have s9 := step9 s8.1 s8.2
  have s10 := step10 s9.1 s9.2
  have s11 := step11 s10.1 s10.2
  have s12 := step12 s11.1 s11.2
  have s13 := step13 s12.1 s12.2
  have s14 := step14 s13.1 s13.2
  rw [ops, after_append, after_append, after_append, after_append, after_append, after_append, after_append, after_append, after_append, after_append, after_append, after_append, after_append, after_append, after_append, after_append, after_append]
  exact ⟨s14.2, s14.1.arg0, s14.1.arg1⟩

/-! ## The run -/

/-- Every buffer an operation of @main touches is a buffer of the TensorCore. -/
theorem ops_sub : (ops : List (HloOp τ sig (Elt F))).Forall fun op => op.bufs ⊆ tcRefs τ sig := by
  refine List.forall_iff_forall_mem.mpr fun op h => ?_
  have hb : ∀ B : Bin, ∀ op ∈ (binOps B : List (HloOp τ sig (Elt F))), op.bufs ⊆ tcRefs τ sig := fun B =>
    List.forall_iff_forall_mem.mp ⟨unary_bufs_sub .., reshape_bufs_sub .., unary_bufs_sub .., reshape_bufs_sub .., unary_bufs_sub .., binary_bufs_sub .., unary_bufs_sub .., binary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., binary_bufs_sub .., unary_bufs_sub .., binary_bufs_sub .., nullary_bufs_sub .., binary_bufs_sub .., nullary_bufs_sub .., unary_bufs_sub .., ternary_bufs_sub .., unary_bufs_sub .., binary_bufs_sub ..⟩
  have hc : ∀ op ∈ (headConf : List (HloOp τ sig (Elt F))), op.bufs ⊆ tcRefs τ sig := List.forall_iff_forall_mem.mp ⟨unary_bufs_sub .., unary_bufs_sub .., nullary_bufs_sub .., unary_bufs_sub .., binary_bufs_sub .., nullary_bufs_sub .., unary_bufs_sub .., binary_bufs_sub .., nullary_bufs_sub .., binary_bufs_sub ..⟩
  have ha : ∀ op ∈ (headAcc : List (HloOp τ sig (Elt F))), op.bufs ⊆ tcRefs τ sig := List.forall_iff_forall_mem.mp ⟨nullary_bufs_sub .., nullary_bufs_sub .., nullary_bufs_sub .., quaternary_bufs_sub .., quaternary_bufs_sub .., nullary_bufs_sub .., unary_bufs_sub .., binary_bufs_sub .., unary_bufs_sub .., nullary_bufs_sub .., nullary_bufs_sub .., nullary_bufs_sub .., quaternary_bufs_sub .., quaternary_bufs_sub .., binary_bufs_sub ..⟩
  have he : ∀ op ∈ (headEdges : List (HloOp τ sig (Elt F))), op.bufs ⊆ tcRefs τ sig := List.forall_iff_forall_mem.mp ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., nullary_bufs_sub .., unary_bufs_sub .., unary_bufs_sub ..⟩
  rw [ops] at h
  rcases List.mem_append.mp h with h | h
  · exact hc op h
  rcases List.mem_append.mp h with h | h
  · exact ha op h
  rcases List.mem_append.mp h with h | h
  · exact he op h
  iterate 14
    rcases List.mem_append.mp h with h | h
    · exact hb _ op h
  exact hb _ op h

/-- No operation of @main writes a buffer it does not determine. -/
theorem ops_fresh : ∀ op ∈ (ops : List (HloOp τ sig (Elt F))), op.fresh = ∅ := by
  intro op h
  have hb : ∀ B : Bin, ∀ op ∈ (binOps B : List (HloOp τ sig (Elt F))), op.fresh = ∅ := fun B =>
    List.forall_iff_forall_mem.mp (forall_fresh_of_map rfl)
  have hc : ∀ op ∈ (headConf : List (HloOp τ sig (Elt F))), op.fresh = ∅ := List.forall_iff_forall_mem.mp (forall_fresh_of_map rfl)
  have ha : ∀ op ∈ (headAcc : List (HloOp τ sig (Elt F))), op.fresh = ∅ := List.forall_iff_forall_mem.mp (forall_fresh_of_map rfl)
  have he : ∀ op ∈ (headEdges : List (HloOp τ sig (Elt F))), op.fresh = ∅ := List.forall_iff_forall_mem.mp (forall_fresh_of_map rfl)
  rw [ops] at h
  rcases List.mem_append.mp h with h | h
  · exact hc op h
  rcases List.mem_append.mp h with h | h
  · exact ha op h
  rcases List.mem_append.mp h with h | h
  · exact he op h
  iterate 14
    rcases List.mem_append.mp h with h | h
    · exact hb _ op h
  exact hb _ op h

/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- The reference's run: it terminates with its result at the calibration error of its arguments, which it leaves as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v420)
          = ece (m ((c.tc : Thread nD τ).loc main_arg0) : Vec F S1000000x10 .f32) (m ((c.tc : Thread nD τ).loc main_arg1) : Vec F S1000000x10 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v420).trans (after_main (launchContents m c)).1,
      (h c main_arg0).trans (after_main (launchContents m c)).2.1, (h c main_arg1).trans (after_main (launchContents m c)).2.2⟩)
    (run_seq scopedRefs_eq scopedSems_eq defs main (fun _ => ops) main_eq (fun _ => ops_sub) m ρ fun _ => ops_fresh)

end Cert.Proof.Reference

end
-- ==== Proof.Frames.lean ====
/-
  The claims that need no mathematics: the three programs run, end with their arguments as they were and every counter at zero; the
  idealized kernel is the kernel with its one named constant; the side conditions of the precondition.
-/
module

public import proofs.«01_k».proof.Defs
public import proofs.«01_k».proof.Proof.KernelMain
public import proofs.«01_k».proof.Proof.KernelIdealMain
public import proofs.«01_k».proof.Proof.ReferenceRun
public import Idealize.ShloMosaic.Adequacy
public import Idealize.ShloMosaic.Init

@[expose] public section

noncomputable section

namespace Cert.Proof

open Idealize.ShloMosaic Idealize.SL.Sem

/-- The shape relations the precondition's operations ask for. -/
instance preFacts : Cert.Pre_off_edges.Facts where
  bcast_S_S1000000x10 := by decide
  reducesTo_S1000000x10_S1000000_d1 := by decide
  h_S_ := by decide
  bcast_S_S1000000 := by decide

/-- The kernel as printed runs from any memory and leaves its arguments and every counter as they were. -/
theorem frame_kernel : Cert.quiescent_Kernel := fun m g _ =>
  (θ_run Cert.Kernel.defs _ _).mono (fun _ h => ⟨fun c => (h.1 c).2, h.2⟩) (Kernel.run_main (F := Bits) m g)

/-- The idealized kernel runs from any memory and leaves its arguments and every counter as they were. -/
theorem frame_ideal : Cert.quiescent_KernelIdeal := fun m g _ =>
  (θ_run Cert.KernelIdeal.defs _ _).mono (fun _ h => ⟨fun c => (h.1 c).2, h.2⟩) (KernelIdeal.run_main (F := Ideal) m g)

/-- The same where the precondition holds. -/
theorem frame_ideal_pre : Cert.quiescent_KernelIdeal_pre_off_edges := fun m g _ => frame_ideal m g trivial

/-- The reference runs from any memory and leaves its arguments and every counter as they were. -/
theorem frame_reference : Cert.quiescent_ReferenceIdeal := fun m g _ =>
  (θ_run Cert.ReferenceIdeal.defs _ _).mono (fun r h => ⟨fun c => (h c).2, sem_eq_zero_of_no_sems (by decide) r.2⟩)
    (Reference.run (F := Ideal) m g)

/-- The same where the precondition holds. -/
theorem frame_reference_pre : Cert.quiescent_ReferenceIdeal_pre_off_edges := fun m g _ => frame_reference m g trivial

/-- The table of names gives `"inv_n"` the value one millionth, and the idealized kernel's constant of that name is that value. -/
theorem preserves : Cert.preserves_Kernel_KernelIdeal :=
  IdealRules.named_const.statement Cert.KernelIdeal.κ "inv_n" .f32 0x358637BD#32 ((1 / 1000000 : ℝ) : EReal) rfl

end Cert.Proof

end
-- ==== Proof.Spread.lean ====
/-
  The tiles' shares of the rows. Tile `w` takes chunks `w`, `w + 32`, … of a thousand rows, a chunk sixteen rows at a time, one to a
  lane; so the sums the tiles and lanes keep apart add up to the sum over all million rows.
-/
module

public import proofs.«01_k».proof.Proof.Lane
public import Idealize.ShloMosaic.PureOps.Ideal.Laws
public import Idealize.ShloMosaic.Lib.IdealHost
public import Mathlib.Algebra.BigOperators.Intervals

@[expose] public section

noncomputable section

namespace Cert.Spread

open Idealize.ShloMosaic Cert.Lane
open scoped BigOperators

/-- A sum over `G` blocks of `B` is the sum block by block. -/
theorem sum_blocks {M : Type} [AddCommMonoid M] (B : ℕ) (h : ℕ → M) :
    ∀ G, ∑ m ∈ Finset.range (G * B), h m = ∑ g ∈ Finset.range G, ∑ l ∈ Finset.range B, h (g * B + l)
  | 0 => by simp
  | G + 1 => by rw [Nat.add_mul, Nat.one_mul, Finset.sum_range_add, sum_blocks B h G, Finset.sum_range_succ]

/-- Dealing `0 … N - 1` out in turn to `B` hands, `G` rounds at most, leaves nothing out. -/
theorem sum_dealt {M : Type} [AddCommMonoid M] (B G N : ℕ) (hN : N ≤ G * B) (h : ℕ → M) :
    ∑ l ∈ Finset.range B, ∑ g ∈ Finset.range G, (if g * B + l < N then h (g * B + l) else 0)
      = ∑ m ∈ Finset.range N, h m := by
  rw [Finset.sum_comm, ← sum_blocks B (fun m => if m < N then h m else 0) G, ← Finset.sum_filter]
  congr 1
  ext m
  simp only [Finset.mem_filter, Finset.mem_range]
  omega

/-- What one row adds to the entry at row `r` of its lane's column. -/
def gain (a b : ℕ → Ideal .f32) (r : ℕ) : EReal :=
  if live a = 1 then
    if r = (bin a).toNat then 1
    else if r = (bin a).toNat + 16 then hit a b
    else if r = (bin a).toNat + 32 then conf a
    else 0
  else 0

/-- On extended reals a row's step adds its gain. -/
theorem step_eq (a b : ℕ → Ideal .f32) (r : ℕ) (x : Ideal .f32) : step a b r x = (x + gain a b r : EReal) := by
  unfold step gain
  have h1 : (one : Ideal .f32) = (1 : EReal) := Ideal.ofBits_one_f32
  split_ifs <;> simp only [Ideal.idxAddf_def, h1, add_zero]

/-- The gain of row `n` of two flat tables. -/
abbrev gainOf (X Y : ℕ → Ideal .f32) (r n : ℕ) : EReal := gain (rowOf X n) (rowOf Y n) r

/-- A lane's entry after `g` groups: what it was, and the gains of the lane's rows. -/
theorem groups_eq (X Y : ℕ → Ideal .f32) (base r l : ℕ) (x : Ideal .f32) : ∀ g,
    groups X Y base r l x g
      = (x + ∑ i ∈ Finset.range g, (if i * 16 + l < 1000 then gainOf X Y r (base + (i * 16 + l)) else 0) : EReal)
  | 0 => by simp [groups]
  | g + 1 => by
    rw [Finset.sum_range_succ, ← add_assoc, ← groups_eq X Y base r l x g]
    show groupStep X Y base g r l _ = _
    unfold groupStep
    split_ifs
    · exact step_eq _ _ _ _
    · exact (add_zero _).symm

/-- A lane's entry after `k` chunks. -/
theorem chunks_eq (X Y : ℕ → Ideal .f32) (w r l : ℕ) : ∀ k,
    chunks X Y w r l k = (∑ i ∈ Finset.range k, ∑ g ∈ Finset.range 63,
      (if g * 16 + l < 1000 then gainOf X Y r ((w + 32 * i) * 1000 + (g * 16 + l)) else 0) : EReal)
  | 0 => by
    rw [Finset.sum_range_zero]; exact Ideal.ofBits_zero_f32
  | k + 1 => by
    rw [Finset.sum_range_succ, ← chunks_eq X Y w r l k]
    exact groups_eq X Y _ r l _ 63

/-- All tiles' and lanes' entries at row `r` add up to the gains of all the rows. -/
theorem partials_sum (X Y : ℕ → Ideal .f32) (r : ℕ) :
    (∑ w ∈ Finset.range 32, ∑ l ∈ Finset.range 16, partials X Y w r l : EReal)
      = ∑ n ∈ Finset.range 1000000, gainOf X Y r n := by
  have tile : ∀ w ∈ Finset.range 32, (∑ l ∈ Finset.range 16, partials X Y w r l : EReal)
      = ∑ i ∈ Finset.range 32, (if i * 32 + w < 1000 then ∑ m ∈ Finset.range 1000, gainOf X Y r ((i * 32 + w) * 1000 + m) else 0) := by
    intro w hw
    have hw' := Finset.mem_range.mp hw
    have h1 : ∀ l, partials X Y w r l = (∑ i ∈ Finset.range (nChunks w), ∑ g ∈ Finset.range 63,
      (if g * 16 + l < 1000 then gainOf X Y r ((w + 32 * i) * 1000 + (g * 16 + l)) else 0) : EReal) := fun l => chunks_eq X Y w r l _
    rw [Finset.sum_congr rfl fun l _ => h1 l, Finset.sum_comm]
    have h2 : Finset.range (nChunks w) = (Finset.range 32).filter fun i => i * 32 + w < 1000 := by
      ext i
      simp only [Finset.mem_filter, Finset.mem_range, nChunks]
      omega
    rw [h2, ← Finset.sum_filter]
    refine Finset.sum_congr rfl fun i _ => ?_
    rw [sum_dealt 16 63 1000 (by norm_num) fun m => gainOf X Y r ((w + 32 * i) * 1000 + m)]
    rw [Nat.mul_comm 32 i, Nat.add_comm w]
  rw [Finset.sum_congr rfl tile, sum_dealt 32 32 1000 (by norm_num) fun c => ∑ m ∈ Finset.range 1000, gainOf X Y r (c * 1000 + m),
    ← sum_blocks 1000 (gainOf X Y r) 1000]

end Cert.Spread

end
-- ==== Proof.Calib.lean ====
/-
  The expected calibration error as plain sums over the rows: per bin the number of rows, the number of hits and the sum of the
  confidences, and the error those make. Rows are numbered; `A n` and `B n` are row `n`'s ten scores and ten labels.
-/
module

public import proofs.«01_k».proof.Proof.Spread

@[expose] public section

noncomputable section

namespace Cert.Calib

open Idealize.ShloMosaic Cert.Lane Cert.Spread
open scoped BigOperators

/-- Does the row fall in bin `k`? -/
def inBin (a : ℕ → Ideal .f32) (k : ℕ) : Prop := live a = 1 ∧ k = (bin a).toNat

open Classical in
/-- The number of rows in bin `k`. -/
def count (A : ℕ → ℕ → Ideal .f32) (k : ℕ) : EReal := ∑ n ∈ Finset.range 1000000, if inBin (A n) k then 1 else 0

open Classical in
/-- The number of rows in bin `k` whose prediction is their label. -/
def hits (A B : ℕ → ℕ → Ideal .f32) (k : ℕ) : EReal := ∑ n ∈ Finset.range 1000000, if inBin (A n) k then (hit (A n) (B n) : EReal) else 0

open Classical in
/-- The sum of the confidences of the rows in bin `k`. -/
def confs (A : ℕ → ℕ → Ideal .f32) (k : ℕ) : EReal := ∑ n ∈ Finset.range 1000000, if inBin (A n) k then (conf (A n) : EReal) else 0

/-- A bin's contribution, from its three sums: the distance of mean confidence and accuracy, weighted by the bin's share of the rows. -/
def weigh (c h p : EReal) : EReal :=
  if 0 < c then max (Ideal.div p (max c 1) - Ideal.div h (max c 1)) (-(Ideal.div p (max c 1) - Ideal.div h (max c 1))) * (c * ((1 / 1000000 : ℝ) : EReal)) else 0

/-- Bin `k`'s contribution. -/
def term (A B : ℕ → ℕ → Ideal .f32) (k : ℕ) : EReal := weigh (count A k) (hits A B k) (confs A k)

/-- The expected calibration error. -/
def error (A B : ℕ → ℕ → Ideal .f32) : EReal := ∑ k ∈ Finset.range 15, term A B k

/-- A live row adds one to its bin's row among the counts. -/
theorem gain_count (a b : ℕ → Ideal .f32) (k : ℕ) (hk : k < 16) [Decidable (inBin a k)] : gain a b k = if inBin a k then 1 else 0 := by
  have hb := bin_lt a
  unfold gain
  by_cases hl : live a = 1
  · by_cases hr : k = (bin a).toNat
    · rw [if_pos hl, if_pos hr, if_pos ⟨hl, hr⟩]
    · rw [if_pos hl, if_neg hr, if_neg (by omega), if_neg (by omega), if_neg (fun h => hr h.2)]
  · rw [if_neg hl, if_neg (fun h => hl h.1)]

/-- A live row adds its hit to its bin's row among the hits. -/
theorem gain_hit (a b : ℕ → Ideal .f32) (k : ℕ) (hk : k < 16) [Decidable (inBin a k)] : gain a b (16 + k) = if inBin a k then hit a b else 0 := by
  have hb := bin_lt a
  unfold gain
  by_cases hl : live a = 1
  · by_cases hr : k = (bin a).toNat
    · rw [if_pos hl, if_neg (by omega), if_pos (by omega), if_pos ⟨hl, hr⟩]
    · rw [if_pos hl, if_neg (by omega), if_neg (by omega), if_neg (by omega), if_neg (fun h => hr h.2)]
  · rw [if_neg hl, if_neg (fun h => hl h.1)]

/-- A live row adds its confidence to its bin's row among the confidences. -/
theorem gain_conf (a b : ℕ → Ideal .f32) (k : ℕ) (hk : k < 16) [Decidable (inBin a k)] : gain a b (32 + k) = if inBin a k then conf a else 0 := by
  have hb := bin_lt a
  unfold gain
  by_cases hl : live a = 1
  · by_cases hr : k = (bin a).toNat
    · rw [if_pos hl, if_neg (by omega), if_neg (by omega), if_pos (by omega), if_pos ⟨hl, hr⟩]
    · rw [if_pos hl, if_neg (by omega), if_neg (by omega), if_neg (by omega), if_neg (fun h => hr h.2)]
  · rw [if_neg hl, if_neg (fun h => hl h.1)]

/-- No row falls in a sixteenth bin. -/
theorem term_last (A B : ℕ → ℕ → Ideal .f32) : term A B 15 = 0 := by
  have h : count A 15 = 0 := Finset.sum_eq_zero fun n _ => if_neg fun h => by
    have := bin_lt (A n); have := h.2; omega
  unfold term weigh
  rw [h, if_neg (lt_irrefl _)]

/-- A table's rows in a flat array: the tiles' total at each row of the accumulator, as the three sums. -/
theorem total_count (X Y : ℕ → Ideal .f32) (k : ℕ) (hk : k < 16) :
    (∑ w ∈ Finset.range 32, ∑ l ∈ Finset.range 16, partials X Y w k l : EReal) = count (rowOf X) k := by
  classical
  rw [partials_sum]
  exact Finset.sum_congr rfl fun n _ => (gain_count _ _ k hk).trans (by congr)

theorem total_hits (X Y : ℕ → Ideal .f32) (k : ℕ) (hk : k < 16) :
    (∑ w ∈ Finset.range 32, ∑ l ∈ Finset.range 16, partials X Y w (16 + k) l : EReal) = hits (rowOf X) (rowOf Y) k := by
  classical
  rw [partials_sum]
  exact Finset.sum_congr rfl fun n _ => (gain_hit _ _ k hk).trans (by congr)

theorem total_confs (X Y : ℕ → Ideal .f32) (k : ℕ) (hk : k < 16) :
    (∑ w ∈ Finset.range 32, ∑ l ∈ Finset.range 16, partials X Y w (32 + k) l : EReal) = confs (rowOf X) k := by
  classical
  rw [partials_sum]
  exact Finset.sum_congr rfl fun n _ => (gain_conf _ _ k hk).trans (by congr)

/-- A bin's three functions read a row's ten words and nothing else. -/
theorem error_congr {A A' B B' : ℕ → ℕ → Ideal .f32} (hA : ∀ n < 1000000, ∀ j ≤ 9, A n j = A' n j) (hB : ∀ n < 1000000, ∀ j ≤ 9, B n j = B' n j) :
    error A B = error A' B' := by
  classical
  have hc : ∀ n < 1000000, conf (A n) = conf (A' n) := fun n hn => by unfold conf; rw [top_congr 9 (hA n hn)]
  have hh : ∀ n < 1000000, hit (A n) (B n) = hit (A' n) (B' n) := fun n hn => by
    unfold hit pred; rw [lead_congr 9 (hA n hn), label_congr 9 (hB n hn)]
  have hin : ∀ n < 1000000, ∀ k, inBin (A n) k = inBin (A' n) k := fun n hn k => by
    unfold inBin live bin; rw [hc n hn]
  unfold error
  refine Finset.sum_congr rfl fun k _ => ?_
  have e1 : count A k = count A' k := Finset.sum_congr rfl fun n hn => by simp only [hin n (Finset.mem_range.mp hn)]
  have e2 : hits A B k = hits A' B' k := Finset.sum_congr rfl fun n hn => by
    simp only [hin n (Finset.mem_range.mp hn), hh n (Finset.mem_range.mp hn)]
  have e3 : confs A k = confs A' k := Finset.sum_congr rfl fun n hn => by
    simp only [hin n (Finset.mem_range.mp hn), hc n (Finset.mem_range.mp hn)]
  unfold term
  rw [e1, e2, e3]

end Cert.Calib

end
-- ==== Proof.KernelValue.lean ====
/-
  The combining kernel's number on extended reals: from the tiles' partial sums it makes the calibration error of the rows they read.
-/
module

public import proofs.«01_k».proof.Proof.Calib
public import proofs.«01_k».proof.Proof.Gen.KernelIdeal.Skeleton
public import Idealize.ShloMosaic.Lib.Pointwise

@[expose] public section

noncomputable section

namespace Cert.Proof.KernelIdeal

open Cert.KernelIdeal Cert.KernelIdeal.Gen Idealize.ShloMosaic Cert.Lane Cert.Calib
open scoped BigOperators

/-- The sum over tiles and lanes, read at one of the forty-eight rows. -/
theorem sum48 (g : ℕ → ℕ → ℕ → EReal) (S : FVec Ideal S32x48x16 .f32) (hS : ∀ i, S i = g (i 0).val (i 1).val (i 2).val) (r : Fin 48) :
    multiReduction .add [0, 2] S48 S 0x00000000#32 reduces_S32x48x16_S48 (.inl rfl) rfl (ix1 r)
      = ∑ w ∈ Finset.range 32, ∑ l ∈ Finset.range 16, g w r.val l := by
  show Ideal.reduceAdd reduces_S32x48x16_S48 S (ix1 r) = _
  unfold Ideal.reduceAdd
  rw [Finset.sum_filter, sum_idx3, Finset.sum_range]
  refine Finset.sum_congr rfl fun w _ => ?_
  have hd : ∀ (b : Fin 48) (l : Fin 16), reduces_S32x48x16_S48.drop (ix3 w b l) = ix1 r ↔ b = r := by
    intro b l
    constructor
    · intro h
      have h0 := congrArg Fin.val (congrFun h 0)
      rw [reduces_S32x48x16_S48.drop_apply_val_of_eq (ix3 w b l) 0 1] at h0
      exact Fin.ext h0
    · rintro rfl
      funext k
      have hk : k = 0 := Subsingleton.elim (α := Fin 1) _ _
      subst hk
      apply Fin.ext
      rw [reduces_S32x48x16_S48.drop_apply_val_of_eq (ix3 w b l) 0 1]
      rfl
  rw [Finset.sum_eq_single r, Finset.sum_range]
  · refine Finset.sum_congr rfl fun l _ => ?_
    rw [if_pos ((hd r l).mpr rfl), hS]
    rfl
  · intro b _ hb
    exact Finset.sum_eq_zero fun l _ => if_neg fun h => hb ((hd b l).mp h)
  · intro h
    exact absurd (Finset.mem_univ r) h

/-- Each bin's contribution, from the forty-eight sums. -/
def gaps (v2 : FVec Ideal S48 .f32) : FVec Ideal S16 .f32 :=
  select (cmpf .ogt (extractStridedSlice S16 ![0] v2 slices_S48_o0_S16) (broadcast S16 (Scalar.ofBits .f32 0x00000000#32)))
    (mulf
      (absf (subf
        (divf (extractStridedSlice S16 ![32] v2 slices_S48_o32_S16)
          (maximumf (extractStridedSlice S16 ![0] v2 slices_S48_o0_S16) (broadcast S16 (Scalar.ofBits .f32 0x3F800000#32))))
        (divf (extractStridedSlice S16 ![16] v2 slices_S48_o16_S16)
          (maximumf (extractStridedSlice S16 ![0] v2 slices_S48_o0_S16) (broadcast S16 (Scalar.ofBits .f32 0x3F800000#32))))))
      (mulf (extractStridedSlice S16 ![0] v2 slices_S48_o0_S16) (broadcast S16 (Named.named κ "inv_n" 0x358637BD#32))))
    (broadcast S16 (Scalar.ofBits .f32 0x00000000#32))

/-- The payload is the sum of the bins' contributions, through its changes of shape. -/
theorem pay_eq (S : Vec Ideal S32x48x16 .f32) : k1_pay1 (F := Ideal) S
    = extractAt ![0, 0] (shapeCast S1x1 (multiReduction .add [1] S1 (shapeCast S1x16
        (gaps (multiReduction .add [0, 2] S48 (shapeCast S32x48x16 S shapeCasts_S32x48x16_S32x48x16) 0x00000000#32 reduces_S32x48x16_S48 (.inl rfl) rfl))
        shapeCasts_S16_S1x16) 0x00000000#32 reduces_S1x16_S1 (.inl rfl) rfl) shapeCasts_S1_S1x1) inpos_S1x1_p0_0 := rfl

/-- The last changes of shape and the last reduction are a plain sum over the bins. -/
theorem tail_eq (v : FVec Ideal S16 .f32) :
    extractAt ![0, 0] (shapeCast S1x1 (multiReduction .add [1] S1 (shapeCast S1x16 v shapeCasts_S16_S1x16) 0x00000000#32 reduces_S1x16_S1 (.inl rfl) rfl)
        shapeCasts_S1_S1x1) inpos_S1x1_p0_0
      = (∑ k : Fin 16, v (ix1 k) : EReal) := by
  unfold extractAt
  rw [Pointwise.shapeCast_apply]
  refine (Ideal.multiReduction_add_total _ _ _ (by decide) _ _ _).trans ?_
  refine Eq.trans ?_ (sum_idx1 (M := EReal) v)
  exact Equiv.sum_comp (Shape.reshapeEquiv shapeCasts_S16_S1x16) v

/-- A slice of sixteen, read at a place. -/
theorem slice16 (o : ℕ) (v : FVec Ideal S48 .f32) (h : S48.Slices ![o] S16) (k : Fin 16) (hk : o + k.val < 48) :
    extractStridedSlice S16 ![o] v h (ix1 k) = v (ix1 ⟨o + k.val, hk⟩) := by
  unfold extractStridedSlice
  refine congrArg v (funext fun a => ?_)
  have ha : a = 0 := Subsingleton.elim (α := Fin 1) _ _
  subst ha
  rfl

/-- A bin's contribution is the weighted distance of its three sums. -/
theorem gaps_apply (v : FVec Ideal S48 .f32) (k : Fin 16) :
    gaps v (ix1 k) = weigh (v (ix1 ⟨0 + k.val, by omega⟩)) (v (ix1 ⟨16 + k.val, by omega⟩)) (v (ix1 ⟨32 + k.val, by omega⟩)) := by
  rw [← slice16 0 v slices_S48_o0_S16 k, ← slice16 16 v slices_S48_o16_S16 k, ← slice16 32 v slices_S48_o32_S16 k]
  unfold gaps
  generalize extractStridedSlice S16 ![0] v slices_S48_o0_S16 = c
  generalize extractStridedSlice S16 ![16] v slices_S48_o16_S16 = h
  generalize extractStridedSlice S16 ![32] v slices_S48_o32_S16 = p
  have hz : Ideal.ofBits .f32 0x00000000#32 = (0 : EReal) := Ideal.ofBits_zero_f32
  have ho : Ideal.ofBits .f32 0x3F800000#32 = (1 : EReal) := Ideal.ofBits_one_f32
  show Scalar.select (BitVec.ofBool (decide (Ideal.ofBits .f32 0x00000000#32 < c (ix1 k))))
      (max (Ideal.div (p (ix1 k)) (max (c (ix1 k)) (Ideal.ofBits .f32 0x3F800000#32)) - Ideal.div (h (ix1 k)) (max (c (ix1 k)) (Ideal.ofBits .f32 0x3F800000#32)))
          (-(Ideal.div (p (ix1 k)) (max (c (ix1 k)) (Ideal.ofBits .f32 0x3F800000#32)) - Ideal.div (h (ix1 k)) (max (c (ix1 k)) (Ideal.ofBits .f32 0x3F800000#32))))
        * (c (ix1 k) * ((1 / 1000000 : ℝ) : EReal)))
      (Ideal.ofBits .f32 0x00000000#32) = _
  rw [hz, ho]
  unfold weigh
  by_cases hc : (0 : EReal) < c (ix1 k)
  · rw [if_pos hc, decide_eq_true hc]; rfl
  · rw [if_neg hc, decide_eq_false hc]; rfl

/-- From the tiles' partial sums the payload makes the calibration error. -/
theorem pay_error (X Y : ℕ → Ideal .f32) (S : Vec Ideal S32x48x16 .f32)
    (hS : ∀ i, S i = partials X Y (i 0).val (i 1).val (i 2).val) : k1_pay1 (F := Ideal) S = error (rowOf X) (rowOf Y) := by
  rw [pay_eq, tail_eq, shapeCast_id]
  unfold error
  rw [← add_zero (∑ k ∈ Finset.range 15, term (rowOf X) (rowOf Y) k), ← term_last (rowOf X) (rowOf Y), ← Finset.sum_range_succ, Finset.sum_range]
  refine Finset.sum_congr rfl fun k _ => ?_
  rw [gaps_apply, sum48 (partials X Y) S hS, sum48 (partials X Y) S hS, sum48 (partials X Y) S hS]
  unfold term
  rw [← total_count X Y k.val k.isLt, ← total_hits X Y k.val k.isLt, ← total_confs X Y k.val k.isLt]
  dsimp only
  rw [Nat.zero_add]

end Cert.Proof.KernelIdeal

end
-- ==== Proof.Rows.lean ====
/-
  One row of data on extended reals: its confidence, its bin, its predicted class and its label, as a tile computes them and as the
  reference does.
-/
module

public import proofs.«01_k».proof.Proof.Lane
public import proofs.«01_k».proof.ReferenceIdeal
public import Idealize.ShloMosaic.PureOps.Ideal.Laws
public import Idealize.ShloMosaic.Lib.IdealHost

@[expose] public section

noncomputable section

namespace Cert.Rows

open Idealize.ShloMosaic Cert.Lane

/-! ## Constants -/

theorem fifteen_eq : Ideal.ofBits .f32 0x41700000#32 = ((15 : ℝ) : EReal) := by
  norm_num [Ideal.ofBits, Ideal.ieee, BitVec.extractLsb', Nat.shiftRight_eq_div_pow]

theorem half_eq : Ideal.ofBits .f32 0x3F000000#32 = (((1 : ℝ) / 2 : ℝ) : EReal) := by
  norm_num [Ideal.ofBits, Ideal.ieee, BitVec.extractLsb', Nat.shiftRight_eq_div_pow]

theorem million_eq : Ideal.ofBits .f32 0x49742400#32 = ((1000000 : ℝ) : EReal) := by
  norm_num [Ideal.ofBits, Ideal.ieee, BitVec.extractLsb', Nat.shiftRight_eq_div_pow]

theorem neg_inf_eq : Ideal.ofBits .f32 0xFF800000#32 = (⊥ : EReal) := by
  simp [Ideal.ofBits, Ideal.ieee]

/-! ## Confidence -/

/-- The logistic function of an extended real is a real between zero and one. -/
theorem logistic_real (x : EReal) : ∃ q : ℝ, 0 ≤ q ∧ q ≤ 1 ∧ Ideal.logistic x = (q : EReal) := by
  induction x with
  | bot => exact ⟨0, le_rfl, zero_le_one, by simp⟩
  | top => exact ⟨1, zero_le_one, le_rfl, by simp⟩
  | coe r =>
    have h := Real.exp_pos (-r)
    refine ⟨(1 + Real.exp (-r))⁻¹, by positivity, inv_le_one_of_one_le₀ (by linarith), by simp⟩

/-- The logistic function is monotone. -/
theorem logistic_mono : Monotone Ideal.logistic := by
  intro x y hxy
  induction y with
  | bot => rw [le_bot_iff.mp hxy]
  | top =>
    obtain ⟨q, _, h1, hq⟩ := logistic_real x
    rw [hq, Ideal.logistic_top]; exact_mod_cast h1
  | coe s =>
    induction x with
    | bot =>
      obtain ⟨q, h0, _, hq⟩ := logistic_real (s : EReal)
      rw [hq, Ideal.logistic_bot]; exact_mod_cast h0
    | top => exact absurd hxy (by simp)
    | coe r =>
      have hrs : r ≤ s := by exact_mod_cast hxy
      rw [Ideal.logistic_coe, Ideal.logistic_coe]
      have h := Real.exp_pos (-s)
      have h' : Real.exp (-s) ≤ Real.exp (-r) := Real.exp_le_exp.mpr (by linarith)
      exact_mod_cast inv_anti₀ (by positivity) (by linarith)

/-- The logistic function reaches one half exactly at the non-negative numbers. -/
theorem half_le_logistic (x : EReal) : (((1 : ℝ) / 2 : ℝ) : EReal) ≤ Ideal.logistic x ↔ 0 ≤ x := by
  have h0 : Ideal.logistic 0 = (((1 : ℝ) / 2 : ℝ) : EReal) := by
    rw [← EReal.coe_zero, Ideal.logistic_coe]; norm_num
  rw [← h0]
  refine ⟨fun h => ?_, fun h => logistic_mono h⟩
  induction x with
  | bot => rw [h0, Ideal.logistic_bot] at h; exact absurd h (by norm_num [← EReal.coe_zero, EReal.coe_le_coe_iff])
  | top => exact le_top
  | coe r =>
    by_contra hr
    have hr' : r < 0 := by simpa using hr
    have he : 1 < Real.exp (-r) := Real.one_lt_exp_iff.mpr (by linarith)
    rw [h0, Ideal.logistic_coe, EReal.coe_le_coe_iff] at h
    have : (1 + Real.exp (-r))⁻¹ < 1 / 2 := by
      rw [inv_lt_comm₀ (by positivity) (by norm_num)]; norm_num; linarith
    linarith

/-- A tile's confidence of a row is the logistic function of its largest score. -/
theorem conf_eq (a : ℕ → Ideal .f32) : conf a = Ideal.logistic (top a 9) := by
  have h1 : (one : Ideal .f32) = (1 : EReal) := Ideal.ofBits_one_f32
  have h0 : (zero : Ideal .f32) = (0 : EReal) := Ideal.ofBits_zero_f32
  unfold conf Ideal.logistic
  simp only [Ideal.divf_def, Ideal.addf_def, Ideal.exp_def, Ideal.subf_def, h1, h0, sub_eq_add_neg, zero_add]

/-- The logistic function of the largest score is the largest of the logistic functions. -/
theorem top_logistic (a : ℕ → Ideal .f32) : ∀ k, top (F := Ideal) (fun j => Ideal.logistic (a j)) k = Ideal.logistic (top a k)
  | 0 => rfl
  | k + 1 => by
    show max _ _ = Ideal.logistic (max _ _)
    rw [top_logistic a k, logistic_mono.map_max]

/-- A maximum taken in order from the least extended real is `top`. -/
theorem foldl_max (p : ℕ → Ideal .f32) : ∀ k,
    (List.range (k + 1)).foldl (fun r j => FloatOps.maximumf r (p j)) (⊥ : EReal) = top p k
  | 0 => by show max (⊥ : EReal) _ = _; exact bot_sup_eq _
  | k + 1 => by
    rw [List.range_succ, List.foldl_append, foldl_max p k]; rfl

/-! ## Bins -/

/-- A whole number from zero to fifteen, clamped to fourteen. -/
theorem clamp_val (z : ℤ) (h0 : 0 ≤ z) (h1 : z ≤ 15) :
    (IntOp.minsi (IntOp.maxsi (BitVec.ofInt 32 z) 0#32) 14#32).toNat = min z.toNat 14 := by
  interval_cases z <;> decide

/-- The bin of a row of confidence `q`. -/
theorem bin_val (a : ℕ → Ideal .f32) (q : ℝ) (h0 : 0 ≤ q) (h1 : q ≤ 1) (hq : conf a = (q : EReal)) :
    (bin a).toNat = min ⌊q * 15⌋.toNat 14 := by
  have hf : (fifteen : Ideal .f32) = ((15 : ℝ) : EReal) := fifteen_eq
  have hz0 : 0 ≤ ⌊q * 15⌋ := Int.floor_nonneg.mpr (by positivity)
  have hz1 : ⌊q * 15⌋ ≤ 15 := by
    have : (⌊q * 15⌋ : ℝ) ≤ q * 15 := Int.floor_le _
    have h2 : (⌊q * 15⌋ : ℝ) ≤ 15 := by linarith
    exact_mod_cast h2
  rw [← clamp_val _ hz0 hz1]
  unfold bin
  rw [hq, hf]
  have e : (FloatOps.mulf (F := Ideal) (φ := .f32) (q : EReal) ((15 : ℝ) : EReal) : EReal) = ((q * 15 : ℝ) : EReal) := (EReal.coe_mul q 15).symm
  have e2 : FloatOps.fptosi (F := Ideal) (φ := .f32) 32 (((q * 15 : ℝ) : EReal)) = BitVec.ofInt 32 ⌊q * 15⌋ := by
    show Ideal.fptosi 32 _ = _
    unfold Ideal.fptosi
    rw [Ideal.toIntClamped_coe, if_pos (by positivity)]
    congr 1
    norm_num
    omega
  rw [e, e2]

/-- Away from the edges the kernel's bins, closed below, are the reference's, closed above. -/
theorem bin_iff (q : ℝ) (h0 : 0 ≤ q) (h1 : q ≤ 1) (off : q * 15 ≤ 0 ∨ 15 ≤ q * 15 ∨ ((⌊q * 15⌋ : ℤ) : ℝ) ≠ q * 15) (k : ℕ) (hk : k < 15) :
    (0 < q ∧ k = min ⌊q * 15⌋.toNat 14) ↔ ((k : ℝ) / 15 < q ∧ q ≤ ((k + 1 : ℕ) : ℝ) / 15) := by
  have hk' : (k : ℝ) ≤ 14 := by exact_mod_cast (by omega : k ≤ 14)
  have hk0 : (0 : ℝ) ≤ k := by positivity
  push_cast
  rw [div_lt_iff₀ (by norm_num), le_div_iff₀ (by norm_num)]
  rcases off with h | h | h
  · have hq : q = 0 := by linarith
    subst hq
    constructor
    · rintro ⟨h, _⟩; exact absurd h (lt_irrefl _)
    · rintro ⟨h, _⟩; exact absurd h (by linarith)
  · have hq : q = 1 := by linarith
    subst hq
    have hfl : ⌊(1 : ℝ) * 15⌋ = 15 := by norm_num
    rw [hfl]
    constructor
    · rintro ⟨_, h⟩
      have : k = 14 := by simpa using h
      subst this; norm_num
    · rintro ⟨_, h⟩
      refine ⟨one_pos, ?_⟩
      have h' : (14 : ℝ) ≤ k := by linarith
      have h'' : 14 ≤ k := by exact_mod_cast h'
      show k = min 15 14
      omega
  · have hfl := Int.floor_le (q * 15)
    have hfu := Int.lt_floor_add_one (q * 15)
    have hlt := lt_of_le_of_ne hfl h
    have hz0 : 0 ≤ ⌊q * 15⌋ := Int.floor_nonneg.mpr (by positivity)
    obtain ⟨z, hz⟩ := Int.eq_ofNat_of_zero_le hz0
    rw [hz] at hfl hfu hlt ⊢
    simp only [Int.toNat_natCast, Int.cast_natCast] at hfl hfu hlt ⊢
    have hz14 : z ≤ 14 := by
      have : (z : ℝ) < 15 := by linarith
      have : z < 15 := by exact_mod_cast this
      omega
    constructor
    · rintro ⟨_, rfl⟩
      rw [min_eq_left hz14]
      exact ⟨hlt, hfu.le⟩
    · rintro ⟨h2, h3⟩
      have hzk : (k : ℝ) < z + 1 := by linarith
      have hkz : (z : ℝ) < k + 1 := by linarith
      have hzk' : k < z + 1 := by exact_mod_cast hzk
      have hkz' : z < k + 1 := by exact_mod_cast hkz
      refine ⟨by nlinarith, ?_⟩
      rw [min_eq_left hz14]; omega

/-! ## Labels and predictions -/

open Cert.ReferenceIdeal (reducer_argmax_f32_i32 reducer_argmax_i32_i32)

/-- Two small numbers compare as words as they do as numbers. -/
theorem slt_ofNat (i k : ℕ) (hi : i ≤ k) (hk : k < 9) : IntOp.cmpi .slt (BitVec.ofNat 32 i) (BitVec.ofNat 32 (k + 1)) = 1#1 := by
  interval_cases k <;> interval_cases i <;> decide

/-- The label after `k` comparisons is one of the places compared. -/
theorem label_le (b : ℕ → Ideal .f32) : ∀ k, ∃ i ≤ k, label b k = BitVec.ofNat 32 i
  | 0 => ⟨0, le_rfl, rfl⟩
  | k + 1 => by
    obtain ⟨i, hi, h⟩ := label_le b k
    rcases eq_or_ne (FloatOps.cmpf (F := Ideal) .ogt (b (k + 1)) (top b k)) 1#1 with hc | hc
    · exact ⟨k + 1, le_rfl, by unfold label; rw [hc]; rfl⟩
    · exact ⟨i, by omega, by
        have : FloatOps.cmpf (F := Ideal) .ogt (b (k + 1)) (top b k) = 0#1 := by
          generalize FloatOps.cmpf (F := Ideal) .ogt (b (k + 1)) (top b k) = v at hc
          revert hc; revert v; decide
        unfold label; rw [this]; exact h⟩

/-- The reference's running largest label and its place are the tile's. -/
theorem foldl_label (b : ℕ → Ideal .f32) : ∀ k < 10,
    (List.range (k + 1)).foldl (fun r j => reducer_argmax_f32_i32 r (b j, BitVec.ofNat 32 j)) ((⊥ : EReal), 0#32) = (top b k, label b k)
  | 0, _ => by
    show reducer_argmax_f32_i32 ((⊥ : EReal), 0#32) (b 0, 0#32) = (b 0, 0#32)
    have h1 : FloatOps.cmpf (F := Ideal) (φ := .f32) .ogt (⊥ : EReal) (b 0) = 0#1 := by
      show BitVec.ofBool (decide (b 0 < ⊥)) = 0#1
      rw [decide_eq_false not_lt_bot]; rfl
    have h2 : FloatOps.cmpf (F := Ideal) (φ := .f32) .une (⊥ : EReal) (⊥ : EReal) = 0#1 := by
      show BitVec.ofBool (decide ((⊥ : EReal) ≠ ⊥)) = 0#1
      rw [decide_eq_false (by simp)]; rfl
    unfold reducer_argmax_f32_i32
    simp only [h1, h2]
    refine Prod.ext rfl ?_
    show Scalar.select _ 0#32 0#32 = 0#32
    unfold Scalar.select; split <;> rfl
  | k + 1, hk => by
    rw [List.range_succ, List.foldl_append, foldl_label b k (by omega)]
    show reducer_argmax_f32_i32 (top b k, label b k) (b (k + 1), BitVec.ofNat 32 (k + 1)) = (max (top b k) (b (k + 1)), label b (k + 1))
    have h2 : FloatOps.cmpf (F := Ideal) (φ := .f32) .une (top b k) (top b k) = 0#1 := by
      show BitVec.ofBool (decide ((top b k : EReal) ≠ top b k)) = 0#1
      rw [decide_eq_false (by simp)]; rfl
    obtain ⟨i, hi, hl⟩ := label_le b k
    have h3 : IntOp.cmpi .slt (label b k) (BitVec.ofNat 32 (k + 1)) = 1#1 := by rw [hl]; exact slt_ofNat i k hi (by omega)
    have hlab : label b (k + 1) = Scalar.select (FloatOps.cmpf (F := Ideal) .ogt (b (k + 1)) (top b k)) (BitVec.ofNat 32 (k + 1)) (label b k) := rfl
    unfold reducer_argmax_f32_i32
    rw [hlab]
    simp only [h2, h3]
    rcases lt_trichotomy (top b k : EReal) (b (k + 1)) with h | h | h
    · have e1 : FloatOps.cmpf (F := Ideal) (φ := .f32) .ogt (top b k) (b (k + 1)) = 0#1 := by
        show BitVec.ofBool (decide _) = _; rw [decide_eq_false (not_lt.mpr h.le)]; rfl
      have e2 : FloatOps.cmpf (F := Ideal) (φ := .f32) .oeq (top b k) (b (k + 1)) = 0#1 := by
        show BitVec.ofBool (decide _) = _; rw [decide_eq_false h.ne]; rfl
      have e3 : FloatOps.cmpf (F := Ideal) (φ := .f32) .ogt (b (k + 1)) (top b k) = 1#1 := by
        show BitVec.ofBool (decide _) = _; rw [decide_eq_true h]; rfl
      simp only [e1, e2, e3]
      exact Prod.ext (max_eq_right h.le).symm rfl
    · have e1 : FloatOps.cmpf (F := Ideal) (φ := .f32) .ogt (top b k) (b (k + 1)) = 0#1 := by
        show BitVec.ofBool (decide _) = _; rw [decide_eq_false (not_lt.mpr h.le)]; rfl
      have e2 : FloatOps.cmpf (F := Ideal) (φ := .f32) .oeq (top b k) (b (k + 1)) = 1#1 := by
        show BitVec.ofBool (decide _) = _; rw [decide_eq_true h]; rfl
      have e3 : FloatOps.cmpf (F := Ideal) (φ := .f32) .ogt (b (k + 1)) (top b k) = 0#1 := by
        show BitVec.ofBool (decide _) = _; rw [decide_eq_false (not_lt.mpr h.ge)]; rfl
      simp only [e1, e2, e3]
      exact Prod.ext (max_eq_right h.le).symm rfl
    · have e1 : FloatOps.cmpf (F := Ideal) (φ := .f32) .ogt (top b k) (b (k + 1)) = 1#1 := by
        show BitVec.ofBool (decide _) = _; rw [decide_eq_true h]; rfl
      have e2 : FloatOps.cmpf (F := Ideal) (φ := .f32) .oeq (top b k) (b (k + 1)) = 0#1 := by
        show BitVec.ofBool (decide _) = _; rw [decide_eq_false h.ne']; rfl
      have e3 : FloatOps.cmpf (F := Ideal) (φ := .f32) .ogt (b (k + 1)) (top b k) = 0#1 := by
        show BitVec.ofBool (decide _) = _; rw [decide_eq_false (not_lt.mpr h.le)]; rfl
      simp only [e1, e2, e3]
      exact Prod.ext (max_eq_left h.le).symm rfl

/-- Whether a score is non-negative, as a word: what the reference takes the first largest of. -/
def up (a : ℕ → Ideal .f32) (j : ℕ) : BitVec 32 := if (0 : EReal) ≤ a j then 1#32 else 0#32

/-- A tile's test of a score. -/
theorem olt_zero (x : Ideal .f32) : FloatOps.cmpf .olt x zero = if (0 : EReal) ≤ x then 0#1 else 1#1 := by
  have h0 : (zero : Ideal .f32) = (0 : EReal) := Ideal.ofBits_zero_f32
  rw [h0]
  show BitVec.ofBool (decide ((x : EReal) < 0)) = _
  split
  · rename_i h; rw [decide_eq_false (not_lt.mpr h)]; rfl
  · rename_i h; rw [decide_eq_true (not_le.mp h)]; rfl

/-- Steps of the reference's running first largest word. -/
theorem first_steps : ∀ k : Fin 9,
    reducer_argmax_i32_i32 (0#32, 0#32) (0#32, BitVec.ofNat 32 (k.val + 1)) = (0#32, 0#32)
    ∧ reducer_argmax_i32_i32 (0#32, 0#32) (1#32, BitVec.ofNat 32 (k.val + 1)) = (1#32, BitVec.ofNat 32 (k.val + 1)) := by decide

theorem first_keeps : ∀ k i : Fin 9, i ≤ k →
    reducer_argmax_i32_i32 (1#32, BitVec.ofNat 32 i.val) (0#32, BitVec.ofNat 32 (k.val + 1)) = (1#32, BitVec.ofNat 32 i.val)
    ∧ reducer_argmax_i32_i32 (1#32, BitVec.ofNat 32 i.val) (1#32, BitVec.ofNat 32 (k.val + 1)) = (1#32, BitVec.ofNat 32 i.val) := by decide

/-- The tile's count of leading negative scores and the reference's running first non-negative score go together. -/
theorem foldl_pred (a : ℕ → Ideal .f32) : ∀ k < 10,
    (negs a k = 1#1 ∧ lead a k = BitVec.ofNat 32 (k + 1)
      ∧ (List.range (k + 1)).foldl (fun r j => reducer_argmax_i32_i32 r (up a j, BitVec.ofNat 32 j)) (2147483648#32, 0#32) = (0#32, 0#32))
    ∨ ∃ i ≤ k, negs a k = 0#1 ∧ lead a k = BitVec.ofNat 32 i
      ∧ (List.range (k + 1)).foldl (fun r j => reducer_argmax_i32_i32 r (up a j, BitVec.ofNat 32 j)) (2147483648#32, 0#32)
          = (1#32, BitVec.ofNat 32 i)
  | 0, _ => by
    show (FloatOps.cmpf .olt (a 0) zero = _ ∧ Scalar.select (FloatOps.cmpf .olt (a 0) zero) 1#32 0#32 = _
        ∧ reducer_argmax_i32_i32 (2147483648#32, 0#32) (up a 0, 0#32) = _)
      ∨ ∃ i ≤ 0, FloatOps.cmpf .olt (a 0) zero = _ ∧ Scalar.select (FloatOps.cmpf .olt (a 0) zero) 1#32 0#32 = _
        ∧ reducer_argmax_i32_i32 (2147483648#32, 0#32) (up a 0, 0#32) = _
    rw [olt_zero]
    unfold up
    split
    · exact .inr ⟨0, le_rfl, rfl, rfl, by decide⟩
    · exact .inl ⟨rfl, rfl, by decide⟩
  | k + 1, hk => by
    have hneg : negs a (k + 1) = IntOp.andi (negs a k) (FloatOps.cmpf .olt (a (k + 1)) zero) := rfl
    have hlead : lead a (k + 1) = IntOp.addi (lead a k) (Scalar.select (negs a (k + 1)) 1#32 0#32) := rfl
    rw [List.range_succ, List.foldl_append]
    rcases foldl_pred a k (by omega) with ⟨h1, h2, h3⟩ | ⟨i, hi, h1, h2, h3⟩
    · rw [h3]
      rw [hlead, hneg, h1, h2, olt_zero]
      show (_ ∧ _ ∧ reducer_argmax_i32_i32 (0#32, 0#32) (up a (k + 1), BitVec.ofNat 32 (k + 1)) = _)
        ∨ ∃ i ≤ k + 1, _ ∧ _ ∧ reducer_argmax_i32_i32 (0#32, 0#32) (up a (k + 1), BitVec.ofNat 32 (k + 1)) = _
      unfold up
      have hs := first_steps ⟨k, by omega⟩
      split
      · exact .inr ⟨k + 1, le_rfl, rfl, BitVec.add_zero _, hs.2⟩
      · exact .inl ⟨rfl, (BitVec.ofNat_add _ _).symm, hs.1⟩
    · rw [h3]
      rw [hlead, hneg, h1, h2, olt_zero]
      have hs := first_keeps ⟨k, by omega⟩ ⟨i, by omega⟩ hi
      refine .inr ⟨i, by omega, ?_⟩
      show _ ∧ _ ∧ reducer_argmax_i32_i32 (1#32, BitVec.ofNat 32 i) (up a (k + 1), BitVec.ofNat 32 (k + 1)) = _
      unfold up
      split
      · exact ⟨rfl, BitVec.add_zero _, hs.2⟩
      · exact ⟨rfl, BitVec.add_zero _, hs.1⟩

/-- The reference's first non-negative score is the tile's. -/
theorem pred_eq (a : ℕ → Ideal .f32) :
    ((List.range 10).foldl (fun r j => reducer_argmax_i32_i32 r (up a j, BitVec.ofNat 32 j)) (2147483648#32, 0#32)).2 = pred a := by
  rcases foldl_pred a 9 (by norm_num) with ⟨_, h2, h3⟩ | ⟨i, hi, _, h2, h3⟩
  · rw [h3]; unfold pred; rw [h2]; decide
  · rw [h3]; unfold pred; rw [h2]
    interval_cases i <;> decide

end Cert.Rows

end
-- ==== Proof.ReferenceRows.lean ====
/-
  The reference's reductions over one row, on extended reals: a row's confidence, prediction and label are those of the tiles' plain
  functions.
-/
module

public import proofs.«01_k».proof.Proof.ReferenceRun
public import proofs.«01_k».proof.Proof.Rows

@[expose] public section

noncomputable section

namespace Cert.Proof.Reference

open Cert.ReferenceIdeal Cert.ReferenceIdeal.Gen Idealize.ShloMosaic Cert.Lane Cert.Rows

/-! ## Reductions along the rows of a table of any extents -/

section Row

variable {N M : ℕ} {α β : Type} {u : Shape}

/-- The entry of row `r` and column `c`. -/
def cell (r : Fin N) (c : Fin M) : (⟨2, ![N, M]⟩ : Shape).Idx := Shape.pair (d := ![N, M]) r c

/-- A fold over the numbers below a bound, as numbers. -/
theorem fold_cols (g : β → ℕ → β) (b : β) : (List.finRange M).foldl (fun r c => g r c.val) b = (List.range M).foldl g b := by
  rw [← List.map_coe_finRange_eq_range, List.foldl_map]

/-- Where an entry lies in row-major order. -/
theorem cell_val (r : Fin N) (c : Fin M) : ((⟨2, ![N, M]⟩ : Shape).rowMajor (cell r c)).val = r.val * M + c.val :=
  Shape.rowMajor_pair_val (d := ![N, M]) r c

/-- The positions of a row, in order. -/
theorem row_positions (r : Fin N) (h : (⟨2, ![N, M]⟩ : Shape).ReducesTo [1] ⟨1, ![N]⟩) :
    (List.finRange (⟨2, ![N, M]⟩ : Shape).numel).filter (fun m => decide (h.drop ((⟨2, ![N, M]⟩ : Shape).rowMajor.symm m) = Shape.ofLane r))
      = (List.finRange M).map fun c => (⟨2, ![N, M]⟩ : Shape).rowMajor (cell r c) := by
  have hd : ∀ i : (⟨2, ![N, M]⟩ : Shape).Idx, (h.drop i 0).val = (i 0).val := fun i => rfl
  refine List.Pairwise.eq_of_mem_iff (r := (· < ·)) ((List.pairwise_lt_finRange _).filter _) ?_ ?_
  · refine List.pairwise_map.mpr ((List.pairwise_lt_finRange _).imp fun {c c'} hc => ?_)
    show (_ : Fin _).val < (_ : Fin _).val
    rw [cell_val, cell_val]
    exact Nat.add_lt_add_left hc _
  · intro m
    refine Iff.trans (List.mem_filter.trans ?_) List.mem_map.symm
    constructor
    · rintro ⟨_, hm⟩
      have hm' := of_decide_eq_true hm
      refine ⟨(⟨2, ![N, M]⟩ : Shape).rowMajor.symm m 1, List.mem_finRange _, ?_⟩
      have hc : r = (⟨2, ![N, M]⟩ : Shape).rowMajor.symm m 0 := Fin.ext (by rw [← hd, hm']; rfl)
      rw [hc]
      exact (congrArg _ (Shape.pair_eta _)).trans (Equiv.apply_symm_apply _ _)
    · rintro ⟨c, _, rfl⟩
      refine ⟨List.mem_finRange _, decide_eq_true (funext fun b => ?_)⟩
      have hb : b = 0 := Subsingleton.elim (α := Fin 1) _ _
      subst hb
      apply Fin.ext
      rw [hd, Equiv.symm_apply_apply]
      rfl

/-- A reduction of one operand along the rows. -/
theorem reduce_row (f : α → α → α) (x : (⟨2, ![N, M]⟩ : Shape).Idx → α) (ix : u.Idx → α) (h : (⟨2, ![N, M]⟩ : Shape).ReducesTo [1] ⟨1, ![N]⟩)
    (hu : 0 < u.numel) (r : Fin N) (p : ℕ → α) (hp : ∀ c : Fin M, x (cell r c) = p c.val) :
    Host.reduce f x ix h hu (Shape.ofLane r) = (List.range M).foldl (fun a c => f a (p c)) (ix (Shape.Idx.first hu)) := by
  unfold Host.reduce
  rw [row_positions, ← fold_cols]
  refine List.foldl_map.trans (congrArg (fun g => List.foldl g _ _) (funext fun a => funext fun c => ?_))
  rw [Equiv.symm_apply_apply]
  exact congrArg (f a) (hp c)

/-- A reduction of two operands along the rows. -/
theorem reduce2_row (f : α × β → α × β → α × β) (x : (⟨2, ![N, M]⟩ : Shape).Idx → α) (y : (⟨2, ![N, M]⟩ : Shape).Idx → β) (ix : u.Idx → α)
    (iy : u.Idx → β) (h : (⟨2, ![N, M]⟩ : Shape).ReducesTo [1] ⟨1, ![N]⟩) (hu : 0 < u.numel) (r : Fin N) (p : ℕ → α) (q : ℕ → β)
    (hp : ∀ c : Fin M, x (cell r c) = p c.val) (hq : ∀ c : Fin M, y (cell r c) = q c.val) :
    Host.reduce2 f x y ix iy h hu (Shape.ofLane r)
      = (List.range M).foldl (fun a c => f a (p c, q c)) (ix (Shape.Idx.first hu), iy (Shape.Idx.first hu)) := by
  unfold Host.reduce2
  rw [row_positions, ← fold_cols]
  refine List.foldl_map.trans (congrArg (fun g => List.foldl g _ _) (funext fun a => funext fun c => ?_))
  rw [Equiv.symm_apply_apply]
  exact congrArg (f a) (Prod.ext (hp c) (hq c))

/-- A reduction that finds the place of a largest entry, along the rows. -/
theorem argReduce_row (f : Ideal .f32 × β → Ideal .f32 × β → Ideal .f32 × β) (x : (⟨2, ![N, M]⟩ : Shape).Idx → Ideal .f32)
    (y : (⟨2, ![N, M]⟩ : Shape).Idx → β) (ix : u.Idx → Ideal .f32) (iy : u.Idx → β) (h : (⟨2, ![N, M]⟩ : Shape).ReducesTo [1] ⟨1, ![N]⟩)
    (hu : 0 < u.numel) (r : Fin N) (p : ℕ → Ideal .f32) (q : ℕ → β)
    (hp : ∀ c : Fin M, x (cell r c) = p c.val) (hq : ∀ c : Fin M, y (cell r c) = q c.val) :
    Host.argReduce (F := Ideal) (φ := .f32) f x y ix iy h hu (Shape.ofLane r)
      = (List.range M).foldl (fun a c => f a (p c, q c)) (ix (Shape.Idx.first hu), iy (Shape.Idx.first hu)) :=
  (congrFun (Ideal.argReduce_eq_reduce2 f x y ix iy h hu) _).trans (reduce2_row f x y ix iy h hu r p q hp hq)

/-- A row of a table (zero past its end), by number. -/
def rowOfTable (x : (⟨2, ![N, M]⟩ : Shape).Idx → Ideal .f32) (n : ℕ) : ℕ → Ideal .f32 := fun j =>
  if h : n < N ∧ j < M then x (cell ⟨n, h.1⟩ ⟨j, h.2⟩) else (0 : EReal)

/-- A table's entry is its row's. -/
theorem rowOfTable_eq (x : (⟨2, ![N, M]⟩ : Shape).Idx → Ideal .f32) (r : Fin N) (c : Fin M) :
    x (cell r c) = rowOfTable x r.val c.val := by
  unfold rowOfTable
  rw [dif_pos ⟨r.isLt, c.isLt⟩]

/-- Column numbers along a row. -/
theorem iota_row (r : Fin N) (c : Fin M) : iotaInDim (⟨2, ![N, M]⟩ : Shape) 32 1 (cell r c) = BitVec.ofNat 32 c.val := rfl

end Row

/-- Row `n` of a table of the problem's extents. -/
abbrev rowAt (x : Vec Ideal S1000000x10 .f32) : ℕ → ℕ → Ideal .f32 := rowOfTable (N := 1000000) (M := 10) x

/-- The reference's sigmoid, entry by entry. -/
theorem probs_apply (x : Vec Ideal S1000000x10 .f32) (i : S1000000x10.Idx) : (probs x i : EReal) = Ideal.logistic (x i) := by
  show Ideal.div (Ideal.ofBits .f32 0x3F800000#32) (Ideal.ofBits .f32 0x3F800000#32 + Ideal.exp (-(x i))) = _
  rw [Ideal.ofBits_one_f32]; rfl

/-- The reference's confidence of a row is the tiles'. -/
theorem confidences_apply (x : Vec Ideal S1000000x10 .f32) (r : Fin 1000000) :
    confidences x (Shape.ofLane r) = Lane.conf (rowAt x r.val) := by
  unfold confidences
  refine (reduce_row (N := 1000000) (M := 10) FloatOps.maximumf (probs x) _ _ _ r (fun j => Ideal.logistic (rowAt x r.val j)) (fun c => ?_)).trans ?_
  · exact (probs_apply x _).trans (congrArg Ideal.logistic (rowOfTable_eq x r c))
  · have e := foldl_max (fun j => Ideal.logistic (rowAt x r.val j)) 9
    rw [top_logistic, ← conf_eq] at e
    rw [← neg_inf_eq] at e
    exact e

-- The reductions over the table are never computed, only rewritten.
attribute [local irreducible] Host.argReduce Host.reduce2

/-- The labels, written out. -/
theorem labelIdx_eq : labelIdx (F := Ideal) = fun y j =>
    (Host.argReduce (F := Ideal) (φ := .f32) reducer_argmax_f32_i32 y (iotaInDim S1000000x10 32 1) (constant S_ .f32 0xFF800000#32) (constantI S_ 32 0#32)
      reducesTo_S1000000x10_S1000000_d1 h_S_ j).2 := by
  delta labelIdx
  exact Eq.refl _

/-- The predictions, written out. -/
theorem predIdx_eq : predIdx (F := Ideal) = fun (p : Vec Ideal S1000000x10 .f32) j =>
    (Host.reduce2 reducer_argmax_i32_i32
      (extui 32 (cmpf (F := Ideal) (φ := .f32) .oge p (broadcastInDim S1000000x10 ![] bcast_S_S1000000x10 (constant S_ .f32 0x3F000000#32))) natLt_1_32)
      (iotaInDim S1000000x10 32 1) (constantI S_ 32 2147483648#32) (constantI S_ 32 0#32)
      reducesTo_S1000000x10_S1000000_d1 h_S_ j).2 := by
  delta predIdx
  exact Eq.refl _

/-- The reference's label of a row is the tiles'. -/
theorem labelIdx_apply (y : Vec Ideal S1000000x10 .f32) (r : Fin 1000000) : labelIdx y (Shape.ofLane r) = Lane.label (rowAt y r.val) 9 := by
  have e := argReduce_row (N := 1000000) (M := 10) reducer_argmax_f32_i32 y (iotaInDim S1000000x10 32 1) (constant S_ .f32 0xFF800000#32) (constantI S_ 32 0#32)
    reducesTo_S1000000x10_S1000000_d1 h_S_ r (rowAt y r.val) (fun j => BitVec.ofNat 32 j) (rowOfTable_eq y r) (iota_row r)
  have hi : (constant (F := Ideal) S_ .f32 0xFF800000#32 (Shape.Idx.first h_S_), constantI S_ 32 0#32 (Shape.Idx.first h_S_))
      = (((⊥ : EReal) : Ideal .f32), 0#32) := Prod.ext neg_inf_eq rfl
  rw [hi, foldl_label (rowAt y r.val) 9 (by norm_num)] at e
  rw [labelIdx_eq]
  beta_reduce
  rw [e]

/-- Whether a sigmoid is at least one half, as a word. -/
theorem half_word (x : EReal) : (FloatOps.cmpf (F := Ideal) (φ := .f32) .oge (Ideal.logistic x) (Ideal.ofBits .f32 0x3F000000#32)).setWidth 32
    = if (0 : EReal) ≤ x then 1#32 else 0#32 := by
  show (BitVec.ofBool (decide (Ideal.ofBits .f32 0x3F000000#32 ≤ Ideal.logistic x))).setWidth 32 = _
  rw [half_eq]
  split
  · rename_i h; rw [decide_eq_true ((half_le_logistic x).mpr h)]; rfl
  · rename_i h; rw [decide_eq_false (fun h' => h ((half_le_logistic x).mp h'))]; rfl

/-- What the reference takes the first largest of, entry by entry. -/
theorem over_half_apply (x : Vec Ideal S1000000x10 .f32) (i : S1000000x10.Idx) :
    extui 32 (cmpf .oge (probs x) (broadcastInDim S1000000x10 ![] bcast_S_S1000000x10 (constant S_ .f32 0x3F000000#32))) natLt_1_32 i
      = if (0 : EReal) ≤ x i then 1#32 else 0#32 := by
  rw [← half_word, ← probs_apply]
  rfl

/-- The reference's prediction for a row is the tiles'. -/
theorem predIdx_apply (x : Vec Ideal S1000000x10 .f32) (r : Fin 1000000) : predIdx (probs x) (Shape.ofLane r) = Lane.pred (rowAt x r.val) := by
  have e := reduce2_row (N := 1000000) (M := 10) reducer_argmax_i32_i32
    (extui 32 (cmpf .oge (probs x) (broadcastInDim S1000000x10 ![] bcast_S_S1000000x10 (constant S_ .f32 0x3F000000#32))) natLt_1_32)
    (iotaInDim S1000000x10 32 1) (constantI S_ 32 2147483648#32) (constantI S_ 32 0#32) reducesTo_S1000000x10_S1000000_d1 h_S_ r (up (rowAt x r.val))
    (fun j => BitVec.ofNat 32 j) (fun c => by rw [over_half_apply x, rowOfTable_eq (N := 1000000) (M := 10) x r c]; rfl) (iota_row r)
  have hi : (constantI S_ 32 2147483648#32 (Shape.Idx.first h_S_), constantI S_ 32 0#32 (Shape.Idx.first h_S_)) = (2147483648#32, 0#32) := rfl
  rw [hi] at e
  rw [predIdx_eq]
  beta_reduce
  rw [e]
  exact pred_eq (rowAt x r.val)

end Cert.Proof.Reference

end
-- ==== Proof.KernelResult.lean ====
/-
  The kernel's result on extended reals is the calibration error of the rows of its two arguments.
-/
module

public import proofs.«01_k».proof.Proof.KernelIdealMain
public import proofs.«01_k».proof.Proof.KernelValue
public import proofs.«01_k».proof.Proof.ReferenceRows

@[expose] public section

noncomputable section

namespace Cert.Proof.KernelIdeal

open Cert.KernelIdeal Cert.KernelIdeal.Gen Idealize.ShloMosaic Cert.Lane Cert.Calib
open Cert.Proof.Reference (cell cell_val rowOfTable rowOfTable_eq rowAt)

/-- A table laid out flat: its word at `r * M + c` is the entry of row `r` and column `c`. -/
theorem flat_apply {N M P : ℕ} {α : Type} (x : (⟨2, ![N, M]⟩ : Shape).Idx → α) (h : (⟨2, ![N, M]⟩ : Shape).ShapeCasts ⟨1, ![P]⟩)
    (i : (⟨1, ![P]⟩ : Shape).Idx) (r : Fin N) (c : Fin M) (hi : (i 0).val = r.val * M + c.val) :
    shapeCast (⟨1, ![P]⟩ : Shape) x h i = x (cell r c) :=
  congrArg x (Shape.reshapeEquiv_eq_of_rowMajor h (((cell_val r c).trans hi.symm).trans (Shape.rowMajor_val_one (d := ![P]) i).symm))

/-- The flat words of a table are its entries. -/
theorem word_flat (x : Vec Ideal S1000000x10 .f32) (n j : ℕ) (hn : n < 1000000) (hj : j ≤ 9) :
    word (F := Ideal) (fun i => shapeCast S10000000 x shapeCasts_S1000000x10_S10000000 i) (n * 10 + j) = rowAt x n j := by
  have hj' : j < 10 := by omega
  have hlt : n * 10 + j < 10000000 := by omega
  unfold word
  rw [dif_pos hlt]
  exact (flat_apply (N := 1000000) (M := 10) (P := 10000000) x shapeCasts_S1000000x10_S10000000 _ ⟨n, hn⟩ ⟨j, hj'⟩ rfl).trans
    (rowOfTable_eq (N := 1000000) (M := 10) x ⟨n, hn⟩ ⟨j, hj'⟩)

/-- The kernel's result is the calibration error of its arguments' rows. -/
theorem result_eq (m : (ℓ : Loc nD τ sig) → Buf (Elt Ideal) ℓ) (d : Dev nD) (i : S1.Idx) :
    result (F := Ideal) m d i = error (rowAt (m (argLoc d))) (rowAt (m (labLoc d))) := by
  have e1 : result (F := Ideal) m d i = k1_pay1 (F := Ideal) (Sd m d) := rfl
  rw [e1, pay_error (word (X m d)) (word (Y m d)) (Sd m d) (fun _ => rfl)]
  exact error_congr (fun n hn j hj => word_flat _ n j hn hj) (fun n hn j hj => word_flat _ n j hn hj)

end Cert.Proof.KernelIdeal

end
-- ==== Proof.ReferenceEdges.lean ====
/-
  The reference's bin edges on extended reals: edge `k` is `k / 15`. And its sums over the rows, as sums over row numbers.
-/
module

public import proofs.«01_k».proof.Proof.ReferenceRows
public import Idealize.ShloMosaic.Lib.Pointwise

@[expose] public section

noncomputable section

namespace Cert.Proof.Reference

open Cert.ReferenceIdeal Cert.ReferenceIdeal.Gen Idealize.ShloMosaic Cert.Lane Cert.Rows
open scoped BigOperators

/-- The computed fraction is `k / 15`. -/
theorem fifteenths_apply (k : Fin 15) : fifteenths (F := Ideal) (ix1 k) = (((k.val : ℝ) / 15 : ℝ) : EReal) := by
  have hk : ((BitVec.ofNat 32 k.val).toInt : ℝ) = (k.val : ℝ) := by
    have e : ∀ k : Fin 15, (BitVec.ofNat 32 k.val).toInt = (k.val : ℤ) := by decide
    rw [e k]; norm_cast
  show Ideal.div (((BitVec.ofNat 32 k.val).toInt : ℝ) : EReal) (Ideal.ofBits .f32 0x41700000#32) = _
  rw [hk, fifteen_eq, Ideal.div_coe (by norm_num), ← EReal.coe_mul]
  congr 1
  ring

/-- Fifteen values then one, read at a place. -/
theorem joinEdges_apply (a : Vec Ideal S15 .f32) (b : Vec Ideal S1 .f32) (k : ℕ) (hk : k < 16) :
    joinEdges a b (ix1 ⟨k, hk⟩) = if h : k < 15 then a (ix1 ⟨k, h⟩) else b (ix1 0) := by
  unfold joinEdges
  rw [concatenate_pair_apply]
  by_cases h : k < 15
  · rw [dif_pos h]
    split
    · exact congrArg a (eq_ix1 _)
    · rename_i h'; exact absurd h h'
  · rw [dif_neg h]
    split
    · rename_i h'; exact absurd h' h
    · refine congrArg b (funext fun i => ?_)
      have hi : i = 0 := Subsingleton.elim (α := Fin 1) _ _
      subst hi
      exact Subsingleton.elim (α := Fin 1) _ _

/-- One edge is the entry of the sixteen at its place. -/
theorem edge_apply (e : Vec Ideal S16 .f32) (k : ℕ) (h : S16.Slices ![k] S1) (hk : k < 16) (j : S_.Idx) :
    edge e k h j = e (ix1 ⟨k, hk⟩) := by
  unfold edge
  rw [Pointwise.shapeCast_apply]
  generalize Shape.reshapeEquiv shapeCasts_S1_S_ j = i
  unfold extractStridedSlice
  refine congrArg e (funext fun a => ?_)
  have ha : a = 0 := Subsingleton.elim (α := Fin 1) _ _
  subst ha
  have hi : (i 0).val = 0 := Nat.lt_one_iff.mp (i 0).isLt
  refine Fin.ext ?_
  show k + (i 0).val = k
  rw [hi, Nat.add_zero]

/-- Edge `k` is `k / 15`. -/
theorem binEdges_apply (k : ℕ) (hk : k < 16) : binEdges (F := Ideal) (ix1 ⟨k, hk⟩) = (((k : ℝ) / 15 : ℝ) : EReal) := by
  have hz : Ideal.ofBits .f32 0x00000000#32 = (0 : EReal) := Ideal.ofBits_zero_f32
  have ho : Ideal.ofBits .f32 0x3F800000#32 = (1 : EReal) := Ideal.ofBits_one_f32
  unfold binEdges
  rw [joinEdges_apply]
  by_cases h : k < 15
  · rw [dif_pos h]
    show Ideal.ofBits .f32 0x00000000#32 * (Ideal.ofBits .f32 0x3F800000#32 - fifteenths (F := Ideal) (ix1 ⟨k, h⟩))
      + Ideal.ofBits .f32 0x3F800000#32 * fifteenths (F := Ideal) (ix1 ⟨k, h⟩) = _
    rw [hz, ho, fifteenths_apply, zero_mul, zero_add, one_mul]
  · rw [dif_neg h]
    show Ideal.ofBits .f32 0x3F800000#32 = _
    have e : k = 15 := by omega
    subst e
    rw [ho]
    norm_num

/-- A sum over the places of a vector is a sum over its place numbers. -/
theorem sum_rows {N : ℕ} (v : (⟨1, ![N]⟩ : Shape).Idx → EReal) (f : ℕ → EReal) (h : ∀ r : Fin N, v (Shape.ofLane r) = f r.val) :
    ∑ i, v i = ∑ n ∈ Finset.range N, f n := by
  rw [sum_idx1, Finset.sum_range]
  refine Finset.sum_congr rfl fun r _ => ?_
  rw [← h r]
  refine congrArg v (funext fun a => ?_)
  have ha : a = 0 := Subsingleton.elim (α := Fin 1) _ _
  subst ha
  rfl

/-- The reference's sum over the rows, by row number. -/
theorem total_apply (v : Vec Ideal S1000000 .f32) (f : ℕ → EReal) (h : ∀ r : Fin 1000000, v (Shape.ofLane r) = f r.val) (j : S_.Idx) :
    total v j = ∑ n ∈ Finset.range 1000000, f n := by
  unfold total
  refine (Ideal.hostReduceAdd_total reducesTo_S1000000_S_d0 (fun b => b.elim0) v _ j).trans ?_
  have hz : constant (F := Ideal) S_ .f32 0x00000000#32 (Shape.Idx.first h_S_) = (0 : EReal) := Ideal.ofBits_zero_f32
  rw [hz, zero_add]
  exact sum_rows (N := 1000000) v f h

end Cert.Proof.Reference

end
-- ==== Proof.ReferenceValue.lean ====
/-
  The reference's result on extended reals is the calibration error of its arguments' rows, wherever no confidence lies on an inner
  bin edge.
-/
module

public import proofs.«01_k».proof.Proof.ReferenceEdges
public import proofs.«01_k».proof.Proof.Calib

@[expose] public section

noncomputable section

namespace Cert.Proof.Reference

open Cert.ReferenceIdeal Cert.ReferenceIdeal.Gen Idealize.ShloMosaic Cert.Lane Cert.Rows Cert.Calib
open scoped BigOperators

-- The reductions over the table are never computed, only rewritten.
attribute [local irreducible] Host.reduce Host.argReduce Host.reduce2

/-- The row's confidence is not on an inner bin edge. -/
def offEdge (a : ℕ → Ideal .f32) : Prop :=
  ∀ q : ℝ, Lane.conf a = (q : EReal) → q * 15 ≤ 0 ∨ 15 ≤ q * 15 ∨ ((⌊q * 15⌋ : ℤ) : ℝ) ≠ q * 15

/-- A confidence is a real between zero and one. -/
theorem conf_real (a : ℕ → Ideal .f32) : ∃ q : ℝ, 0 ≤ q ∧ q ≤ 1 ∧ Lane.conf a = (q : EReal) := by
  rw [conf_eq]
  exact logistic_real _

/-- A row counts exactly when its confidence is positive. -/
theorem live_iff (a : ℕ → Ideal .f32) (q : ℝ) (hq : Lane.conf a = (q : EReal)) : live a = 1 ↔ 0 < q := by
  have hz : (Lane.zero : Ideal .f32) = (0 : EReal) := Ideal.ofBits_zero_f32
  unfold live
  rw [hq, hz]
  show BitVec.ofBool (decide ((0 : EReal) < (q : EReal))) = 1 ↔ _
  by_cases h : 0 < q
  · rw [decide_eq_true (EReal.coe_pos.mpr h)]; exact ⟨fun _ => h, fun _ => rfl⟩
  · rw [decide_eq_false (fun h' => h (EReal.coe_pos.mp h'))]; exact ⟨fun h' => absurd h' (by decide), fun h' => absurd h' h⟩

/-- Off the edges a row is in the kernel's bin `k` exactly when its confidence is between the reference's edges. -/
theorem inBin_iff (a : ℕ → Ideal .f32) (ha : offEdge a) (q : ℝ) (h0 : 0 ≤ q) (h1 : q ≤ 1) (hq : Lane.conf a = (q : EReal)) (k : ℕ) (hk : k < 15) :
    inBin a k ↔ ((k : ℝ) / 15 < q ∧ q ≤ ((k + 1 : ℕ) : ℝ) / 15) := by
  rw [← bin_iff q h0 h1 (ha q hq) k hk]
  unfold inBin
  rw [live_iff a q hq, bin_val a q h0 h1 hq]

/-- A row's membership between two edges, from the three numbers compared. -/
theorem members_val (c : Vec Ideal S1000000 .f32) (lo hi : Vec Ideal S_ .f32) (j : S1000000.Idx) (q u v : ℝ) (hc : c j = (q : EReal))
    (hl : ∀ i, lo i = (u : EReal)) (hh : ∀ i, hi i = (v : EReal)) [Decidable (u < q ∧ q ≤ v)] :
    members c lo hi j = if u < q ∧ q ≤ v then (1 : EReal) else 0 := by
  have e1 : broadcastInDim S1000000 ![] bcast_S_S1000000 lo j = (u : EReal) := hl _
  have e2 : broadcastInDim S1000000 ![] bcast_S_S1000000 hi j = (v : EReal) := hh _
  unfold members
  generalize broadcastInDim S1000000 ![] bcast_S_S1000000 lo = L at e1 ⊢
  generalize broadcastInDim S1000000 ![] bcast_S_S1000000 hi = H at e2 ⊢
  show (((IntOp.andi (BitVec.ofBool (decide ((L j : EReal) < c j))) (BitVec.ofBool (decide ((c j : EReal) ≤ H j)))).toNat : ℝ) : EReal) = _
  rw [e1, e2, hc]
  by_cases h1 : u < q
  · rw [decide_eq_true (EReal.coe_lt_coe_iff.mpr h1)]
    by_cases h2 : q ≤ v
    · rw [decide_eq_true (EReal.coe_le_coe_iff.mpr h2), if_pos ⟨h1, h2⟩]
      exact congrArg (fun t : ℝ => (t : EReal)) (Nat.cast_one (R := ℝ))
    · rw [decide_eq_false (fun h => h2 (EReal.coe_le_coe_iff.mp h)), if_neg (fun h => h2 h.2)]
      norm_num [IntOp.andi]
  · rw [decide_eq_false (fun h => h1 (EReal.coe_lt_coe_iff.mp h)), if_neg (fun h => h1 h.1)]
    by_cases h2 : q ≤ v
    · rw [decide_eq_true (EReal.coe_le_coe_iff.mpr h2)]
      norm_num [IntOp.andi]
    · rw [decide_eq_false (fun h => h2 (EReal.coe_le_coe_iff.mp h))]
      norm_num [IntOp.andi]

/-- The reference's membership of a row in bin `k`. -/
theorem members_apply (x : Vec Ideal S1000000x10 .f32) (k : ℕ) (hk : k < 15) (hi : S16.Slices ![k] S1) (hj : S16.Slices ![k + 1] S1)
    (r : Fin 1000000) (ha : offEdge (rowAt x r.val)) [Decidable (inBin (rowAt x r.val) k)] :
    members (confidences x) (edge binEdges k hi) (edge binEdges (k + 1) hj) (Shape.ofLane r)
      = if inBin (rowAt x r.val) k then (1 : EReal) else 0 := by
  classical
  obtain ⟨q, h0, h1, hq⟩ := conf_real (rowAt x r.val)
  rw [members_val _ _ _ _ q _ _ ((confidences_apply x r).trans hq)
    (fun i => (edge_apply _ k hi (by omega) i).trans (binEdges_apply k (by omega)))
    (fun i => (edge_apply _ (k + 1) hj (by omega) i).trans (binEdges_apply (k + 1) (by omega)))]
  exact if_congr (inBin_iff _ ha q h0 h1 hq k hk).symm rfl rfl

/-- Whether a row's prediction is its label, as one or zero. -/
theorem agree_apply (x y : Vec Ideal S1000000x10 .f32) (r : Fin 1000000) :
    uitofp (F := Ideal) .f32 (agree x y) (Shape.ofLane r) = hit (rowAt x r.val) (rowAt y r.val) := by
  have hz : (Lane.zero : Ideal .f32) = (0 : EReal) := Ideal.ofBits_zero_f32
  have ho : (Lane.one : Ideal .f32) = (1 : EReal) := Ideal.ofBits_one_f32
  have e1 := predIdx_apply x r
  have e2 := labelIdx_apply y r
  unfold agree hit
  rw [← e1, ← e2, hz, ho]
  generalize predIdx (probs x) = p
  generalize labelIdx y = l
  show (((IntOp.cmpi .eq (p (Shape.ofLane r)) (l (Shape.ofLane r))).toNat : ℝ) : EReal) = _
  generalize IntOp.cmpi .eq (p (Shape.ofLane r)) (l (Shape.ofLane r)) = b
  have hb : b = 0#1 ∨ b = 1#1 := by revert b; decide
  rcases hb with rfl | rfl
  · rw [Scalar.select, if_neg (by decide)]; norm_num
  · rw [Scalar.select, if_pos (by decide)]; norm_num

/-- A millionth of an extended real is positive exactly when it is. -/
theorem share_pos (t : EReal) : 0 < t * ((1 / 1000000 : ℝ) : EReal) ↔ 0 < t := by
  induction t with
  | bot => rw [EReal.bot_mul_coe_of_pos (by norm_num)]
  | top => rw [EReal.top_mul_coe_of_pos (by norm_num)]
  | coe r =>
    rw [← EReal.coe_mul, EReal.coe_pos, EReal.coe_pos]
    constructor
    · intro h; linarith
    · intro h; linarith

/-- One bin's contribution, from its three sums. -/
def binOf (t h p : Vec Ideal S_ .f32) : Vec Ideal S_ .f32 :=
  select (cmpf (F := Ideal) (φ := .f32) .ogt (Host.divf t (constant S_ .f32 0x49742400#32)) (constant S_ .f32 0x00000000#32))
    (mulf (F := Ideal) (φ := .f32)
      (Host.absf (subf (Host.divf p (maximumf t (constant S_ .f32 0x3F800000#32))) (Host.divf h (maximumf t (constant S_ .f32 0x3F800000#32)))))
      (Host.divf t (constant S_ .f32 0x49742400#32)))
    (constant (F := Ideal) S_ .f32 0x00000000#32)

/-- A bin's contribution is made of its three sums. -/
theorem binTerm_eq (c a mem : Vec Ideal S1000000 .f32) :
    binTerm c a mem = binOf (total mem) (total (F := Ideal) (mulf (F := Ideal) (φ := .f32) a mem)) (total (F := Ideal) (mulf (F := Ideal) (φ := .f32) c mem)) := by
  delta binTerm binOf
  exact Eq.refl _

/-- A bin's contribution is the weighted distance of its three sums. -/
theorem binOf_apply (t h p : Vec Ideal S_ .f32) (j : S_.Idx) : binOf t h p j = weigh (t j) (h j) (p j) := by
  have hz : Ideal.ofBits .f32 0x00000000#32 = (0 : EReal) := Ideal.ofBits_zero_f32
  have ho : Ideal.ofBits .f32 0x3F800000#32 = (1 : EReal) := Ideal.ofBits_one_f32
  show Scalar.select (BitVec.ofBool (decide (Ideal.ofBits .f32 0x00000000#32 < Ideal.div (t j) (Ideal.ofBits .f32 0x49742400#32))))
      (max (Ideal.div (p j) (max (t j) (Ideal.ofBits .f32 0x3F800000#32)) - Ideal.div (h j) (max (t j) (Ideal.ofBits .f32 0x3F800000#32)))
          (-(Ideal.div (p j) (max (t j) (Ideal.ofBits .f32 0x3F800000#32)) - Ideal.div (h j) (max (t j) (Ideal.ofBits .f32 0x3F800000#32))))
        * Ideal.div (t j) (Ideal.ofBits .f32 0x49742400#32))
      (Ideal.ofBits .f32 0x00000000#32) = _
  rw [hz, ho, million_eq, Ideal.div_coe (by norm_num : (1000000 : ℝ) ≠ 0)]
  unfold weigh
  by_cases hc : (0 : EReal) < t j
  · rw [if_pos hc, decide_eq_true ((share_pos _).mpr hc)]; rfl
  · rw [if_neg hc, decide_eq_false (fun h' => hc ((share_pos _).mp h'))]; rfl

/-- A number times an indicator. -/
theorem masked (p : Prop) [Decidable p] (z : EReal) : z * (if p then (1 : EReal) else 0) = if p then z else 0 := by
  split
  · rw [mul_one]
  · rw [mul_zero]

/-- The sum of a quantity over the rows that an indicator marks. -/
theorem total_masked (c mem : Vec Ideal S1000000 .f32) (g : ℕ → EReal) (P : ℕ → Prop) [DecidablePred P]
    (hc : ∀ r : Fin 1000000, c (Shape.ofLane r) = g r.val) (hm : ∀ r : Fin 1000000, mem (Shape.ofLane r) = if P r.val then (1 : EReal) else 0) (j : S_.Idx) :
    total (F := Ideal) (mulf (F := Ideal) (φ := .f32) c mem) j = ∑ n ∈ Finset.range 1000000, if P n then g n else 0 :=
  total_apply _ (fun n => if P n then g n else 0)
    (fun r => (congrArg₂ (fun s t : EReal => s * t) (hc r) (hm r)).trans (masked (P r.val) (g r.val))) j

open Classical in
/-- One bin's contribution is that of the plain sums. -/
theorem bin_term (x y : Vec Ideal S1000000x10 .f32) (hx : ∀ r : Fin 1000000, offEdge (rowAt x r.val)) (k : ℕ) (hk : k < 15)
    (hi : S16.Slices ![k] S1) (hj : S16.Slices ![k + 1] S1) (j : S_.Idx) :
    binTerm (confidences x) (uitofp (F := Ideal) .f32 (agree x y)) (members (confidences x) (edge binEdges k hi) (edge binEdges (k + 1) hj)) j
      = term (rowAt x) (rowAt y) k := by
  have hm := fun r => members_apply x k hk hi hj r (hx r)
  have e1 := total_apply _ (fun n => if inBin (rowAt x n) k then (1 : EReal) else 0) hm j
  have e2 := total_masked _ _ (fun n => hit (rowAt x n) (rowAt y n)) (fun n => inBin (rowAt x n) k) (agree_apply x y) hm j
  have e3 := total_masked _ _ (fun n => Lane.conf (rowAt x n)) (fun n => inBin (rowAt x n) k) (confidences_apply x) hm j
  rw [binTerm_eq, binOf_apply, e1, e2, e3]
  unfold term Calib.count hits confs
  rfl

/-- The running error is the sum of the contributions so far. -/
theorem eceUpTo_apply (x y : Vec Ideal S1000000x10 .f32) (hx : ∀ r : Fin 1000000, offEdge (rowAt x r.val)) (i : S1.Idx) :
    ∀ (k : ℕ) (hk : k ≤ 15), eceUpTo x y k hk i = ∑ n ∈ Finset.range k, term (rowAt x) (rowAt y) n
  | 0, _ => Ideal.ofBits_zero_f32
  | k + 1, hk => by
    rw [Finset.sum_range_succ, ← eceUpTo_apply x y hx i k (by omega)]
    have e : ∀ j, binTerm (confidences x) (uitofp (F := Ideal) .f32 (agree x y)) (members (confidences x) (edge binEdges k (slice_at k (by omega)))
        (edge binEdges (k + 1) (slice_at (k + 1) (by omega)))) j = term (rowAt x) (rowAt y) k :=
      bin_term x y hx k (by omega) _ _
    rw [eceUpTo]
    unfold addBin
    generalize binTerm (confidences x) (uitofp (F := Ideal) .f32 (agree x y)) (members (confidences x) (edge binEdges k (slice_at k (by omega)))
        (edge binEdges (k + 1) (slice_at (k + 1) (by omega)))) = b at e ⊢
    generalize eceUpTo x y k (by omega) = p
    exact congrArg (fun z : EReal => p i + z) (e _)

/-- The reference's result is the calibration error of its arguments' rows. -/
theorem ece_eq (x y : Vec Ideal S1000000x10 .f32) (hx : ∀ r : Fin 1000000, offEdge (rowAt x r.val)) (i : S1.Idx) :
    ece x y i = error (rowAt x) (rowAt y) := eceUpTo_apply x y hx i 15 le_rfl

end Cert.Proof.Reference

end
-- ==== Proof.Equal.lean ====
/-
  The idealized kernel and the reference compute the same number, wherever no row's confidence lies on an inner bin edge.
-/
module

public import proofs.«01_k».proof.Proof.Frames
public import proofs.«01_k».proof.Proof.KernelResult
public import proofs.«01_k».proof.Proof.ReferenceValue

@[expose] public section

noncomputable section

namespace Cert.Proof

open Idealize.ShloMosaic Idealize.SL.Sem
open Cert.Proof.Reference (rowAt offEdge confidences_apply)

/-- What the precondition asks of the confidences `c`, entry by entry, at any arithmetic. -/
def asked {F : FTy → Type} [FloatOps F] (c : FVec F Cert.Pre_off_edges.S1000000 .f32) : IVec Cert.Pre_off_edges.S1000000 1 :=
  let s := mulf c (broadcastInDim Cert.Pre_off_edges.S1000000 ![] Cert.Pre_off_edges.Facts.bcast_S_S1000000 (constant Cert.Pre_off_edges.S_ .f32 0x41700000#32))
  ori (ori (cmpf .ole s (broadcastInDim Cert.Pre_off_edges.S1000000 ![] Cert.Pre_off_edges.Facts.bcast_S_S1000000 (constant Cert.Pre_off_edges.S_ .f32 0x00000000#32)))
      (cmpf .oge s (broadcastInDim Cert.Pre_off_edges.S1000000 ![] Cert.Pre_off_edges.Facts.bcast_S_S1000000 (constant Cert.Pre_off_edges.S_ .f32 0x41700000#32))))
    (cmpf .une (Host.floor s) s)

/-- The precondition asks it of the reference's confidences. -/
theorem pre_eq (x y : Vec Ideal Cert.ReferenceIdeal.S1000000x10 .f32) :
    Cert.Pre_off_edges.fn (F := Ideal) x y = asked (F := Ideal) (Reference.confidences (F := Ideal) x) := by
  delta Cert.Pre_off_edges.fn Reference.confidences Reference.probs
  exact Eq.refl _

/-- What is asked of one confidence. -/
theorem asked_apply (c : FVec Ideal Cert.Pre_off_edges.S1000000 .f32) (j : Cert.Pre_off_edges.S1000000.Idx) (q : EReal) (hq : c j = q) :
    asked (F := Ideal) c j
      = IntOp.ori (IntOp.ori
          (BitVec.ofBool (decide (q * Ideal.ofBits .f32 0x41700000#32 ≤ Ideal.ofBits .f32 0x00000000#32)))
          (BitVec.ofBool (decide (Ideal.ofBits .f32 0x41700000#32 ≤ q * Ideal.ofBits .f32 0x41700000#32))))
        (BitVec.ofBool (decide (Ideal.liftRound Int.floor (q * Ideal.ofBits .f32 0x41700000#32)
          ≠ q * Ideal.ofBits .f32 0x41700000#32))) := by
  subst hq
  rfl

/-- Where the precondition holds no row's confidence is on an inner edge. -/
theorem off_of_pre (x y : Vec Ideal Cert.ReferenceIdeal.S1000000x10 .f32) (h : Cert.Pre_off_edges.fn (F := Ideal) x y = fun _ => 1#1) (r : Fin 1000000) :
    offEdge (rowAt x r.val) := by
  intro q hq
  have hz : Ideal.ofBits .f32 0x00000000#32 = (0 : EReal) := Ideal.ofBits_zero_f32
  have hj := (asked_apply (Reference.confidences (F := Ideal) x) (Shape.ofLane r) (q : EReal) ((confidences_apply x r).trans hq)).symm.trans
    ((congrFun (pre_eq x y) (Shape.ofLane r)).symm.trans (congrFun h (Shape.ofLane r)))
  rw [hz, Rows.fifteen_eq, ← EReal.coe_mul, Ideal.liftRound_coe] at hj
  by_contra hn
  rw [not_or, not_or, not_not] at hn
  obtain ⟨h1, h2, h3⟩ := hn
  rw [decide_eq_false (fun h' => h1 (EReal.coe_nonpos.mp h')), decide_eq_false (fun h' => h2 (EReal.coe_le_coe_iff.mp h')), h3,
    decide_eq_false (fun h' => h' rfl)] at hj
  exact absurd hj (by decide)

/-- Equal arguments, no confidence on an inner edge: the same result, and the arguments as they were. -/
theorem equal : Cert.algebraic_KernelIdeal_ReferenceIdeal_pre_off_edges := by
  intro m g m' g' hpre hin
  refine ⟨fun c => KernelIdeal.result m c, ?_, ?_⟩
  · exact (θ_run Cert.KernelIdeal.defs _ _).mono (fun _ h => h.1) (KernelIdeal.run_main (F := Ideal) m g)
  · refine (θ_run Cert.ReferenceIdeal.defs _ _).mono (fun r h c => ⟨?_, (h c).2⟩) (Reference.run (F := Ideal) m' g')
    rw [(h c).1]
    funext i
    refine (Reference.ece_eq _ _ ?_ i).trans ?_
    · rw [(hin c).1]
      exact off_of_pre _ _ (hpre c)
    · rw [(hin c).1, (hin c).2]
      exact (KernelIdeal.result_eq m c i).symm

end Cert.Proof

end
-- ==== Proof.lean ====
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The claims, in their order. -/
theorem claim : Cert.Claim := ⟨Cert.Kernel.Gen.facts, Cert.KernelIdeal.Gen.facts, Cert.ReferenceIdeal.Gen.facts, preFacts,
  frame_kernel, frame_ideal, frame_ideal_pre, frame_reference, frame_reference_pre, preserves, equal⟩

end Cert.Proof

end
